-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "scale" .f32 0x3E38AA3B#32 ((8⁻¹ * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v46) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v29_0)) (v1 : (c : Dev Cert.Kernel4Ideal.nD) → Buf (Elt Ideal) ((c.tc : Thread Cert.Kernel4Ideal.nD Cert.Kernel4Ideal.τ).loc Cert.Kernel4Ideal.main_v29_1)) (v2 : (c : Dev Cert.Kernel4Ideal.nD) → Buf (Elt Ideal) ((c.tc : Thread Cert.Kernel4Ideal.nD Cert.Kernel4Ideal.τ).loc Cert.Kernel4Ideal.main_v29_2)) (v3 : (c : Dev Cert.Kernel4Ideal.nD) → Buf (Elt Ideal) ((c.tc : Thread Cert.Kernel4Ideal.nD Cert.Kernel4Ideal.τ).loc Cert.Kernel4Ideal.main_v29_3)) (v4 : (c : Dev Cert.Kernel4Ideal.nD) → Buf (Elt Ideal) ((c.tc : Thread Cert.Kernel4Ideal.nD Cert.Kernel4Ideal.τ).loc Cert.Kernel4Ideal.main_v29_4)) (v5 : (c : Dev Cert.Kernel4Ideal.nD) → Buf (Elt Ideal) ((c.tc : Thread Cert.Kernel4Ideal.nD Cert.Kernel4Ideal.τ).loc Cert.Kernel4Ideal.main_v29_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29_0) = v0 c
          ∧ r.2.mem ((c.tc : Thread Cert.Kernel4Ideal.nD Cert.Kernel4Ideal.τ).loc Cert.Kernel4Ideal.main_v29_1) = v1 c
          ∧ r.2.mem ((c.tc : Thread Cert.Kernel4Ideal.nD Cert.Kernel4Ideal.τ).loc Cert.Kernel4Ideal.main_v29_2) = v2 c
          ∧ r.2.mem ((c.tc : Thread Cert.Kernel4Ideal.nD Cert.Kernel4Ideal.τ).loc Cert.Kernel4Ideal.main_v29_3) = v3 c
          ∧ r.2.mem ((c.tc : Thread Cert.Kernel4Ideal.nD Cert.Kernel4Ideal.τ).loc Cert.Kernel4Ideal.main_v29_4) = v4 c
          ∧ r.2.mem ((c.tc : Thread Cert.Kernel4Ideal.nD Cert.Kernel4Ideal.τ).loc Cert.Kernel4Ideal.main_v29_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v84) = v0 c
          ∧ r.2.mem ((c.tc : Thread Cert.Reference4Ideal.nD Cert.Reference4Ideal.τ).loc Cert.Reference4Ideal.main_v85) = v1 c
          ∧ r.2.mem ((c.tc : Thread Cert.Reference4Ideal.nD Cert.Reference4Ideal.τ).loc Cert.Reference4Ideal.main_v86) = v2 c
          ∧ r.2.mem ((c.tc : Thread Cert.Reference4Ideal.nD Cert.Reference4Ideal.τ).loc Cert.Reference4Ideal.main_v87) = v3 c
          ∧ r.2.mem ((c.tc : Thread Cert.Reference4Ideal.nD Cert.Reference4Ideal.τ).loc Cert.Reference4Ideal.main_v88) = v4 c
          ∧ r.2.mem ((c.tc : Thread Cert.Reference4Ideal.nD Cert.Reference4Ideal.τ).loc Cert.Reference4Ideal.main_v89) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16x2048x1024 : Shape := ⟨3, ![16, 2048, 1024]⟩
abbrev S16x2048x128 : Shape := ⟨3, ![16, 2048, 128]⟩
abbrev S16 : Shape := ⟨1, ![16]⟩
abbrev S16x128x256 : Shape := ⟨3, ![16, 128, 256]⟩
abbrev S2x1024x1024 : Shape := ⟨3, ![2, 1024, 1024]⟩
abbrev S1024 : Shape := ⟨1, ![1024]⟩
abbrev S16x6144 : Shape := ⟨2, ![16, 6144]⟩
abbrev S4x1024x2816 : Shape := ⟨3, ![4, 1024, 2816]⟩
abbrev S4x2816x1024 : Shape := ⟨3, ![4, 2816, 1024]⟩
abbrev S_ : Shape := ⟨0, ![]⟩

class Facts : Prop where
  bcast_S_S16x2048x1024 : S_.BroadcastsInDim S16x2048x1024 (![] : Fin 0 → Fin S16x2048x1024.rank)
  bcast_S_S16x2048x128 : S_.BroadcastsInDim S16x2048x128 (![] : Fin 0 → Fin S16x2048x128.rank)
  bcast_S_S16 : S_.BroadcastsInDim S16 (![] : Fin 0 → Fin S16.rank)
  bcast_S_S16x128x256 : S_.BroadcastsInDim S16x128x256 (![] : Fin 0 → Fin S16x128x256.rank)

variable [Facts]

def fn {F : FTy → Type} [FloatOps F] (main_arg0 : FVec F S16x2048x1024 .f32) (main_arg1 : FVec F S16x2048x128 .f32) (main_arg2 : FVec F S16x2048x128 .f32) (main_arg3 : FVec F S16 .f32) (main_arg4 : FVec F S16x128x256 .f32) (main_arg5 : FVec F S2x1024x1024 .f32) (main_arg6 : FVec F S1024 .f32) (main_arg7 : FVec F S16x2048x1024 .f32) (main_arg8 : FVec F S1024 .f32) (main_arg9 : FVec F S16x6144 .f32) (main_arg10 : FVec F S4x1024x2816 .f32) (main_arg11 : FVec F S4x1024x2816 .f32) (main_arg12 : FVec F S4x2816x1024 .f32) (main_arg13 : FVec F S1024 .f32) : IVec S16x2048x1024 1 × IVec S16x2048x128 1 × IVec S16 1 × IVec S16x128x256 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S16x2048x128 .f32 := Host.absf main_arg1
  let main_cst_0 : FVec F S_ .f32 := constant S_ .f32 0x7F800000#32
  let main_v4 : FVec F S16x2048x128 .f32 := broadcastInDim S16x2048x128 ![] bcast_S_S16x2048x128 main_cst_0
  let main_v5 : IVec S16x2048x128 1 := cmpf .olt main_v3 main_v4
  let main_v6 : FVec F S16 .f32 := Host.absf main_arg3
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  let main_v9 : FVec F S16x128x256 .f32 := Host.absf main_arg4
  let main_cst_2 : FVec F S_ .f32 := constant S_ .f32 0x7F800000#32
  let main_v10 : FVec F S16x128x256 .f32 := broadcastInDim S16x128x256 ![] bcast_S_S16x128x256 main_cst_2
  let main_v11 : IVec S16x128x256 1 := cmpf .olt main_v9 main_v10
  (main_v2, main_v5, main_v8, main_v11)
-- ==== Kernel.lean ====
abbrev S16x2048x1024 : Shape := ⟨3, ![16, 2048, 1024]⟩
abbrev S16x2048x128 : Shape := ⟨3, ![16, 2048, 128]⟩
abbrev S16 : Shape := ⟨1, ![16]⟩
abbrev S16x128x256 : Shape := ⟨3, ![16, 128, 256]⟩
abbrev S2x1024x1024 : Shape := ⟨3, ![2, 1024, 1024]⟩
abbrev S1024 : Shape := ⟨1, ![1024]⟩
abbrev S16x6144 : Shape := ⟨2, ![16, 6144]⟩
abbrev S4x1024x2816 : Shape := ⟨3, ![4, 1024, 2816]⟩
abbrev S4x2816x1024 : Shape := ⟨3, ![4, 2816, 1024]⟩
abbrev S16x1024 : Shape := ⟨2, ![16, 1024]⟩
abbrev S16x1x1024 : Shape := ⟨3, ![16, 1, 1024]⟩
abbrev S_ : Shape := ⟨0, ![]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x128x256 : Shape := ⟨4, ![16, 1, 128, 256]⟩
abbrev S16x2x128x256 : Shape := ⟨4, ![16, 2, 128, 256]⟩
abbrev S2x4x2x2x128x256 : Shape := ⟨6, ![2, 4, 2, 2, 128, 256]⟩
abbrev S2x2x4x128x2x256 : Shape := ⟨6, ![2, 2, 4, 128, 2, 256]⟩
abbrev S2x2x512x512 : Shape := ⟨4, ![2, 2, 512, 512]⟩
abbrev S1x1024 : Shape := ⟨2, ![1, 1024]⟩
abbrev S1x16 : Shape := ⟨2, ![1, 16]⟩
abbrev S1x512x1024 : Shape := ⟨3, ![1, 512, 1024]⟩
abbrev S1x128x128 : Shape := ⟨3, ![1, 128, 128]⟩
abbrev S1x512x128 : Shape := ⟨3, ![1, 512, 128]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S2x512x1024 : Shape := ⟨3, ![2, 512, 1024]⟩
abbrev S128x1024 : Shape := ⟨2, ![128, 1024]⟩
abbrev S1x128x1024 : Shape := ⟨3, ![1, 128, 1024]⟩
abbrev S128x128 : Shape := ⟨2, ![128, 128]⟩
abbrev S512x128 : Shape := ⟨2, ![512, 128]⟩
abbrev S640x128 : Shape := ⟨2, ![640, 128]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S256x128 : Shape := ⟨2, ![256, 128]⟩
abbrev S512x512 : Shape := ⟨2, ![512, 512]⟩
abbrev S1x1x512x512 : Shape := ⟨4, ![1, 1, 512, 512]⟩
abbrev S1x1 : Shape := ⟨2, ![1, 1]⟩
abbrev S128x512 : Shape := ⟨2, ![128, 512]⟩
abbrev S1x128x512 : Shape := ⟨3, ![1, 128, 512]⟩

abbrev nBuf : Space → Nat
  | .hbm => 93
  | .vmem => 31
  | .smem => 1
  | _ => 0

abbrev bufTy : (tb : Table) → Fin (tcTables nBuf tb) → BufTy
  | .hbm, ⟨0, _⟩ => ⟨S16x2048x1024, .f32⟩
  | .hbm, ⟨1, _⟩ => ⟨S16x2048x128, .f32⟩
  | .hbm, ⟨2, _⟩ => ⟨S16x2048x128, .f32⟩
  | .hbm, ⟨3, _⟩ => ⟨S16, .f32⟩
  | .hbm, ⟨4, _⟩ => ⟨S16x128x256, .f32⟩
  | .hbm, ⟨5, _⟩ => ⟨S2x1024x1024, .f32⟩
  | .hbm, ⟨6, _⟩ => ⟨S1024, .f32⟩
  | .hbm, ⟨7, _⟩ => ⟨S16x2048x1024, .f32⟩
  | .hbm, ⟨8, _⟩ => ⟨S1024, .f32⟩
  | .hbm, ⟨9, _⟩ => ⟨S16x6144, .f32⟩
  | .hbm, ⟨10, _⟩ => ⟨S4x1024x2816, .f32⟩
  | .hbm, ⟨11, _⟩ => ⟨S4x1024x2816, .f32⟩
  | .hbm, ⟨12, _⟩ => ⟨S4x2816x1024, .f32⟩
  | .hbm, ⟨13, _⟩ => ⟨S1024, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S16x1024, .f32⟩
  | .hbm, ⟨20, _⟩ => ⟨S16x1x1024, .f32⟩
  | .hbm, ⟨21, _⟩ => ⟨S16x1x1024, .f32⟩
  | .hbm, ⟨22, _⟩ => ⟨S16x1x1024, .f32⟩
  | .hbm, ⟨23, _⟩ => ⟨S16x1x1024, .f32⟩
  | .hbm, ⟨24, _⟩ => ⟨S16x1x1024, .f32⟩
  | .hbm, ⟨25, _⟩ => ⟨S16x1x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16x2048x1024, .f32⟩
  | .hbm, ⟨34, _⟩ => ⟨S16x2048x1024, .f32⟩
  | .hbm, ⟨35, _⟩ => ⟨S16x2048x1024, .bf16⟩
  | .hbm, ⟨36, _⟩ => ⟨S16x2048x128, .bf16⟩
  | .hbm, ⟨37, _⟩ => ⟨S16x2048x128, .bf16⟩
  | .hbm, ⟨38, _⟩ => ⟨S128, .i32⟩
  | .hbm, ⟨39, _⟩ => ⟨S128x1, .i32⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S256, .i32⟩
  | .hbm, ⟨44, _⟩ => ⟨S1x256, .i32⟩
  | .hbm, ⟨45, _⟩ => ⟨S128x256, .i32⟩
  | .hbm, ⟨46, _⟩ => ⟨S128x256, .i32⟩
  | .hbm, ⟨47, _⟩ => ⟨S128x256, .i32⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S128x256, .i1⟩
  | .hbm, ⟨55, _⟩ => ⟨S256, .i32⟩
  | .hbm, ⟨56, _⟩ => ⟨S1x256, .i32⟩
  | .hbm, ⟨57, _⟩ => ⟨S_, .i32⟩
  | .hbm, ⟨58, _⟩ => ⟨S1x256, .i32⟩
  | .hbm, ⟨59, _⟩ => ⟨S1x256, .i1⟩
  | .hbm, ⟨60, _⟩ => ⟨S_, .f32⟩
  | .hbm, ⟨61, _⟩ => ⟨S16x128x256, .f32⟩
  | .hbm, ⟨62, _⟩ => ⟨S16x128x256, .f32⟩
  | .hbm, ⟨63, _⟩ => ⟨S_, .f32⟩
  | .hbm, ⟨64, _⟩ => ⟨S_, .f32⟩
  | .hbm, ⟨65, _⟩ => ⟨S16x128x256, .i1⟩
  | .hbm, ⟨66, _⟩ => ⟨S16x128x256, .f32⟩
  | .hbm, ⟨67, _⟩ => ⟨S16x128x256, .f32⟩
  | .hbm, ⟨68, _⟩ => ⟨S128x256, .i1⟩
  | .hbm, ⟨69, _⟩ => ⟨S128x256, .i1⟩
  | .hbm, ⟨70, _⟩ => ⟨S_, .f32⟩
  | .hbm, ⟨71, _⟩ => ⟨S16x128x256, .f32⟩
  | .hbm, ⟨72, _⟩ => ⟨S16x128x256, .f32⟩
  | .hbm, ⟨73, _⟩ => ⟨S_, .f32⟩
  | .hbm, ⟨74, _⟩ => ⟨S_, .f32⟩
  | .hbm, ⟨75, _⟩ => ⟨S16x128x256, .i1⟩
  | .hbm, ⟨76, _⟩ => ⟨S16x128x256, .f32⟩
  | .hbm, ⟨77, _⟩ => ⟨S16x128x256, .f32⟩
  | .hbm, ⟨78, _⟩ => ⟨S16x1x128x256, .f32⟩
  | .hbm, ⟨79, _⟩ => ⟨S16x1x128x256, .f32⟩
  | .hbm, ⟨80, _⟩ => ⟨S16x2x128x256, .f32⟩
  | .hbm, ⟨81, _⟩ => ⟨S2x4x2x2x128x256, .f32⟩
  | .hbm, ⟨82, _⟩ => ⟨S2x2x4x128x2x256, .f32⟩
  | .hbm, ⟨83, _⟩ => ⟨S2x2x512x512, .f32⟩
  | .hbm, ⟨84, _⟩ => ⟨S2x1024x1024, .bf16⟩
  | .hbm, ⟨85, _⟩ => ⟨S1x1024, .f32⟩
  | .hbm, ⟨86, _⟩ => ⟨S1x1024, .f32⟩
  | .hbm, ⟨87, _⟩ => ⟨S4x1024x2816, .bf16⟩
  | .hbm, ⟨88, _⟩ => ⟨S4x1024x2816, .bf16⟩
  | .hbm, ⟨89, _⟩ => ⟨S4x2816x1024, .bf16⟩
  | .hbm, ⟨90, _⟩ => ⟨S1x1024, .f32⟩
  | .hbm, ⟨91, _⟩ => ⟨S1x16, .f32⟩
  | .hbm, ⟨92, _⟩ => ⟨S16x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x128x128, .bf16⟩
  | .local _ .vmem, ⟨3, _⟩ => ⟨S1x128x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x512x128, .bf16⟩
  | .local _ .vmem, ⟨9, _⟩ => ⟨S1x512x128, .bf16⟩
  | .local _ .vmem, ⟨10, _⟩ => ⟨S2x2x512x512, .f32⟩
  | .local _ .vmem, ⟨11, _⟩ => ⟨S1x1024x1024, .bf16⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1024x2816, .bf16⟩
  | .local _ .vmem, ⟨25, _⟩ => ⟨S1x1024x2816, .bf16⟩
  | .local _ .vmem, ⟨26, _⟩ => ⟨S1x2816x1024, .bf16⟩
  | .local _ .vmem, ⟨27, _⟩ => ⟨S1x1024, .f32⟩
  | .local _ .vmem, ⟨28, _⟩ => ⟨S1x512x1024, .f32⟩
  | .local _ .vmem, ⟨29, _⟩ => ⟨S1x512x1024, .f32⟩
  | .local _ .vmem, ⟨30, _⟩ => ⟨S2x512x1024, .bf16⟩
  | .local _ .smem, ⟨0, _⟩ => ⟨S1x16, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_2 : Ref sig .tc := ⟨.hbm, 48, rfl⟩
abbrev main_v30 : Ref sig .tc := ⟨.hbm, 49, rfl⟩
abbrev main_v31 : Ref sig .tc := ⟨.hbm, 50, rfl⟩
abbrev main_c_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![65], ![false]⟩

@[reducible] def k0_t1_loop (i : grid0.Coords) : Scf.Loop 32 :=
  let c0_i32_2 : BitVec 32 := 0#32
  let arg0 : BitVec 32 := BitVec.ofNat 32 (i 0).val
  let c0_i32 : BitVec 32 := 0#32
  let v1 : BitVec 1 := Scalar.cmpi .eq arg0 c0_i32
  let c4_i32 : BitVec 32 := 4#32
  let c0_i32_0 : BitVec 32 := 0#32
  let v2 : BitVec 32 := Scalar.select v1 c4_i32 c0_i32_0
  let v3 : BitVec 32 := Scalar.subi v2 c0_i32_2
  let c1_i32_3 : BitVec 32 := 1#32
  let v5 : BitVec 32 := Scalar.divsi v3 c1_i32_3
  let v6 : BitVec 32 := Scalar.muli v5 c1_i32_3
  let v7 : BitVec 32 := Scalar.addi c0_i32_2 v6
  let c1_i32_4 : BitVec 32 := 1#32
  ⟨c0_i32_2, v7, c1_i32_4⟩
def k0_mult1 (i : grid0.Coords) (k0_t1 : Fin (k0_t1_loop i).trips) : BitVec 32 :=
  let c0_i32_2 : BitVec 32 := 0#32
  let c1_i32_4 : BitVec 32 := 1#32
  let arg22 : BitVec 32 := Scf.iv c0_i32_2 c1_i32_4 k0_t1
  let c128_i32 : BitVec 32 := 128#32
  let v1871 : BitVec 32 := Scalar.muli arg22 c128_i32
  v1871
def k0_off1 (i : grid0.Coords) (k0_t1 : Fin (k0_t1_loop i).trips) : Fin 3 → Nat :=
  let c1_657 : Index := 1#32
  let c0_i32_2 : BitVec 32 := 0#32
  let c1_i32_4 : BitVec 32 := 1#32
  let arg22 : BitVec 32 := Scf.iv c0_i32_2 c1_i32_4 k0_t1
  let c128_i32 : BitVec 32 := 128#32
  let v1871 : BitVec 32 := Scalar.muli arg22 c128_i32
  let v1872 : BitVec 32 := v1871
  let v1873 : Index := Scalar.indexCast v1872
  let c0_658 : Index := 0#32
  ![1, v1873.toNat, 0]
@[reducible] def k0_t2_loop (i : grid0.Coords) : Scf.Loop 32 :=
  let c0_i32_2 : BitVec 32 := 0#32
  let arg0 : BitVec 32 := BitVec.ofNat 32 (i 0).val
  let c0_i32 : BitVec 32 := 0#32
  let v1 : BitVec 1 := Scalar.cmpi .eq arg0 c0_i32
  let c4_i32 : BitVec 32 := 4#32
  let c0_i32_0 : BitVec 32 := 0#32
  let v2 : BitVec 32 := Scalar.select v1 c4_i32 c0_i32_0
  let v3 : BitVec 32 := Scalar.subi v2 c0_i32_2
  let c1_i32_3 : BitVec 32 := 1#32
  let v5 : BitVec 32 := Scalar.divsi v3 c1_i32_3
  let v6 : BitVec 32 := Scalar.muli v5 c1_i32_3
  let v7 : BitVec 32 := Scalar.addi c0_i32_2 v6
  let v4 : BitVec 32 := Scalar.addi c0_i32_2 v3
  let c1_i32_5 : BitVec 32 := 1#32
  ⟨v7, v4, c1_i32_5⟩
def k0_mult2 (i : grid0.Coords) (k0_t2 : Fin (k0_t2_loop i).trips) : BitVec 32 :=
  let c0_i32_2 : BitVec 32 := 0#32
  let arg0 : BitVec 32 := BitVec.ofNat 32 (i 0).val
  let c0_i32 : BitVec 32 := 0#32
  let v1 : BitVec 1 := Scalar.cmpi .eq arg0 c0_i32
  let c4_i32 : BitVec 32 := 4#32
  let c0_i32_0 : BitVec 32 := 0#32
  let v2 : BitVec 32 := Scalar.select v1 c4_i32 c0_i32_0
  let v3 : BitVec 32 := Scalar.subi v2 c0_i32_2
  let c1_i32_3 : BitVec 32 := 1#32
  let v5 : BitVec 32 := Scalar.divsi v3 c1_i32_3
  let v6 : BitVec 32 := Scalar.muli v5 c1_i32_3
  let v7 : BitVec 32 := Scalar.addi c0_i32_2 v6
  let c1_i32_5 : BitVec 32 := 1#32
  let arg22 : BitVec 32 := Scf.iv v7 c1_i32_5 k0_t2
  let c128_i32 : BitVec 32 := 128#32
  let v1871 : BitVec 32 := Scalar.muli arg22 c128_i32
  v1871
def k0_off2 (i : grid0.Coords) (k0_t2 : Fin (k0_t2_loop i).trips) : Fin 3 → Nat :=
  let c1_657 : Index := 1#32
  let c0_i32_2 : BitVec 32 := 0#32
  let arg0 : BitVec 32 := BitVec.ofNat 32 (i 0).val
  let c0_i32 : BitVec 32 := 0#32
  let v1 : BitVec 1 := Scalar.cmpi .eq arg0 c0_i32
  let c4_i32 : BitVec 32 := 4#32
  let c0_i32_0 : BitVec 32 := 0#32
  let v2 : BitVec 32 := Scalar.select v1 c4_i32 c0_i32_0
  let v3 : BitVec 32 := Scalar.subi v2 c0_i32_2
  let c1_i32_3 : BitVec 32 := 1#32
  let v5 : BitVec 32 := Scalar.divsi v3 c1_i32_3
  let v6 : BitVec 32 := Scalar.muli v5 c1_i32_3
  let v7 : BitVec 32 := Scalar.addi c0_i32_2 v6
  let c1_i32_5 : BitVec 32 := 1#32
  let arg22 : BitVec 32 := Scf.iv v7 c1_i32_5 k0_t2
  let c128_i32 : BitVec 32 := 128#32
  let v1871 : BitVec 32 := Scalar.muli arg22 c128_i32
  let v1872 : BitVec 32 := v1871
  let v1873 : Index := Scalar.indexCast v1872
  let c0_658 : Index := 0#32
  ![1, v1873.toNat, 0]
def k0_off3 (i : grid0.Coords) : Fin 3 → Nat :=
  let c1_i32_30 : BitVec 32 := 1#32
  let arg0 : BitVec 32 := BitVec.ofNat 32 (i 0).val
  let c1_i32 : BitVec 32 := 1#32
  let v0 : BitVec 32 := Scalar.andi arg0 c1_i32
  let v54 : BitVec 32 := Scalar.subi c1_i32_30 v0
  let v55 : Index := Scalar.indexCast v54
  let c0_31 : Index := 0#32
  let c0_32 : Index := 0#32
  ![v55.toNat, 0, 0]
def k0_off4 (i : grid0.Coords) : Fin 4 → Nat :=
  let arg0 : BitVec 32 := BitVec.ofNat 32 (i 0).val
  let c63_i32 : BitVec 32 := 63#32
  let v8 : BitVec 32 := Scalar.minsi arg0 c63_i32
  let c4_i32_6 : BitVec 32 := 4#32
  let v9 : BitVec 32 := Scalar.remsi v8 c4_i32_6
  let c0_i32_7 : BitVec 32 := 0#32
  let v10 : BitVec 1 := Scalar.cmpi .eq v9 c0_i32_7
  let c1_i32_191 : BitVec 32 := 1#32
  let c0_i32_192 : BitVec 32 := 0#32
  let v274 : BitVec 32 := Scalar.select v10 c1_i32_191 c0_i32_192
  let v286 : Index := Scalar.indexCast v274
  let c0_197 : Index := 0#32
  let c0_198 : Index := 0#32
  let c0_199 : Index := 0#32
  ![v286.toNat, 0, 0, 0]
def k0_off5 (i : grid0.Coords) : Fin 3 → Nat :=
  let arg0 : BitVec 32 := BitVec.ofNat 32 (i 0).val
  let c1_i32 : BitVec 32 := 1#32
  let v0 : BitVec 32 := Scalar.andi arg0 c1_i32
  let v471 : Index := Scalar.indexCast v0
  let c0_243 : Index := 0#32
  let c0_244 : Index := 0#32
  ![v471.toNat, 0, 0]
def k0_off6 (i : grid0.Coords) : Fin 4 → Nat :=
  let arg0 : BitVec 32 := BitVec.ofNat 32 (i 0).val
  let c63_i32 : BitVec 32 := 63#32
  let v8 : BitVec 32 := Scalar.minsi arg0 c63_i32
  let c4_i32_6 : BitVec 32 := 4#32
  let v9 : BitVec 32 := Scalar.remsi v8 c4_i32_6
  let c0_i32_7 : BitVec 32 := 0#32
  let v10 : BitVec 1 := Scalar.cmpi .eq v9 c0_i32_7
  let c1_i32_245 : BitVec 32 := 1#32
  let c0_i32_246 : BitVec 32 := 0#32
  let v475 : BitVec 32 := Scalar.select v10 c1_i32_245 c0_i32_246
  let v487 : Index := Scalar.indexCast v475
  let c1_251 : Index := 1#32
  let c0_252 : Index := 0#32
  let c0_253 : Index := 0#32
  ![v487.toNat, 1, 0, 0]
def k0_off7 (i : grid0.Coords) : Fin 3 → Nat :=
  let arg0 : BitVec 32 := BitVec.ofNat 32 (i 0).val
  let c1_i32 : BitVec 32 := 1#32
  let v0 : BitVec 32 := Scalar.andi arg0 c1_i32
  let v672 : Index := Scalar.indexCast v0
  let c0_296 : Index := 0#32
  let c512_297 : Index := 512#32
  ![v672.toNat, 0, 512]
def k0_off8 (i : grid0.Coords) : Fin 3 → Nat :=
  let arg0 : BitVec 32 := BitVec.ofNat 32 (i 0).val
  let c1_i32 : BitVec 32 := 1#32
  let v0 : BitVec 32 := Scalar.andi arg0 c1_i32
  let v871 : Index := Scalar.indexCast v0
  let c128_355 : Index := 128#32
  let c0_356 : Index := 0#32
  ![v871.toNat, 128, 0]
def k0_off9 (i : grid0.Coords) : Fin 3 → Nat :=
  let arg0 : BitVec 32 := BitVec.ofNat 32 (i 0).val
  let c1_i32 : BitVec 32 := 1#32
  let v0 : BitVec 32 := Scalar.andi arg0 c1_i32
  let v1070 : Index := Scalar.indexCast v0
  let c128_415 : Index := 128#32
  let c512_416 : Index := 512#32
  ![v1070.toNat, 128, 512]
def k0_off10 (i : grid0.Coords) : Fin 3 → Nat :=
  let arg0 : BitVec 32 := BitVec.ofNat 32 (i 0).val
  let c1_i32 : BitVec 32 := 1#32
  let v0 : BitVec 32 := Scalar.andi arg0 c1_i32
  let v1269 : Index := Scalar.indexCast v0
  let c256_475 : Index := 256#32
  let c0_476 : Index := 0#32
  ![v1269.toNat, 256, 0]
def k0_off11 (i : grid0.Coords) : Fin 3 → Nat :=
  let arg0 : BitVec 32 := BitVec.ofNat 32 (i 0).val
  let c1_i32 : BitVec 32 := 1#32
  let v0 : BitVec 32 := Scalar.andi arg0 c1_i32
  let v1468 : Index := Scalar.indexCast v0
  let c256_535 : Index := 256#32
  let c512_536 : Index := 512#32
  ![v1468.toNat, 256, 512]
def k0_off12 (i : grid0.Coords) : Fin 3 → Nat :=
  let arg0 : BitVec 32 := BitVec.ofNat 32 (i 0).val
  let c1_i32 : BitVec 32 := 1#32
  let v0 : BitVec 32 := Scalar.andi arg0 c1_i32
  let v1667 : Index := Scalar.indexCast v0
  let c384_594 : Index := 384#32
  let c0_595 : Index := 0#32
  ![v1667.toNat, 384, 0]
def k0_off13 (i : grid0.Coords) : Fin 3 → Nat :=
  let arg0 : BitVec 32 := BitVec.ofNat 32 (i 0).val
  let c1_i32 : BitVec 32 := 1#32
  let v0 : BitVec 32 := Scalar.andi arg0 c1_i32
  let v1866 : Index := Scalar.indexCast v0
  let c384_654 : Index := 384#32
  let c512_655 : Index := 512#32
  ![v1866.toNat, 384, 512]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c63_i32_10 : BitVec 32 := 63#32
  let v28 : BitVec 32 := Scalar.minsi arg0 c63_i32_10
  let c4_i32_11 : BitVec 32 := 4#32
  let v29 : BitVec 32 := Scalar.divsi v28 c4_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c4_i32_11 c0_i32_14
  let v36 : BitVec 32 := Scalar.extui v35
  let c0_i32_15 : BitVec 32 := 0#32
  let v37 : BitVec 1 := Scalar.cmpi .slt c4_i32_11 c0_i32_15
  let v38 : BitVec 32 := Scalar.extui v37
  let v39 : BitVec 32 := Scalar.subi v36 v38
  let v40 : BitVec 1 := Scalar.cmpi .ne v34 v39
  let v41 : BitVec 32 := Scalar.remsi v28 c4_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c4_i32_18 : BitVec 32 := 4#32
  let c0_i32_19 : BitVec 32 := 0#32
  let v46 : BitVec 1 := Scalar.cmpi .eq c4_i32_18 c0_i32_19
  let c1_i32_20 : BitVec 32 := 1#32
  let v47 : BitVec 32 := Scalar.select v46 c1_i32_20 c4_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c4_i32_24 : BitVec 32 := 4#32
  let v56 : BitVec 32 := Scalar.muli v55 c4_i32_24
  let c1_i32_25 : BitVec 32 := 1#32
  let v57 : BitVec 32 := Scalar.subi v56 c1_i32_25
  let c0_i32_26 : BitVec 32 := 0#32
  let v58 : BitVec 32 := Scalar.maxsi v57 c0_i32_26
  let c0_i32_27 : BitVec 32 := 0#32
  let c0_i32_28 : BitVec 32 := 0#32
  ![v17.toNat, v58.toNat, c0_i32_27.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_4 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c63_i32_10 : BitVec 32 := 63#32
  let v28 : BitVec 32 := Scalar.minsi arg0 c63_i32_10
  let c4_i32_11 : BitVec 32 := 4#32
  let v29 : BitVec 32 := Scalar.divsi v28 c4_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c4_i32_11 c0_i32_14
  let v36 : BitVec 32 := Scalar.extui v35
  let c0_i32_15 : BitVec 32 := 0#32
  let v37 : BitVec 1 := Scalar.cmpi .slt c4_i32_11 c0_i32_15
  let v38 : BitVec 32 := Scalar.extui v37
  let v39 : BitVec 32 := Scalar.subi v36 v38
  let v40 : BitVec 1 := Scalar.cmpi .ne v34 v39
  let v41 : BitVec 32 := Scalar.remsi v28 c4_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c4_i32_18 : BitVec 32 := 4#32
  let c0_i32_19 : BitVec 32 := 0#32
  let v46 : BitVec 1 := Scalar.cmpi .eq c4_i32_18 c0_i32_19
  let c1_i32_20 : BitVec 32 := 1#32
  let v47 : BitVec 32 := Scalar.select v46 c1_i32_20 c4_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c4_i32_24 : BitVec 32 := 4#32
  let v56 : BitVec 32 := Scalar.muli v55 c4_i32_24
  let c1_i32_25 : BitVec 32 := 1#32
  let v57 : BitVec 32 := Scalar.subi v56 c1_i32_25
  let c0_i32_26 : BitVec 32 := 0#32
  let v58 : BitVec 32 := Scalar.maxsi v57 c0_i32_26
  let c0_i32_27 : BitVec 32 := 0#32
  let c0_i32_28 : BitVec 32 := 0#32
  ![v17.toNat, v58.toNat, c0_i32_27.toNat]

def cc0_transform_5 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, c0_i32_12.toNat, c0_i32_13.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, c0_i32_12.toNat, c0_i32_13.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, c0_i32_12.toNat, c0_i32_13.toNat]

def cc0_transform_14 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, c0_i32_12.toNat, c0_i32_13.toNat]

def cc0_transform_15 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_17 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x2x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024x2816 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024x2816 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16x2048x1024 : Shape := ⟨3, ![16, 2048, 1024]⟩
abbrev S16x2048x128 : Shape := ⟨3, ![16, 2048, 128]⟩
abbrev S16 : Shape := ⟨1, ![16]⟩
abbrev S16x128x256 : Shape := ⟨3, ![16, 128, 256]⟩
abbrev S2x1024x1024 : Shape := ⟨3, ![2, 1024, 1024]⟩
abbrev S1024 : Shape := ⟨1, ![1024]⟩
abbrev S16x6144 : Shape := ⟨2, ![16, 6144]⟩
abbrev S4x1024x2816 : Shape := ⟨3, ![4, 1024, 2816]⟩
abbrev S4x2816x1024 : Shape := ⟨3, ![4, 2816, 1024]⟩
abbrev S16x16x128x2x8x64 : Shape := ⟨6, ![16, 16, 128, 2, 8, 64]⟩
abbrev S16x16x128x2x64 : Shape := ⟨5, ![16, 16, 128, 2, 64]⟩
abbrev S16x15x128x2x64 : Shape := ⟨5, ![16, 15, 128, 2, 64]⟩
abbrev S_ : Shape := ⟨0, ![]⟩
abbrev S16x16x256x2x64 : Shape := ⟨5, ![16, 16, 256, 2, 64]⟩
abbrev S16x16x2x256x128x8 : Shape := ⟨6, ![16, 16, 2, 256, 128, 8]⟩
abbrev S16x16x2x8x128x256 : Shape := ⟨6, ![16, 16, 2, 8, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S2x8x128x256 : Shape := ⟨4, ![2, 8, 128, 256]⟩
abbrev S1x1x2x8x128x256 : Shape := ⟨6, ![1, 1, 2, 8, 128, 256]⟩
abbrev S1x16x1x1x128x256 : Shape := ⟨6, ![1, 16, 1, 1, 128, 256]⟩
abbrev S2x8x1x1 : Shape := ⟨4, ![2, 8, 1, 1]⟩
abbrev S16x16x2x8x128x1 : Shape := ⟨6, ![16, 16, 2, 8, 128, 1]⟩
abbrev S16x16x2x8x128x257 : Shape := ⟨6, ![16, 16, 2, 8, 128, 257]⟩
abbrev S16x16x2x8x128 : Shape := ⟨5, ![16, 16, 2, 8, 128]⟩
abbrev S16x16x2x64x8x128 : Shape := ⟨6, ![16, 16, 2, 64, 8, 128]⟩
abbrev S1x1024x1024 : Shape := ⟨3, ![1, 1024, 1024]⟩
abbrev S1024x1024 : Shape := ⟨2, ![1024, 1024]⟩
abbrev S1x1x1024 : Shape := ⟨3, ![1, 1, 1024]⟩
abbrev S16x1024 : Shape := ⟨2, ![16, 1024]⟩
abbrev S16x1x1024 : Shape := ⟨3, ![16, 1, 1024]⟩
abbrev S16x2048 : Shape := ⟨2, ![16, 2048]⟩
abbrev S16x2048x1 : Shape := ⟨3, ![16, 2048, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩

abbrev nBuf : Space → Nat
  | .hbm => 177
  | .vmem => 0
  | .smem => 0
  | _ => 0

abbrev hbmTy0_0 (i : Nat) : BufTy := match i % 128 with
  | 0 => ⟨S16x2048x1024, .f32⟩
  | 1 => ⟨S16x2048x128, .f32⟩
  | 2 => ⟨S16x2048x128, .f32⟩
  | 3 => ⟨S16, .f32⟩
  | 4 => ⟨S16x128x256, .f32⟩
  | 5 => ⟨S2x1024x1024, .f32⟩
  | 6 => ⟨S1024, .f32⟩
  | 7 => ⟨S16x2048x1024, .f32⟩
  | 8 => ⟨S1024, .f32⟩
  | 9 => ⟨S16x6144, .f32⟩
  | 10 => ⟨S4x1024x2816, .f32⟩
  | 11 => ⟨S4x1024x2816, .f32⟩
  | 12 => ⟨S4x2816x1024, .f32⟩
  | 13 => ⟨S1024, .f32⟩
  | 14 => ⟨S16x16x128x2x8x64, .f32⟩
  | 15 => ⟨S16x16x128x2x64, .f32⟩
  | 16 => ⟨S16x16x128x2x64, .f32⟩
  | 17 => ⟨S16x15x128x2x64, .f32⟩
  | 18 => ⟨S_, .i32⟩
  | 19 => ⟨S_, .f32⟩
  | 20 => ⟨S16x16x128x2x64, .f32⟩
  | 21 => ⟨S16x16x256x2x64, .f32⟩
  | 22 => ⟨S16x15x128x2x64, .f32⟩
  | 23 => ⟨S_, .i32⟩
  | 24 => ⟨S_, .f32⟩
  | 25 => ⟨S16x16x128x2x64, .f32⟩
  | 26 => ⟨S16x16x256x2x64, .f32⟩
  | 27 => ⟨S16x16x2x256x128x8, .f32⟩
  | 28 => ⟨S16x16x2x8x128x256, .f32⟩
  | 29 => ⟨S_, .f32⟩
  | 30 => ⟨S16x16x2x8x128x256, .f32⟩
  | 31 => ⟨S16x16x2x8x128x256, .f32⟩
  | 32 => ⟨S128, .i32⟩
  | 33 => ⟨S256, .i32⟩
  | 34 => ⟨S128x1, .i32⟩
  | 35 => ⟨S_, .i32⟩
  | 36 => ⟨S128x1, .i32⟩
  | 37 => ⟨S128x1, .i32⟩
  | 38 => ⟨S1x256, .i32⟩
  | 39 => ⟨S128x256, .i32⟩
  | 40 => ⟨S128x256, .i32⟩
  | 41 => ⟨S128x256, .i32⟩
  | 42 => ⟨S_, .i32⟩
  | 43 => ⟨S128x256, .i32⟩
  | 44 => ⟨S128x256, .i1⟩
  | 45 => ⟨S_, .i32⟩
  | 46 => ⟨S128x256, .i32⟩
  | 47 => ⟨S128x256, .i1⟩
  | 48 => ⟨S128x256, .i1⟩
  | 49 => ⟨S16, .i32⟩
  | 50 => ⟨S16x1, .i32⟩
  | 51 => ⟨S_, .i32⟩
  | 52 => ⟨S16x1, .i32⟩
  | 53 => ⟨S16x1, .i1⟩
  | 54 => ⟨S1x256, .i32⟩
  | 55 => ⟨S_, .i32⟩
  | 56 => ⟨S1x256, .i32⟩
  | 57 => ⟨S1x256, .i1⟩
  | 58 => ⟨S16x256, .i1⟩
  | 59 => ⟨S16x256, .i1⟩
  | 60 => ⟨S16x256, .i1⟩
  | 61 => ⟨S1x128x256, .i1⟩
  | 62 => ⟨S16x1x256, .i1⟩
  | 63 => ⟨S16x128x256, .i1⟩
  | 64 => ⟨S16x128x256, .i1⟩
  | 65 => ⟨S16x128x256, .i1⟩
  | 66 => ⟨S2x8x128x256, .f32⟩
  | 67 => ⟨S1x1x2x8x128x256, .f32⟩
  | 68 => ⟨S16x16x2x8x128x256, .f32⟩
  | 69 => ⟨S16x16x2x8x128x256, .f32⟩
  | 70 => ⟨S1x16x1x1x128x256, .i1⟩
  | 71 => ⟨S_, .f32⟩
  | 72 => ⟨S_, .f32⟩
  | 73 => ⟨S16x16x2x8x128x256, .i1⟩
  | 74 => ⟨S16x16x2x8x128x256, .f32⟩
  | 75 => ⟨S16x16x2x8x128x256, .f32⟩
  | 76 => ⟨S2x8x1x1, .f32⟩
  | 77 => ⟨S16x16x2x8x128x1, .f32⟩
  | 78 => ⟨S16x16x2x8x128x257, .f32⟩
  | 79 => ⟨S_, .f32⟩
  | 80 => ⟨S16x16x2x8x128, .f32⟩
  | 81 => ⟨S_, .f32⟩
  | 82 => ⟨S16x16x2x8x128, .f32⟩
  | 83 => ⟨S16x16x2x8x128, .f32⟩
  | 84 => ⟨S16x16x2x8x128x1, .f32⟩
  | 85 => ⟨S16x16x2x8x128x257, .f32⟩
  | 86 => ⟨S16x16x2x8x128x257, .f32⟩
  | 87 => ⟨S16x16x2x8x128x257, .f32⟩
  | 88 => ⟨S_, .f32⟩
  | 89 => ⟨S16x16x2x8x128, .f32⟩
  | 90 => ⟨S16x16x2x8x128x1, .f32⟩
  | 91 => ⟨S16x16x2x8x128x257, .f32⟩
  | 92 => ⟨S16x16x2x8x128x257, .f32⟩
  | 93 => ⟨S16x16x2x8x128x256, .f32⟩
  | 94 => ⟨S16x16x2x64x8x128, .f32⟩
  | 95 => ⟨S16x16x128x2x8x64, .f32⟩
  | 96 => ⟨S16x2048x1024, .f32⟩
  | 97 => ⟨S1x1024x1024, .f32⟩
  | 98 => ⟨S1024x1024, .f32⟩
  | 99 => ⟨S16x2048x1024, .f32⟩
  | 100 => ⟨S1x1x1024, .f32⟩
  | 101 => ⟨S16x2048x1024, .f32⟩
  | 102 => ⟨S16x2048x1024, .f32⟩
  | 103 => ⟨S16x1024, .f32⟩
  | 104 => ⟨S16x1024, .f32⟩
  | 105 => ⟨S16x1024, .f32⟩
  | 106 => ⟨S16x1024, .f32⟩
  | 107 => ⟨S16x1024, .f32⟩
  | 108 => ⟨S16x1024, .f32⟩
  | 109 => ⟨S16x1x1024, .f32⟩
  | 110 => ⟨S16x2048x1024, .f32⟩
  | 111 => ⟨S16x2048x1024, .f32⟩
  | 112 => ⟨S16x2048x1024, .f32⟩
  | 113 => ⟨S16x2048x1024, .f32⟩
  | 114 => ⟨S_, .f32⟩
  | 115 => ⟨S16x2048, .f32⟩
  | 116 => ⟨S16x2048x1, .f32⟩
  | 117 => ⟨S_, .f32⟩
  | 118 => ⟨S16x2048x1, .f32⟩
  | 119 => ⟨S16x2048x1, .f32⟩
  | 120 => ⟨S_, .f32⟩
  | 121 => ⟨S16x2048x1, .f32⟩
  | 122 => ⟨S16x2048x1, .f32⟩
  | 123 => ⟨S16x2048x1, .f32⟩
  | 124 => ⟨S16x2048x1024, .f32⟩
  | 125 => ⟨S16x2048x1024, .f32⟩
  | 126 => ⟨S1x1x1024, .f32⟩
  | 127 => ⟨S16x2048x1024, .f32⟩
  | _ => ⟨S16x2048x1024, .f32⟩

abbrev hbmTy0_1 (i : Nat) : BufTy := match i % 128 with
  | 0 => ⟨S16x2048x1024, .f32⟩
  | 1 => ⟨S16x1x1024, .f32⟩
  | 2 => ⟨S_, .f32⟩
  | 3 => ⟨S16x1x1024, .f32⟩
  | 4 => ⟨S16x1x1024, .f32⟩
  | 5 => ⟨S16x2048x1024, .f32⟩
  | 6 => ⟨S16x2048x1024, .f32⟩
  | 7 => ⟨S16x1x1024, .f32⟩
  | 8 => ⟨S16x2048x1024, .f32⟩
  | 9 => ⟨S16x2048x1024, .f32⟩
  | 10 => ⟨S16x1x1024, .f32⟩
  | 11 => ⟨S1x1024x2816, .f32⟩
  | 12 => ⟨S1024x2816, .f32⟩
  | 13 => ⟨S1x1024x2816, .f32⟩
  | 14 => ⟨S1024x2816, .f32⟩
  | 15 => ⟨S1x2816x1024, .f32⟩
  | 16 => ⟨S2816x1024, .f32⟩
  | 17 => ⟨S16x2048x2816, .f32⟩
  | 18 => ⟨S16x2048x2816, .f32⟩
  | 19 => ⟨S16x2048x2816, .f32⟩
  | 20 => ⟨S_, .f32⟩
  | 21 => ⟨S16x2048x2816, .f32⟩
  | 22 => ⟨S16x2048x2816, .f32⟩
  | 23 => ⟨S_, .f32⟩
  | 24 => ⟨S16x2048x2816, .f32⟩
  | 25 => ⟨S16x2048x2816, .f32⟩
  | 26 => ⟨S16x2048x2816, .f32⟩
  | 27 => ⟨S16x2048x2816, .f32⟩
  | 28 => ⟨S16x2048x2816, .f32⟩
  | 29 => ⟨S16x2048x1024, .f32⟩
  | 30 => ⟨S16x2048x1024, .f32⟩
  | 31 => ⟨S16x2048x1024, .f32⟩
  | 32 => ⟨S16x2048x1024, .f32⟩
  | 33 => ⟨S16x2048x1024, .f32⟩
  | 34 => ⟨S_, .f32⟩
  | 35 => ⟨S16x2048, .f32⟩
  | 36 => ⟨S16x2048x1, .f32⟩
  | 37 => ⟨S_, .f32⟩
  | 38 => ⟨S16x2048x1, .f32⟩
  | 39 => ⟨S16x2048x1, .f32⟩
  | 40 => ⟨S_, .f32⟩
  | 41 => ⟨S16x2048x1, .f32⟩
  | 42 => ⟨S16x2048x1, .f32⟩
  | 43 => ⟨S16x2048x1, .f32⟩
  | 44 => ⟨S16x2048x1024, .f32⟩
  | 45 => ⟨S16x2048x1024, .f32⟩
  | 46 => ⟨S1x1x1024, .f32⟩
  | 47 => ⟨S16x2048x1024, .f32⟩
  | 48 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_call1_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_2 : Ref sig .tc := ⟨.hbm, 42, rfl⟩
abbrev main_v22 : Ref sig .tc := ⟨.hbm, 43, rfl⟩
abbrev main_v23 : Ref sig .tc := ⟨.hbm, 44, rfl⟩
abbrev main_c_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_10 : Ref sig .tc := ⟨.hbm, 114, rfl⟩
abbrev main_v83 : Ref sig .tc := ⟨.hbm, 115, rfl⟩
abbrev main_v84 : Ref sig .tc := ⟨.hbm, 116, rfl⟩
abbrev main_cst_11 : Ref sig .tc := ⟨.hbm, 117, rfl⟩
abbrev main_v85 : Ref sig .tc := ⟨.hbm, 118, rfl⟩
abbrev main_v86 : Ref sig .tc := ⟨.hbm, 119, rfl⟩
abbrev main_cst_12 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_13 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_call3_v0 : Ref sig .tc := ⟨.hbm, 146, rfl⟩
abbrev main_call3_v1 : Ref sig .tc := ⟨.hbm, 147, rfl⟩
abbrev main_call3_cst : Ref sig .tc := ⟨.hbm, 148, rfl⟩
abbrev main_call3_v2 : Ref sig .tc := ⟨.hbm, 149, rfl⟩
abbrev main_call3_v3 : Ref sig .tc := ⟨.hbm, 150, rfl⟩
abbrev main_call3_cst_0 : Ref sig .tc := ⟨.hbm, 151, rfl⟩
abbrev main_call3_v4 : Ref sig .tc := ⟨.hbm, 152, rfl⟩
abbrev main_call3_v5 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_14 : Ref sig .tc := ⟨.hbm, 162, rfl⟩
abbrev main_v119 : Ref sig .tc := ⟨.hbm, 163, rfl⟩
abbrev main_v120 : Ref sig .tc := ⟨.hbm, 164, rfl⟩
abbrev main_cst_15 : Ref sig .tc := ⟨.hbm, 165, rfl⟩
abbrev main_v121 : Ref sig .tc := ⟨.hbm, 166, rfl⟩
abbrev main_v122 : Ref sig .tc := ⟨.hbm, 167, rfl⟩
abbrev main_cst_16 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩

abbrev nD : Nat := 1
abbrev τ : Topo := Topo.v7x

variable {F : FTy → Type} [FloatOps F]
-- ==== Kernel2.lean ====
abbrev S16x2048x1024 : Shape := ⟨3, ![16, 2048, 1024]⟩
abbrev S2x1024x1024 : Shape := ⟨3, ![2, 1024, 1024]⟩
abbrev S1024 : Shape := ⟨1, ![1024]⟩
abbrev S16x6144 : Shape := ⟨2, ![16, 6144]⟩
abbrev S4x1024x2816 : Shape := ⟨3, ![4, 1024, 2816]⟩
abbrev S4x2816x1024 : Shape := ⟨3, ![4, 2816, 1024]⟩
abbrev S16x1024 : Shape := ⟨2, ![16, 1024]⟩
abbrev S16x1x1024 : Shape := ⟨3, ![16, 1, 1024]⟩
abbrev S_ : Shape := ⟨0, ![]⟩
abbrev S1x1024 : Shape := ⟨2, ![1, 1024]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 30
  | .vmem => 21
  | .smem => 0
  | _ => 0

abbrev bufTy : (tb : Table) → Fin (tcTables nBuf tb) → BufTy
  | .hbm, ⟨0, _⟩ => ⟨S16x2048x1024, .bf16⟩
  | .hbm, ⟨1, _⟩ => ⟨S2x1024x1024, .f32⟩
  | .hbm, ⟨2, _⟩ => ⟨S16x2048x1024, .f32⟩
  | .hbm, ⟨3, _⟩ => ⟨S1024, .f32⟩
  | .hbm, ⟨4, _⟩ => ⟨S16x6144, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S2x1024x1024, .bf16⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4x1024x2816, .bf16⟩
  | .hbm, ⟨26, _⟩ => ⟨S4x1024x2816, .bf16⟩
  | .hbm, ⟨27, _⟩ => ⟨S4x2816x1024, .bf16⟩
  | .hbm, ⟨28, _⟩ => ⟨S1x1024, .f32⟩
  | .hbm, ⟨29, _⟩ => ⟨S16x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024x2816, .bf16⟩
  | .local _ .vmem, ⟨16, _⟩ => ⟨S1x1024x2816, .bf16⟩
  | .local _ .vmem, ⟨17, _⟩ => ⟨S1x2816x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S16x2048x1024 : Shape := ⟨3, ![16, 2048, 1024]⟩
abbrev S2x1024x1024 : Shape := ⟨3, ![2, 1024, 1024]⟩
abbrev S1024 : Shape := ⟨1, ![1024]⟩
abbrev S16x6144 : Shape := ⟨2, ![16, 6144]⟩
abbrev S4x1024x2816 : Shape := ⟨3, ![4, 1024, 2816]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S2x1024x1024, .f32⟩
  | .hbm, ⟨2, _⟩ => ⟨S16x2048x1024, .f32⟩
  | .hbm, ⟨3, _⟩ => ⟨S1024, .f32⟩
  | .hbm, ⟨4, _⟩ => ⟨S16x6144, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S16x2048x1024, .f32⟩
  | .hbm, ⟨10, _⟩ => ⟨S1x1024x1024, .f32⟩
  | .hbm, ⟨11, _⟩ => ⟨S1024x1024, .f32⟩
  | .hbm, ⟨12, _⟩ => ⟨S16x2048x1024, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S16x1x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S1x1x1024, .f32⟩
  | .hbm, ⟨37, _⟩ => ⟨S16x2048x1024, .f32⟩
  | .hbm, ⟨38, _⟩ => ⟨S16x2048x1024, .f32⟩
  | .hbm, ⟨39, _⟩ => ⟨S16x1x1024, .f32⟩
  | .hbm, ⟨40, _⟩ => ⟨S_, .f32⟩
  | .hbm, ⟨41, _⟩ => ⟨S16x1x1024, .f32⟩
  | .hbm, ⟨42, _⟩ => ⟨S16x1x1024, .f32⟩
  | .hbm, ⟨43, _⟩ => ⟨S16x2048x1024, .f32⟩
  | .hbm, ⟨44, _⟩ => ⟨S16x2048x1024, .f32⟩
  | .hbm, ⟨45, _⟩ => ⟨S16x1x1024, .f32⟩
  | .hbm, ⟨46, _⟩ => ⟨S16x2048x1024, .f32⟩
  | .hbm, ⟨47, _⟩ => ⟨S16x2048x1024, .f32⟩
  | .hbm, ⟨48, _⟩ => ⟨S16x1x1024, .f32⟩
  | .hbm, ⟨49, _⟩ => ⟨S1x1024x2816, .f32⟩
  | .hbm, ⟨50, _⟩ => ⟨S1024x2816, .f32⟩
  | .hbm, ⟨51, _⟩ => ⟨S1x1024x2816, .f32⟩
  | .hbm, ⟨52, _⟩ => ⟨S1024x2816, .f32⟩
  | .hbm, ⟨53, _⟩ => ⟨S1x2816x1024, .f32⟩
  | .hbm, ⟨54, _⟩ => ⟨S2816x1024, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S_, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S16x2048x2816, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S16x6144 : Shape := ⟨2, ![16, 6144]⟩
abbrev S2x1024x1280 : Shape := ⟨3, ![2, 1024, 1280]⟩
abbrev S2x1280 : Shape := ⟨2, ![2, 1280]⟩
abbrev S16x1024 : Shape := ⟨2, ![16, 1024]⟩
abbrev S16x1x1024 : Shape := ⟨3, ![16, 1, 1024]⟩
abbrev S1x1024 : Shape := ⟨2, ![1, 1024]⟩
abbrev S1x1280 : Shape := ⟨2, ![1, 1280]⟩
abbrev S1280 : Shape := ⟨1, ![1280]⟩
abbrev S16x2048x128 : Shape := ⟨3, ![16, 2048, 128]⟩
abbrev S1x512x1024 : Shape := ⟨3, ![1, 512, 1024]⟩
abbrev S1x1x1024 : Shape := ⟨3, ![1, 1, 1024]⟩
abbrev S1x1024x1280 : Shape := ⟨3, ![1, 1024, 1280]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S1024x1280 : Shape := ⟨2, ![1024, 1280]⟩
abbrev S512x1280 : Shape := ⟨2, ![512, 1280]⟩
abbrev S512x128 : Shape := ⟨2, ![512, 128]⟩

abbrev nBuf : Space → Nat
  | .hbm => 25
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x6144, .f32⟩
  | .hbm, ⟨3, _⟩ => ⟨S2x1024x1280, .f32⟩
  | .hbm, ⟨4, _⟩ => ⟨S2x1280, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S1x1024, .f32⟩
  | .hbm, ⟨18, _⟩ => ⟨S2x1024x1280, .bf16⟩
  | .hbm, ⟨19, _⟩ => ⟨S1x1280, .f32⟩
  | .hbm, ⟨20, _⟩ => ⟨S1280, .f32⟩
  | .hbm, ⟨21, _⟩ => ⟨S1x1280, .f32⟩
  | .hbm, ⟨22, _⟩ => ⟨S16x2048x1024, .bf16⟩
  | .hbm, ⟨23, _⟩ => ⟨S16x2048x128, .bf16⟩
  | .hbm, ⟨24, _⟩ => ⟨S16x2048x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x1280, .bf16⟩
  | .local _ .vmem, ⟨8, _⟩ => ⟨S1x1280, .f32⟩
  | .local _ .vmem, ⟨9, _⟩ => ⟨S1x512x1024, .bf16⟩
  | .local _ .vmem, ⟨10, _⟩ => ⟨S1x512x1024, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel3Ideal.lean ====
variable {F : FTy → Type} [FloatOps F] [Named F]
def κ : String → Option EReal := fun
  | "scale" => some ((8⁻¹ * (Real.log 2)⁻¹ : ℝ) : EReal)
  | _ => none
-- ==== Reference3Ideal.lean ====
abbrev S16x2048x1024 : Shape := ⟨3, ![16, 2048, 1024]⟩
abbrev S1024 : Shape := ⟨1, ![1024]⟩
abbrev S16x6144 : Shape := ⟨2, ![16, 6144]⟩
abbrev S2x1024x1280 : Shape := ⟨3, ![2, 1024, 1280]⟩
abbrev S2x1280 : Shape := ⟨2, ![2, 1280]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S1x1024x1280 : Shape := ⟨3, ![1, 1024, 1280]⟩
abbrev S1024x1280 : Shape := ⟨2, ![1024, 1280]⟩
abbrev S16x2048x1280 : Shape := ⟨3, ![16, 2048, 1280]⟩
abbrev S1x1280 : Shape := ⟨2, ![1, 1280]⟩
abbrev S1280 : Shape := ⟨1, ![1280]⟩
abbrev S1x1x1280 : Shape := ⟨3, ![1, 1, 1280]⟩
abbrev S16x2048x128 : Shape := ⟨3, ![16, 2048, 128]⟩

abbrev nBuf : Space → Nat
  | .hbm => 58
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x6144, .f32⟩
  | .hbm, ⟨3, _⟩ => ⟨S2x1024x1280, .f32⟩
  | .hbm, ⟨4, _⟩ => ⟨S2x1280, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S16x1x1024, .f32⟩
  | .hbm, ⟨28, _⟩ => ⟨S_, .f32⟩
  | .hbm, ⟨29, _⟩ => ⟨S16x1x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S1x1024x1280, .f32⟩
  | .hbm, ⟨37, _⟩ => ⟨S1024x1280, .f32⟩
  | .hbm, ⟨38, _⟩ => ⟨S16x2048x1280, .f32⟩
  | .hbm, ⟨39, _⟩ => ⟨S1x1280, .f32⟩
  | .hbm, ⟨40, _⟩ => ⟨S1280, .f32⟩
  | .hbm, ⟨41, _⟩ => ⟨S1x1x1280, .f32⟩
  | .hbm, ⟨42, _⟩ => ⟨S16x2048x1280, .f32⟩
  | .hbm, ⟨43, _⟩ => ⟨S16x2048x1280, .f32⟩
  | .hbm, ⟨44, _⟩ => ⟨S16x2048x1024, .f32⟩
  | .hbm, ⟨45, _⟩ => ⟨S16x2048x128, .f32⟩
  | .hbm, ⟨46, _⟩ => ⟨S16x2048x128, .f32⟩
  | .hbm, ⟨47, _⟩ => ⟨S_, .f32⟩
  | .hbm, ⟨48, _⟩ => ⟨S16x2048x1024, .f32⟩
  | .hbm, ⟨49, _⟩ => ⟨S16x2048x1024, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16x2048x1024, .f32⟩
  | .hbm, ⟨54, _⟩ => ⟨S16x2048x1024, .f32⟩
  | .hbm, ⟨55, _⟩ => ⟨S16x2048x1024, .bf16⟩
  | .hbm, ⟨56, _⟩ => ⟨S16x2048x128, .bf16⟩
  | .hbm, ⟨57, _⟩ => ⟨S16x2048x128, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S16x6144 : Shape := ⟨2, ![16, 6144]⟩
abbrev S2x1024x1864 : Shape := ⟨3, ![2, 1024, 1864]⟩
abbrev S2x256 : Shape := ⟨2, ![2, 256]⟩
abbrev S2x64 : Shape := ⟨2, ![2, 64]⟩
abbrev S16x1024 : Shape := ⟨2, ![16, 1024]⟩
abbrev S16x1x1024 : Shape := ⟨3, ![16, 1, 1024]⟩
abbrev S2x1024x1856 : Shape := ⟨3, ![2, 1024, 1856]⟩
abbrev S_ : Shape := ⟨0, ![]⟩
abbrev S2x1024x1920 : Shape := ⟨3, ![2, 1024, 1920]⟩
abbrev S2x1024x8 : Shape := ⟨3, ![2, 1024, 8]⟩
abbrev S2x8x1024 : Shape := ⟨3, ![2, 8, 1024]⟩
abbrev S2x16x1024 : Shape := ⟨3, ![2, 16, 1024]⟩
abbrev S1x1024 : Shape := ⟨2, ![1, 1024]⟩
abbrev S1x256 : Shape := ⟨2, ![1, 256]⟩
abbrev S256 : Shape := ⟨1, ![256]⟩
abbrev S1x64 : Shape := ⟨2, ![1, 64]⟩
abbrev S64 : Shape := ⟨1, ![64]⟩
abbrev S16x2048x256 : Shape := ⟨3, ![16, 2048, 256]⟩
abbrev S16x8x256x256 : Shape := ⟨4, ![16, 8, 256, 256]⟩
abbrev S16x2048x512 : Shape := ⟨3, ![16, 2048, 512]⟩
abbrev S16x2048x64 : Shape := ⟨3, ![16, 2048, 64]⟩
abbrev S16x8x2048 : Shape := ⟨3, ![16, 8, 2048]⟩
abbrev S1x512x1024 : Shape := ⟨3, ![1, 512, 1024]⟩
abbrev S1x1x1024 : Shape := ⟨3, ![1, 1, 1024]⟩
abbrev S1x1024x1920 : Shape := ⟨3, ![1, 1024, 1920]⟩
abbrev S1x16x1024 : Shape := ⟨3, ![1, 16, 1024]⟩
abbrev S1x512x256 : Shape := ⟨3, ![1, 512, 256]⟩
abbrev S1x2x256x256 : Shape := ⟨4, ![1, 2, 256, 256]⟩
abbrev S1x512x512 : Shape := ⟨3, ![1, 512, 512]⟩
abbrev S1x512x64 : Shape := ⟨3, ![1, 512, 64]⟩
abbrev S1x8x512 : Shape := ⟨3, ![1, 8, 512]⟩
abbrev S512x1024 : Shape := ⟨2, ![512, 1024]⟩
abbrev S512 : Shape := ⟨1, ![512]⟩
abbrev S512x1 : Shape := ⟨2, ![512, 1]⟩
abbrev S1024x1920 : Shape := ⟨2, ![1024, 1920]⟩
abbrev S512x1920 : Shape := ⟨2, ![512, 1920]⟩
abbrev S512x256 : Shape := ⟨2, ![512, 256]⟩
abbrev S256x256 : Shape := ⟨2, ![256, 256]⟩
abbrev S1x1x256x256 : Shape := ⟨4, ![1, 1, 256, 256]⟩
abbrev S512x512 : Shape := ⟨2, ![512, 512]⟩
abbrev S512x64 : Shape := ⟨2, ![512, 64]⟩
abbrev S16x512 : Shape := ⟨2, ![16, 512]⟩
abbrev S8x512 : Shape := ⟨2, ![8, 512]⟩

abbrev nBuf : Space → Nat
  | .hbm => 46
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x6144, .f32⟩
  | .hbm, ⟨3, _⟩ => ⟨S2x1024x1864, .f32⟩
  | .hbm, ⟨4, _⟩ => ⟨S2x256, .f32⟩
  | .hbm, ⟨5, _⟩ => ⟨S2x64, .f32⟩
  | .hbm, ⟨6, _⟩ => ⟨S2x64, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S2x1024x1856, .f32⟩
  | .hbm, ⟨20, _⟩ => ⟨S_, .i32⟩
  | .hbm, ⟨21, _⟩ => ⟨S_, .f32⟩
  | .hbm, ⟨22, _⟩ => ⟨S2x1024x1920, .f32⟩
  | .hbm, ⟨23, _⟩ => ⟨S2x1024x1920, .bf16⟩
  | .hbm, ⟨24, _⟩ => ⟨S2x1024x8, .f32⟩
  | .hbm, ⟨25, _⟩ => ⟨S2x8x1024, .f32⟩
  | .hbm, ⟨26, _⟩ => ⟨S_, .i32⟩
  | .hbm, ⟨27, _⟩ => ⟨S_, .f32⟩
  | .hbm, ⟨28, _⟩ => ⟨S2x16x1024, .f32⟩
  | .hbm, ⟨29, _⟩ => ⟨S2x16x1024, .bf16⟩
  | .hbm, ⟨30, _⟩ => ⟨S1x1024, .f32⟩
  | .hbm, ⟨31, _⟩ => ⟨S1x256, .f32⟩
  | .hbm, ⟨32, _⟩ => ⟨S256, .f32⟩
  | .hbm, ⟨33, _⟩ => ⟨S1x256, .f32⟩
  | .hbm, ⟨34, _⟩ => ⟨S1x64, .f32⟩
  | .hbm, ⟨35, _⟩ => ⟨S64, .f32⟩
  | .hbm, ⟨36, _⟩ => ⟨S1x64, .f32⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S16x2048x1024, .bf16⟩
  | .hbm, ⟨41, _⟩ => ⟨S16x2048x256, .bf16⟩
  | .hbm, ⟨42, _⟩ => ⟨S16x8x256x256, .bf16⟩
  | .hbm, ⟨43, _⟩ => ⟨S16x2048x512, .bf16⟩
  | .hbm, ⟨44, _⟩ => ⟨S16x2048x64, .bf16⟩
  | .hbm, ⟨45, _⟩ => ⟨S16x8x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x1920, .bf16⟩
  | .local _ .vmem, ⟨8, _⟩ => ⟨S1x16x1024, .bf16⟩
  | .local _ .vmem, ⟨9, _⟩ => ⟨S1x256, .f32⟩
  | .local _ .vmem, ⟨10, _⟩ => ⟨S1x64, .f32⟩
  | .local _ .vmem, ⟨11, _⟩ => ⟨S1x64, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x256, .bf16⟩
  | .local _ .vmem, ⟨15, _⟩ => ⟨S1x512x256, .bf16⟩
  | .local _ .vmem, ⟨16, _⟩ => ⟨S1x2x256x256, .bf16⟩
  | .local _ .vmem, ⟨17, _⟩ => ⟨S1x2x256x256, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x64, .bf16⟩
  | .local _ .vmem, ⟨21, _⟩ => ⟨S1x512x64, .bf16⟩
  | .local _ .vmem, ⟨22, _⟩ => ⟨S1x8x512, .f32⟩
  | .local _ .vmem, ⟨23, _⟩ => ⟨S1x8x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_call1_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev main_v29_3 : Ref sig .tc := ⟨.hbm, 43, rfl⟩
abbrev main_v29_4 : Ref sig .tc := ⟨.hbm, 44, rfl⟩
abbrev main_v29_5 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S16x2048x1024 : Shape := ⟨3, ![16, 2048, 1024]⟩
abbrev S1024 : Shape := ⟨1, ![1024]⟩
abbrev S16x6144 : Shape := ⟨2, ![16, 6144]⟩
abbrev S2x1024x1864 : Shape := ⟨3, ![2, 1024, 1864]⟩
abbrev S2x256 : Shape := ⟨2, ![2, 256]⟩
abbrev S2x64 : Shape := ⟨2, ![2, 64]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S1x1024x1864 : Shape := ⟨3, ![1, 1024, 1864]⟩
abbrev S1024x1864 : Shape := ⟨2, ![1024, 1864]⟩
abbrev S16x2048x1864 : Shape := ⟨3, ![16, 2048, 1864]⟩
abbrev S16x2048x256 : Shape := ⟨3, ![16, 2048, 256]⟩
abbrev S16x2048x512 : Shape := ⟨3, ![16, 2048, 512]⟩
abbrev S16x2048x64 : Shape := ⟨3, ![16, 2048, 64]⟩
abbrev S16x2048x8 : Shape := ⟨3, ![16, 2048, 8]⟩
abbrev S1x256 : Shape := ⟨2, ![1, 256]⟩
abbrev S256 : Shape := ⟨1, ![256]⟩
abbrev S1x1x256 : Shape := ⟨3, ![1, 1, 256]⟩
abbrev S1x64 : Shape := ⟨2, ![1, 64]⟩
abbrev S64 : Shape := ⟨1, ![64]⟩
abbrev S1x1x64 : Shape := ⟨3, ![1, 1, 64]⟩
abbrev S16x8x256x256 : Shape := ⟨4, ![16, 8, 256, 256]⟩
abbrev S16x8x2048 : Shape := ⟨3, ![16, 8, 2048]⟩

abbrev nBuf : Space → Nat
  | .hbm => 111
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x6144, .f32⟩
  | .hbm, ⟨3, _⟩ => ⟨S2x1024x1864, .f32⟩
  | .hbm, ⟨4, _⟩ => ⟨S2x256, .f32⟩
  | .hbm, ⟨5, _⟩ => ⟨S2x64, .f32⟩
  | .hbm, ⟨6, _⟩ => ⟨S2x64, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x1x1024, .f32⟩
  | .hbm, ⟨30, _⟩ => ⟨S_, .f32⟩
  | .hbm, ⟨31, _⟩ => ⟨S16x1x1024, .f32⟩
  | .hbm, ⟨32, _⟩ => ⟨S16x1x1024, .f32⟩
  | .hbm, ⟨33, _⟩ => ⟨S16x2048x1024, .f32⟩
  | .hbm, ⟨34, _⟩ => ⟨S16x2048x1024, .f32⟩
  | .hbm, ⟨35, _⟩ => ⟨S16x1x1024, .f32⟩
  | .hbm, ⟨36, _⟩ => ⟨S16x2048x1024, .f32⟩
  | .hbm, ⟨37, _⟩ => ⟨S16x2048x1024, .f32⟩
  | .hbm, ⟨38, _⟩ => ⟨S1x1024x1864, .f32⟩
  | .hbm, ⟨39, _⟩ => ⟨S1024x1864, .f32⟩
  | .hbm, ⟨40, _⟩ => ⟨S16x2048x1864, .f32⟩
  | .hbm, ⟨41, _⟩ => ⟨S16x2048x1024, .f32⟩
  | .hbm, ⟨42, _⟩ => ⟨S16x2048x256, .f32⟩
  | .hbm, ⟨43, _⟩ => ⟨S16x2048x512, .f32⟩
  | .hbm, ⟨44, _⟩ => ⟨S16x2048x64, .f32⟩
  | .hbm, ⟨45, _⟩ => ⟨S16x2048x8, .f32⟩
  | .hbm, ⟨46, _⟩ => ⟨S1x256, .f32⟩
  | .hbm, ⟨47, _⟩ => ⟨S256, .f32⟩
  | .hbm, ⟨48, _⟩ => ⟨S16x2048x256, .f32⟩
  | .hbm, ⟨49, _⟩ => ⟨S_, .f32⟩
  | .hbm, ⟨50, _⟩ => ⟨S16x2048, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S_, .f32⟩
  | .hbm, ⟨56, _⟩ => ⟨S16x2048x1, .f32⟩
  | .hbm, ⟨57, _⟩ => ⟨S16x2048x1, .f32⟩
  | .hbm, ⟨58, _⟩ => ⟨S16x2048x1, .f32⟩
  | .hbm, ⟨59, _⟩ => ⟨S16x2048x256, .f32⟩
  | .hbm, ⟨60, _⟩ => ⟨S16x2048x256, .f32⟩
  | .hbm, ⟨61, _⟩ => ⟨S1x1x256, .f32⟩
  | .hbm, ⟨62, _⟩ => ⟨S16x2048x256, .f32⟩
  | .hbm, ⟨63, _⟩ => ⟨S16x2048x256, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S64, .f32⟩
  | .hbm, ⟨68, _⟩ => ⟨S_, .f32⟩
  | .hbm, ⟨69, _⟩ => ⟨S16x2048, .f32⟩
  | .hbm, ⟨70, _⟩ => ⟨S16x2048x1, .f32⟩
  | .hbm, ⟨71, _⟩ => ⟨S_, .f32⟩
  | .hbm, ⟨72, _⟩ => ⟨S16x2048x1, .f32⟩
  | .hbm, ⟨73, _⟩ => ⟨S16x2048x1, .f32⟩
  | .hbm, ⟨74, _⟩ => ⟨S16x2048x64, .f32⟩
  | .hbm, ⟨75, _⟩ => ⟨S16x2048x64, .f32⟩
  | .hbm, ⟨76, _⟩ => ⟨S16x2048x64, .f32⟩
  | .hbm, ⟨77, _⟩ => ⟨S_, .f32⟩
  | .hbm, ⟨78, _⟩ => ⟨S16x2048, .f32⟩
  | .hbm, ⟨79, _⟩ => ⟨S16x2048x1, .f32⟩
  | .hbm, ⟨80, _⟩ => ⟨S_, .f32⟩
  | .hbm, ⟨81, _⟩ => ⟨S16x2048x1, .f32⟩
  | .hbm, ⟨82, _⟩ => ⟨S16x2048x1, .f32⟩
  | .hbm, ⟨83, _⟩ => ⟨S16x2048x64, .f32⟩
  | .hbm, ⟨84, _⟩ => ⟨S16x2048x64, .f32⟩
  | .hbm, ⟨85, _⟩ => ⟨S_, .f32⟩
  | .hbm, ⟨86, _⟩ => ⟨S16x2048x1, .f32⟩
  | .hbm, ⟨87, _⟩ => ⟨S16x2048x1, .f32⟩
  | .hbm, ⟨88, _⟩ => ⟨S16x2048x1, .f32⟩
  | .hbm, ⟨89, _⟩ => ⟨S16x2048x64, .f32⟩
  | .hbm, ⟨90, _⟩ => ⟨S16x2048x64, .f32⟩
  | .hbm, ⟨91, _⟩ => ⟨S1x1x64, .f32⟩
  | .hbm, ⟨92, _⟩ => ⟨S16x2048x64, .f32⟩
  | .hbm, ⟨93, _⟩ => ⟨S16x2048x64, .f32⟩
  | .hbm, ⟨94, _⟩ => ⟨S1x1x64, .f32⟩
  | .hbm, ⟨95, _⟩ => ⟨S16x2048x64, .f32⟩
  | .hbm, ⟨96, _⟩ => ⟨S16x2048x64, .f32⟩
  | .hbm, ⟨97, _⟩ => ⟨S_, .f32⟩
  | .hbm, ⟨98, _⟩ => ⟨S16x2048x8, .f32⟩
  | .hbm, ⟨99, _⟩ => ⟨S16x2048x8, .f32⟩
  | .hbm, ⟨100, _⟩ => ⟨S_, .f32⟩
  | .hbm, ⟨101, _⟩ => ⟨S16x2048x1024, .f32⟩
  | .hbm, ⟨102, _⟩ => ⟨S16x2048x1024, .f32⟩
  | .hbm, ⟨103, _⟩ => ⟨S16x8x256x256, .f32⟩
  | .hbm, ⟨104, _⟩ => ⟨S16x8x256x256, .f32⟩
  | .hbm, ⟨105, _⟩ => ⟨S16x2048x1024, .bf16⟩
  | .hbm, ⟨106, _⟩ => ⟨S16x2048x256, .bf16⟩
  | .hbm, ⟨107, _⟩ => ⟨S16x8x256x256, .bf16⟩
  | .hbm, ⟨108, _⟩ => ⟨S16x2048x512, .bf16⟩
  | .hbm, ⟨109, _⟩ => ⟨S16x2048x64, .bf16⟩
  | .hbm, ⟨110, _⟩ => ⟨S16x8x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_10 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_11 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩

abbrev nD : Nat := 1
abbrev τ : Topo := Topo.v7x

variable {F : FTy → Type} [FloatOps F]
-- ==== Proof.RunKernel.lean ====
/- The body of the attention and feed-forward kernel, run once: it takes its input blocks, an output block and the
   scratch buffer at any contents, and gives the input blocks back. -/
module

public import proofs.«01_k».proof.Proof.Gen.Kernel.Frame
public import proofs.«01_k».proof.Proof.Gen.Kernel.Loops
public import Idealize.ShloMosaic.Lib.Pipeline.Frame
public import Idealize.ShloMosaic.Lib.Pipeline.DatRel
public import Idealize.ShloMosaic.Lib.Pipeline.ArrRel
public import Idealize.ShloMosaic.Lib.Claim
public import Idealize.ShloMosaic.Lib.Tactic

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-- A buffer held at some contents shows some block. -/
theorem owns_any {sp : Space} {S : Shape} {e : EltTy} (c : Dev nD) (r : Memref sig .tc sp S e) (f : BufTy.Contents (Elt F) r.view.ty) :
    (r.view.loc (c : Thread nD τ) ↦[r.view.set]{fullShare} f : sProp 𝕄) ⊢ iprop(∃ X, owns (c : Thread nD τ) r fullShare X) := by
  unfold owns
  iintro H; iexists _; iexists f; isplitr; · ipureintro; rfl
  iexact H

/-- A buffer held at known contents is held at some. -/
theorem held_any {sp : Space} {S : Shape} {e : EltTy} (c : Dev nD) (r : Memref sig .tc sp S e) (f : BufTy.Contents (Elt F) r.view.ty) :
    (r.view.loc (c : Thread nD τ) ↦[r.view.set]{fullShare} f : sProp 𝕄)
      ⊢ iprop(∃ f, r.view.loc (c : Thread nD τ) ↦[r.view.set]{fullShare} f) := by
  iintro H; iexists f; iexact H

set_option maxHeartbeats 4000000 in
/-- One run of the body: the input blocks come back as they were, the output block and the scratch buffer at some contents. -/
theorem kernelRun (c : Dev nD) (E : Set ℕ) (i : grid0.Coords) (arg1 : Memref sig .tc .smem S1x16 .f32) (harg1 : arg1.IsWhole) (arg2 : Memref sig .tc .vmem S1x512x1024 .bf16) (harg2 : arg2.IsWhole) (arg3 : Memref sig .tc .vmem S1x128x128 .bf16) (harg3 : arg3.IsWhole) (arg4 : Memref sig .tc .vmem S1x512x128 .bf16) (harg4 : arg4.IsWhole) (arg5 : Memref sig .tc .vmem S1x128x128 .bf16) (harg5 : arg5.IsWhole) (arg6 : Memref sig .tc .vmem S1x512x128 .bf16) (harg6 : arg6.IsWhole) (arg7 : Memref sig .tc .vmem S2x2x512x512 .f32) (harg7 : arg7.IsWhole) (arg8 : Memref sig .tc .vmem S1x1024x1024 .bf16) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S1x512x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1024x2816 .bf16) (harg16 : arg16.IsWhole) (arg17 : Memref sig .tc .vmem S1x1024x2816 .bf16) (harg17 : arg17.IsWhole) (arg18 : Memref sig .tc .vmem S1x2816x1024 .bf16) (harg18 : arg18.IsWhole) (arg19 : Memref sig .tc .vmem S1x1024 .f32) (harg19 : arg19.IsWhole) (arg20 : Memref sig .tc .vmem S1x512x1024 .f32) (harg20 : arg20.IsWhole) (arg21 : Memref sig .tc .vmem S2x512x1024 .bf16) (harg21 : arg21.IsWhole)
    (x0 : Vec F S1x16 .f32) (x1 : Vec F S1x512x1024 .bf16) (x2 : Vec F S1x128x128 .bf16) (x3 : Vec F S1x512x128 .bf16) (x4 : Vec F S1x128x128 .bf16) (x5 : Vec F S1x512x128 .bf16) (x6 : Vec F S2x2x512x512 .f32) (x7 : Vec F S1x1024x1024 .bf16) (x8 : Vec F S1x1024 .f32) (x9 : Vec F S1x1x1024 .f32) (x10 : Vec F S1x512x1024 .f32) (x11 : Vec F S1x1024 .f32) (x12 : Vec F S1x1x1024 .f32) (x13 : Vec F S1x1x1024 .f32) (x14 : Vec F S1x1x1024 .f32) (x15 : Vec F S1x1024x2816 .bf16) (x16 : Vec F S1x1024x2816 .bf16) (x17 : Vec F S1x2816x1024 .bf16) (x18 : Vec F S1x1024 .f32) (f21 : BufTy.Contents (Elt F) arg21.view.ty) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ X, owns (c : Thread nD τ) arg20 fullShare X) ∗ (arg21.view.loc (c : Thread nD τ) ↦[arg21.view.set]{fullShare} f21)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ X, owns (c : Thread nD τ) arg20 fullShare X) ∗ (∃ f, arg21.view.loc (c : Thread nD τ) ↦[arg21.view.set]{fullShare} f)) -∗ K ⟨⟩))
      ⊢ wp frame (wpE (defs₀ (F := F)) Variants.none c none) E (cc0_b_attn_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_b_attn_ffn_eq_skeleton]; unfold cc0_b_attn_ffn_skel
  simp only [k0_part43_eq_skeleton]; unfold k0_part43_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d20, %f20, -, H20⟩, H21, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H20]; · iapply owns_any; iexact H20
  iapply held_any; iexact H21

end Cert.Kernel.Hand

end
-- ==== Proof.FrameKernel.lean ====
/- The attention and feed-forward kernel's launch: what the body holds from grid point to grid point, its obligation at
   each point, and the run, which leaves the arguments as they were and every counter at zero. -/
module

public import proofs.«01_k».proof.Proof.Gen.Kernel.Frame
public import proofs.«01_k».proof.Proof.Gen.Kernel.Loops
public import Idealize.ShloMosaic.Lib.Pipeline.Frame
public import Idealize.ShloMosaic.Lib.Pipeline.DatRel
public import Idealize.ShloMosaic.Lib.Pipeline.ArrRel
public import Idealize.ShloMosaic.Lib.Claim
public import Idealize.ShloMosaic.Lib.Tactic
public import proofs.«01_k».proof.Proof.RunKernel

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, every input block left as found; of the output nothing is said. -/
def dat (c : Dev nD) : Dat τ (Elt F) Unit ℕ (UR sig nD τ) ℕ (cfgs 0) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => fun _ => Classical.arbitrary _
    | ⟨k + 20, h⟩ => absurd (show k + 20 < 20 from h) (by omega)
  Φ _ := Pipeline.ΦA spec0 c
  q w := Pipeline.shareOf spec0 w
  owed _ := 0

/-- The one window of which nothing is said: the output's. -/
def loose (w : Fin cfg0.W) : Bool := decide (w = 19)

/-- The data read with the output's contents left open. -/
abbrev rdat (c : Dev nD) : RDat τ (Elt F) Unit ℕ (UR sig nD τ) ℕ (cfgs 0) c := (dat m c).toRRel loose fun _ _ _ => True

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) : (dat m c).after 5 t = iblk m c 5 t := by dsimp only [dat]
theorem after6 (c : Dev nD) (t : Fin cfg0.N) : (dat m c).after 6 t = iblk m c 6 t := by dsimp only [dat]
theorem after7 (c : Dev nD) (t : Fin cfg0.N) : (dat m c).after 7 t = iblk m c 7 t := by dsimp only [dat]
theorem after8 (c : Dev nD) (t : Fin cfg0.N) : (dat m c).after 8 t = iblk m c 8 t := by dsimp only [dat]
theorem after9 (c : Dev nD) (t : Fin cfg0.N) : (dat m c).after 9 t = iblk m c 9 t := by dsimp only [dat]
theorem after10 (c : Dev nD) (t : Fin cfg0.N) : (dat m c).after 10 t = iblk m c 10 t := by dsimp only [dat]
theorem after11 (c : Dev nD) (t : Fin cfg0.N) : (dat m c).after 11 t = iblk m c 11 t := by dsimp only [dat]
theorem after12 (c : Dev nD) (t : Fin cfg0.N) : (dat m c).after 12 t = iblk m c 12 t := by dsimp only [dat]
theorem after13 (c : Dev nD) (t : Fin cfg0.N) : (dat m c).after 13 t = iblk m c 13 t := by dsimp only [dat]
theorem after14 (c : Dev nD) (t : Fin cfg0.N) : (dat m c).after 14 t = iblk m c 14 t := by dsimp only [dat]
theorem after15 (c : Dev nD) (t : Fin cfg0.N) : (dat m c).after 15 t = iblk m c 15 t := by dsimp only [dat]
theorem after16 (c : Dev nD) (t : Fin cfg0.N) : (dat m c).after 16 t = iblk m c 16 t := by dsimp only [dat]
theorem after17 (c : Dev nD) (t : Fin cfg0.N) : (dat m c).after 17 t = iblk m c 17 t := by dsimp only [dat]
theorem after18 (c : Dev nD) (t : Fin cfg0.N) : (dat m c).after 18 t = iblk m c 18 t := by dsimp only [dat]

theorem before0 (c : Dev nD) (t : Fin cfg0.N) (d) : (dat m c).before 0 t d = iblk m c 0 t :=
  before0_0_of m (dat m c) (by dsimp only [dat]) (after0 m c) t d
theorem before1 (c : Dev nD) (t : Fin cfg0.N) (d) : (dat m c).before 1 t d = iblk m c 1 t :=
  before0_1_of m (dat m c) (by dsimp only [dat]) (after1 m c) t d
theorem before2 (c : Dev nD) (t : Fin cfg0.N) (d) : (dat m c).before 2 t d = iblk m c 2 t :=
  before0_2_of m (dat m c) (by dsimp only [dat]) (after2 m c) t d
theorem before3 (c : Dev nD) (t : Fin cfg0.N) (d) : (dat m c).before 3 t d = iblk m c 3 t :=
  before0_3_of m (dat m c) (by dsimp only [dat]) (after3 m c) t d
theorem before4 (c : Dev nD) (t : Fin cfg0.N) (d) : (dat m c).before 4 t d = iblk m c 4 t :=
  before0_4_of m (dat m c) (by dsimp only [dat]) (after4 m c) t d
theorem before5 (c : Dev nD) (t : Fin cfg0.N) (d) : (dat m c).before 5 t d = iblk m c 5 t :=
  before0_5_of m (dat m c) (by dsimp only [dat]) (after5 m c) t d
theorem before6 (c : Dev nD) (t : Fin cfg0.N) (d) : (dat m c).before 6 t d = iblk m c 6 t :=
  before0_6_of m (dat m c) (by dsimp only [dat]) (after6 m c) t d
theorem before7 (c : Dev nD) (t : Fin cfg0.N) (d) : (dat m c).before 7 t d = iblk m c 7 t :=
  before0_7_of m (dat m c) (by dsimp only [dat]) (after7 m c) t d
theorem before8 (c : Dev nD) (t : Fin cfg0.N) (d) : (dat m c).before 8 t d = iblk m c 8 t :=
  before0_8_of m (dat m c) (by dsimp only [dat]) (after8 m c) t d
theorem before9 (c : Dev nD) (t : Fin cfg0.N) (d) : (dat m c).before 9 t d = iblk m c 9 t :=
  before0_9_of m (dat m c) (by dsimp only [dat]) (after9 m c) t d
theorem before10 (c : Dev nD) (t : Fin cfg0.N) (d) : (dat m c).before 10 t d = iblk m c 10 t :=
  before0_10_of m (dat m c) (by dsimp only [dat]) (after10 m c) t d
theorem before11 (c : Dev nD) (t : Fin cfg0.N) (d) : (dat m c).before 11 t d = iblk m c 11 t :=
  before0_11_of m (dat m c) (by dsimp only [dat]) (after11 m c) t d
theorem before12 (c : Dev nD) (t : Fin cfg0.N) (d) : (dat m c).before 12 t d = iblk m c 12 t :=
  before0_12_of m (dat m c) (by dsimp only [dat]) (after12 m c) t d
theorem before13 (c : Dev nD) (t : Fin cfg0.N) (d) : (dat m c).before 13 t d = iblk m c 13 t :=
  before0_13_of m (dat m c) (by dsimp only [dat]) (after13 m c) t d
theorem before14 (c : Dev nD) (t : Fin cfg0.N) (d) : (dat m c).before 14 t d = iblk m c 14 t :=
  before0_14_of m (dat m c) (by dsimp only [dat]) (after14 m c) t d
theorem before15 (c : Dev nD) (t : Fin cfg0.N) (d) : (dat m c).before 15 t d = iblk m c 15 t :=
  before0_15_of m (dat m c) (by dsimp only [dat]) (after15 m c) t d
theorem before16 (c : Dev nD) (t : Fin cfg0.N) (d) : (dat m c).before 16 t d = iblk m c 16 t :=
  before0_16_of m (dat m c) (by dsimp only [dat]) (after16 m c) t d
theorem before17 (c : Dev nD) (t : Fin cfg0.N) (d) : (dat m c).before 17 t d = iblk m c 17 t :=
  before0_17_of m (dat m c) (by dsimp only [dat]) (after17 m c) t d
theorem before18 (c : Dev nD) (t : Fin cfg0.N) (d) : (dat m c).before 18 t d = iblk m c 18 t :=
  before0_18_of m (dat m c) (by dsimp only [dat]) (after18 m c) t d

/-- What the body finds at point `t`. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ d, owns (c : Thread nD τ) (st0_9 t) fullShare ((dat m c).before 9 t d))
    ∗ (∃ d, owns (c : Thread nD τ) (st0_10 t) fullShare ((dat m c).before 10 t d))
    ∗ (∃ d, owns (c : Thread nD τ) (st0_11 t) fullShare ((dat m c).before 11 t d))
    ∗ (∃ d, owns (c : Thread nD τ) (st0_12 t) fullShare ((dat m c).before 12 t d))
    ∗ (∃ d, owns (c : Thread nD τ) (st0_13 t) fullShare ((dat m c).before 13 t d))
    ∗ (∃ d, owns (c : Thread nD τ) (st0_14 t) fullShare ((dat m c).before 14 t d))
    ∗ (∃ d, owns (c : Thread nD τ) (st0_15 t) fullShare ((dat m c).before 15 t d))
    ∗ (∃ d, owns (c : Thread nD τ) (st0_16 t) fullShare ((dat m c).before 16 t d))
    ∗ (∃ d, owns (c : Thread nD τ) (st0_17 t) fullShare ((dat m c).before 17 t d))
    ∗ (∃ d, owns (c : Thread nD τ) (st0_18 t) fullShare ((dat m c).before 18 t d))
    ∗ (∃ Y, ⌜(rdat m c).Finds 19 t Y⌝ ∗ owns (c : Thread nD τ) (st0_19 t) fullShare Y))

/-- What the body leaves at point `t`. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t)
    ∗ owns (c : Thread nD τ) (st0_8 t) fullShare ((dat m c).after 8 t)
    ∗ owns (c : Thread nD τ) (st0_9 t) fullShare ((dat m c).after 9 t)
    ∗ owns (c : Thread nD τ) (st0_10 t) fullShare ((dat m c).after 10 t)
    ∗ owns (c : Thread nD τ) (st0_11 t) fullShare ((dat m c).after 11 t)
    ∗ owns (c : Thread nD τ) (st0_12 t) fullShare ((dat m c).after 12 t)
    ∗ owns (c : Thread nD τ) (st0_13 t) fullShare ((dat m c).after 13 t)
    ∗ owns (c : Thread nD τ) (st0_14 t) fullShare ((dat m c).after 14 t)
    ∗ owns (c : Thread nD τ) (st0_15 t) fullShare ((dat m c).after 15 t)
    ∗ owns (c : Thread nD τ) (st0_16 t) fullShare ((dat m c).after 16 t)
    ∗ owns (c : Thread nD τ) (st0_17 t) fullShare ((dat m c).after 17 t)
    ∗ owns (c : Thread nD τ) (st0_18 t) fullShare ((dat m c).after 18 t)
    ∗ (∃ X, ⌜True⌝ ∗ owns (c : Thread nD τ) (st0_19 t) fullShare X))

/-- The scratch buffer, as the launch holds it and as the body does. -/
theorem scratch_in (c : Dev nD) (f : Buf (Elt F) ((c : Thread nD τ).loc cc0_scratch0)) :
    (((c : Thread nD τ).loc cc0_scratch0) ↦{fullShare} f : sProp 𝕄)
      ⊢ ((Memref.whole cc0_scratch0).view.loc (c : Thread nD τ) ↦[(Memref.whole cc0_scratch0).view.set]{fullShare} f) := by
  rw [View.set_whole]

/-- And back. -/
theorem scratch_out (c : Dev nD) (f : Buf (Elt F) ((c : Thread nD τ).loc cc0_scratch0)) :
    ((Memref.whole cc0_scratch0).view.loc (c : Thread nD τ) ↦[(Memref.whole cc0_scratch0).view.set]{fullShare} f : sProp 𝕄)
      ⊢ (((c : Thread nD τ).loc cc0_scratch0) ↦{fullShare} f) := by
  rw [View.set_whole]

set_option maxHeartbeats 400000 in
/-- The body at point `t` takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18]
  rw [show (dat m c).Φ t.succ = iprop(Pipeline.scopedRest spec0 c ∗ ∃ r, prngReg c r) from rfl,
    show (dat m c).Φ t.castSucc = iprop(Pipeline.scopedRest spec0 c ∗ ∃ r, prngReg c r) from rfl, scopedRest0_eq,
    show (dat m c).owesAt () t.succ = (dat m c).owesAt () t.castSucc from rfl,
    after0, after1, after2, after3, after4, after5, after6, after7, after8, after9, after10, after11, after12, after13, after14, after15, after16, after17, after18]
  iintro ⟨⟨⟨%f21, H21⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%Y, -, H19⟩⟩
  iapply (kernelRun c Set.univ (grid0.coords t) _ _ _ _ _ _ _ _ _ _ _ _ _ _ _ _ _ _ _ _ _ _ _ _ _ _ _ _ _ _ _ _ _ _ _ _ _ _ _ _ (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) f21 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H21]; · iapply scratch_in; iexact H21
  iintro ⟨H0, H1, H2, H3, H4, H5, H6, H7, H8, H9, H10, H11, H12, H13, H14, H15, H16, H17, H18, ⟨%X, H19⟩, ⟨%f, H21⟩⟩
  isplitl [H21 Hr]
  · isplitl [H21]
    · iexists f; iapply scratch_out; iexact H21
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexists X; isplitr; · ipureintro; trivial
  iexact H19

/-- The body table's row at point `t`'s buffers is the body there. -/
theorem row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) :
    BodyObligationRel (dat (F := F) m c) (defs₀ (F := F)) Variants.none () Set.univ loose fun _ _ _ => True := fun t => by
  rw [bigSep_W0, bigSep_W0, row]
  exact triple_restated (sound_body m c t) rfl .rfl fun _ => .rfl

set_option backward.isDefEq.respectTransparency.types false in
set_option maxHeartbeats 400000 in
/-- The run: every array at contents the data allow, every other buffer as found, every counter at zero. -/
theorem run : θ_run defs (onTc (τ := τ) (main (F := F))) (s₀ m ρ)
    (fun r => RDat.FramePost (cfgs 0) (rdat m) (V m) r ∧ r.2.sem = fun _ => 0) :=
  RDat.θ_run_frame_track_shared (Q' := _) cfgs (0 : Fin 1) launch₀0 defs₀ Variants.none (rdat m) m ρ main
    (hbody := fun c => (obligation m c).toRRel) (hq := fun _ _ _ => rfl) (howed := fun _ _ => rfl) (V := V m)
    (hmain := hmain m Variants.none) (hA := fun _ _ => rfl) (hin := fun _ => .rfl) (hout := fun _ => .rfl) (hQ' := fun _ h => h)

/-- The arguments end as they began. -/
theorem kept (r : PUnit × MemSt nD τ sig (Elt F)) (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (RDat.FramePost.arr_in h c 10 rfl).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

end Cert.Kernel.Hand

end
-- ==== Proof.Rows.lean ====
/- One row of the transformer layer over the extended reals: the output projection with its residual, the modulated
   RMS norm, the SwiGLU feed-forward and the final norm. Both kernels and both references are read as these functions. -/
module

public import Idealize.ShloMosaic.Lib.Pointwise

@[expose] public section

noncomputable section

namespace Cert.Rows

open Idealize.ShloMosaic

/-- The residual row plus the gated output projection of the attention row `o`. -/
def mix (o : Fin 1024 → EReal) (w : Fin 1024 → Fin 1024 → EReal) (b g x : Fin 1024 → EReal) (j : Fin 1024) : EReal :=
  x j + g j * ((∑ k : Fin 1024, o k * w k j) + b j)

/-- One over the root of a row's mean square plus the norm's small constant. -/
def inv (x : Fin 1024 → EReal) : EReal :=
  Ideal.rsqrt (Ideal.div (∑ k : Fin 1024, x k * x k) (Ideal.ofBits .f32 0x44800000#32) + Ideal.ofBits .f32 0x358637BD#32)

/-- The RMS norm of a row with its gain. -/
def norm (x g : Fin 1024 → EReal) (j : Fin 1024) : EReal := x j * inv x * g j

/-- The normed row, modulated by scale and shift. -/
def modulated (x g sh sc : Fin 1024 → EReal) (j : Fin 1024) : EReal := norm x g j * (1 + sc j) + sh j

/-- The gated activation: the SiLU of the first projection times the second. -/
def act (h : Fin 1024 → EReal) (w1 w3 : Fin 1024 → EReal) : EReal :=
  (∑ k : Fin 1024, h k * w1 k) * Ideal.logistic (∑ k : Fin 1024, h k * w1 k) * (∑ k : Fin 1024, h k * w3 k)

/-- The feed-forward row: all 2816 activations against the second matrix. -/
def ffn (h : Fin 1024 → EReal) (w1 w3 : Fin 1024 → Fin 2816 → EReal) (w2 : Fin 2816 → Fin 1024 → EReal) (j : Fin 1024) :
    EReal :=
  ∑ f : Fin 2816, act h (fun k => w1 k f) (fun k => w3 k f) * w2 f j

/-- The part of `ffn` that the 256 columns from `256 * c` on give. -/
def chunk (h : Fin 1024 → EReal) (w1 w3 : Fin 1024 → Fin 256 → EReal) (w2 : Fin 256 → Fin 1024 → EReal) (j : Fin 1024) :
    EReal :=
  ∑ f : Fin 256, act h (fun k => w1 k f) (fun k => w3 k f) * w2 f j

/-- The layer's row: the mixed row plus the gated feed-forward of its modulated norm. -/
def layer (y g sh sc gate : Fin 1024 → EReal) (w1 w3 : Fin 1024 → Fin 2816 → EReal)
    (w2 : Fin 2816 → Fin 1024 → EReal) (j : Fin 1024) : EReal :=
  y j + gate j * ffn (modulated y g sh sc) w1 w3 w2 j

/-- Column `f` of chunk `c` among all the columns. -/
def col (c : Fin 11) (f : Fin 256) : Fin 2816 := ⟨c.val * 256 + f.val, by have := c.isLt; have := f.isLt; omega⟩

/-- The feed-forward is the sum of its eleven chunks. -/
theorem ffn_chunks (h : Fin 1024 → EReal) (w1 w3 : Fin 1024 → Fin 2816 → EReal) (w2 : Fin 2816 → Fin 1024 → EReal)
    (j : Fin 1024) :
    ffn h w1 w3 w2 j = ∑ c : Fin 11, chunk h (fun k f => w1 k (col c f)) (fun k f => w3 k (col c f))
      (fun f => w2 (col c f)) j :=
  Fin.sum_univ_tiles 11 256 rfl _

end Cert.Rows

end
-- ==== Proof.Tile2.lean ====
/- What the first layer's feed-forward kernel stores, as one block expression, and that expression read entry by entry. -/
module

public import proofs.«01_k».proof.Proof.Rows
public import proofs.«01_k».proof.Proof.Gen.Kernel2Ideal.Value

@[expose] public section

set_option maxRecDepth 16384

noncomputable section

namespace Cert.Kernel2Ideal.Tile

open Cert.Kernel2Ideal Cert.Kernel2Ideal.Gen Idealize.ShloMosaic Idealize.ShloMosaic.TcCoe Idealize.SL.Sem
/-- The mixed block: the residual block plus the gated output projection. -/
def mixV (o : Vec Ideal S1x512x1024 .bf16) (wo : Vec Ideal S1x1024x1024 .bf16) (bo : Vec Ideal S1x1024 .f32)
    (g1 : Vec Ideal S1x1x1024 .f32) (x : Vec Ideal S1x512x1024 .f32) : FVec Ideal S512x1024 .f32 :=
  addf (shapeCast S512x1024 x shapeCasts_S1x512x1024_S512x1024)
    (mulf (broadcastTo S512x1024 (shapeCast S1x1024 g1 shapeCasts_S1x1x1024_S1x1024) broadcasts_S1x1024_S512x1024)
      (addf (matmul dot_S512x1024_S1024x1024_S512x1024_1_0_0_1_n_n none
          (shapeCast S512x1024 o shapeCasts_S1x512x1024_S512x1024 : FVec Ideal S512x1024 .bf16)
          (shapeCast S1024x1024 wo shapeCasts_S1x1024x1024_S1024x1024 : FVec Ideal S1024x1024 .bf16) (constant S512x1024 .f32 0x00000000#32))
        (broadcastTo S512x1024 (shapeCast S1x1024 bo shapeCasts_S1x1024_S1x1024) broadcasts_S1x1024_S512x1024)))

/-- Each row times one over the root of its mean square. -/
def scaledV (y : FVec Ideal S512x1024 .f32) : FVec Ideal S512x1024 .f32 :=
  mulf y (broadcastTo S512x1024 (rsqrt (addf (divf (shapeCast S512x1
      (multiReduction .add [1] S512 (mulf y y) 0x00000000#32 reduces_S512x1024_S512 (.inl rfl) rfl) shapeCasts_S512_S512x1)
      (broadcast S512x1 (Scalar.ofBits .f32 0x44800000#32))) (broadcast S512x1 (Scalar.ofBits .f32 0x358637BD#32))))
    broadcasts_S512x1_S512x1024)

/-- The modulated norm of a block. -/
def modV (y : FVec Ideal S512x1024 .f32) (g : Vec Ideal S1x1024 .f32) (sh sc : Vec Ideal S1x1x1024 .f32) :
    FVec Ideal S512x1024 .bf16 :=
  truncf .bf16 (addf (mulf (mulf (scaledV y) (broadcastTo S512x1024 (shapeCast S1x1024 g shapeCasts_S1x1024_S1x1024) broadcasts_S1x1024_S512x1024))
      (broadcastTo S512x1024 (addf (broadcast S1x1024 (Scalar.ofBits .f32 0x3F800000#32)) (shapeCast S1x1024 sc shapeCasts_S1x1x1024_S1x1024)) broadcasts_S1x1024_S512x1024))
    (broadcastTo S512x1024 (shapeCast S1x1024 sh shapeCasts_S1x1x1024_S1x1024) broadcasts_S1x1024_S512x1024)) bitsLt_bf16_f32

/-- What 256 columns of the feed-forward add to a block. -/
def chunkV (h : FVec Ideal S512x1024 .bf16) (c1 c3 : Vec Ideal S1x1024x256 .bf16) (c2 : Vec Ideal S1x256x1024 .bf16) :
    FVec Ideal S512x1024 .f32 :=
  matmul dot_S512x256_S256x1024_S512x1024_1_0_0_1_n_n none
    (truncf .bf16 (mulf (mulf
      (matmul dot_S512x1024_S1024x256_S512x256_1_0_0_1_n_n none h (shapeCast S1024x256 c1 shapeCasts_S1x1024x256_S1024x256 : FVec Ideal S1024x256 .bf16) (constant S512x256 .f32 0x00000000#32))
      (logistic (matmul dot_S512x1024_S1024x256_S512x256_1_0_0_1_n_n none h (shapeCast S1024x256 c1 shapeCasts_S1x1024x256_S1024x256 : FVec Ideal S1024x256 .bf16) (constant S512x256 .f32 0x00000000#32))))
      (matmul dot_S512x1024_S1024x256_S512x256_1_0_0_1_n_n none h (shapeCast S1024x256 c3 shapeCasts_S1x1024x256_S1024x256 : FVec Ideal S1024x256 .bf16) (constant S512x256 .f32 0x00000000#32)))
      bitsLt_bf16_f32 : FVec Ideal S512x256 .bf16)
    (shapeCast S256x1024 c2 shapeCasts_S1x256x1024_S256x1024 : FVec Ideal S256x1024 .bf16) (constant S512x1024 .f32 0x00000000#32)

/-- The eleven chunks, added one after another. -/
def ffnV (h : FVec Ideal S512x1024 .bf16) (c1 c3 : Fin 11 → Vec Ideal S1x1024x256 .bf16)
    (c2 : Fin 11 → Vec Ideal S1x256x1024 .bf16) : FVec Ideal S512x1024 .f32 :=
  addf (addf (addf (addf (addf (addf (addf (addf (addf (addf (addf (broadcast S512x1024 (Scalar.ofBits .f32 0x00000000#32)) (chunkV h (c1 0) (c3 0) (c2 0))) (chunkV h (c1 1) (c3 1) (c2 1))) (chunkV h (c1 2) (c3 2) (c2 2))) (chunkV h (c1 3) (c3 3) (c2 3))) (chunkV h (c1 4) (c3 4) (c2 4))) (chunkV h (c1 5) (c3 5) (c2 5))) (chunkV h (c1 6) (c3 6) (c2 6))) (chunkV h (c1 7) (c3 7) (c2 7))) (chunkV h (c1 8) (c3 8) (c2 8))) (chunkV h (c1 9) (c3 9) (c2 9))) (chunkV h (c1 10) (c3 10) (c2 10))

/-- The block with its gated feed-forward added. -/
def layerV (y : FVec Ideal S512x1024 .f32) (g : Vec Ideal S1x1024 .f32) (sh sc gate : Vec Ideal S1x1x1024 .f32)
    (c1 c3 : Fin 11 → Vec Ideal S1x1024x256 .bf16) (c2 : Fin 11 → Vec Ideal S1x256x1024 .bf16) : FVec Ideal S512x1024 .f32 :=
  addf y (mulf (broadcastTo S512x1024 (shapeCast S1x1024 gate shapeCasts_S1x1x1024_S1x1024) broadcasts_S1x1024_S512x1024)
    (ffnV (modV y g sh sc) c1 c3 c2))

/-- The mixed block at an entry. -/
theorem mixV_apply (o : Vec Ideal S1x512x1024 .bf16) (wo : Vec Ideal S1x1024x1024 .bf16) (bo : Vec Ideal S1x1024 .f32)
    (g1 : Vec Ideal S1x1x1024 .f32) (x : Vec Ideal S1x512x1024 .f32) (r : Fin 512) (j : Fin 1024) :
    mixV o wo bo g1 x (ix2 r j : S512x1024.Idx)
      = Rows.mix (fun k => o (ix3 0 r k)) (fun k j => wo (ix3 0 k j)) (fun j => bo (ix2 0 j)) (fun j => g1 (ix3 0 0 j))
          (fun j => x (ix3 0 r j)) j := by
  pointwise [mixV, Rows.mix]
  all_goals rfl

/-- The scaled row at an entry. -/
theorem scaledV_apply (y : FVec Ideal S512x1024 .f32) (r : Fin 512) (j : Fin 1024) :
    scaledV y (ix2 r j : S512x1024.Idx) = y (ix2 r j : S512x1024.Idx) * Rows.inv (fun k => y (ix2 r k : S512x1024.Idx)) := by
  pointwise [scaledV, Rows.inv]
  all_goals rfl

/-- The modulated norm at an entry. -/
theorem modV_apply (y : FVec Ideal S512x1024 .f32) (g : Vec Ideal S1x1024 .f32) (sh sc : Vec Ideal S1x1x1024 .f32)
    (r : Fin 512) (j : Fin 1024) :
    modV y g sh sc (ix2 r j : S512x1024.Idx)
      = Rows.modulated (fun k => y (ix2 r k : S512x1024.Idx)) (fun j => g (ix2 0 j)) (fun j => sh (ix3 0 0 j)) (fun j => sc (ix3 0 0 j)) j := by
  pointwise [modV, scaledV_apply, Rows.modulated, Rows.norm]
  all_goals rfl

/-- A chunk at an entry. -/
theorem chunkV_apply (h : FVec Ideal S512x1024 .bf16) (c1 c3 : Vec Ideal S1x1024x256 .bf16) (c2 : Vec Ideal S1x256x1024 .bf16)
    (r : Fin 512) (j : Fin 1024) :
    chunkV h c1 c3 c2 (ix2 r j : S512x1024.Idx)
      = Rows.chunk (fun k => h (ix2 r k : S512x1024.Idx)) (fun k f => c1 (ix3 0 k f)) (fun k f => c3 (ix3 0 k f)) (fun f j => c2 (ix3 0 f j)) j := by
  pointwise [chunkV, Rows.chunk, Rows.act]
  all_goals rfl

/-- The block with its feed-forward, at an entry. -/
theorem layerV_apply (y : FVec Ideal S512x1024 .f32) (g : Vec Ideal S1x1024 .f32) (sh sc gate : Vec Ideal S1x1x1024 .f32)
    (c1 c3 : Fin 11 → Vec Ideal S1x1024x256 .bf16) (c2 : Fin 11 → Vec Ideal S1x256x1024 .bf16)
    (w1 w3 : Fin 1024 → Fin 2816 → EReal) (w2 : Fin 2816 → Fin 1024 → EReal)
    (h1 : ∀ c k f, c1 c (ix3 0 k f) = w1 k (Rows.col c f)) (h3 : ∀ c k f, c3 c (ix3 0 k f) = w3 k (Rows.col c f))
    (h2 : ∀ c f j, c2 c (ix3 0 f j) = w2 (Rows.col c f) j) (r : Fin 512) (j : Fin 1024) :
    layerV y g sh sc gate c1 c3 c2 (ix2 r j : S512x1024.Idx)
      = Rows.layer (fun k => y (ix2 r k : S512x1024.Idx)) (fun j => g (ix2 0 j)) (fun j => sh (ix3 0 0 j)) (fun j => sc (ix3 0 0 j))
          (fun j => gate (ix3 0 0 j)) w1 w3 w2 j := by
  have e : ffnV (modV y g sh sc) c1 c3 c2 (ix2 r j : S512x1024.Idx)
      = Rows.ffn (Rows.modulated (fun k => y (ix2 r k : S512x1024.Idx)) (fun j => g (ix2 0 j)) (fun j => sh (ix3 0 0 j)) (fun j => sc (ix3 0 0 j))) w1 w3 w2 j := by
    rw [Rows.ffn_chunks]
    have hc : ∀ c : Fin 11, chunkV (modV y g sh sc) (c1 c) (c3 c) (c2 c) (ix2 r j : S512x1024.Idx)
        = Rows.chunk (Rows.modulated (fun k => y (ix2 r k : S512x1024.Idx)) (fun j => g (ix2 0 j)) (fun j => sh (ix3 0 0 j)) (fun j => sc (ix3 0 0 j)))
          (fun k f => w1 k (Rows.col c f)) (fun k f => w3 k (Rows.col c f)) (fun f => w2 (Rows.col c f)) j := by
      intro c
      rw [chunkV_apply]
      simp only [modV_apply, h1, h3, h2]
    pointwise [ffnV, hc]
    simp only [Fin.sum_univ_castSucc, Fin.sum_univ_zero, zero_add]
    rfl
  pointwise [layerV, e, Rows.layer]
  all_goals rfl

/-- The stored payload is the layer's block. -/
theorem payload_eq (P0 : Vec Ideal S1x512x1024 .bf16) (P1 : Vec Ideal S1x1024x1024 .bf16) (P2 : Vec Ideal S1x1024 .f32) (P3 : Vec Ideal S1x512x1024 .f32) (P4 : Vec Ideal S1x1x1024 .f32) (P5 : Vec Ideal S1x1x1024 .f32) (P6 : Vec Ideal S1x1024 .f32) (P7 : Vec Ideal S1x1x1024 .f32) (P8 : Vec Ideal S1x1x1024 .f32) (P9 : Vec Ideal S1x1024x256 .bf16) (P10 : Vec Ideal S1x1024x256 .bf16) (P11 : Vec Ideal S1x256x1024 .bf16) (P12 : Vec Ideal S1x1024x256 .bf16) (P13 : Vec Ideal S1x1024x256 .bf16) (P14 : Vec Ideal S1x256x1024 .bf16) (P15 : Vec Ideal S1x1024x256 .bf16) (P16 : Vec Ideal S1x1024x256 .bf16) (P17 : Vec Ideal S1x256x1024 .bf16) (P18 : Vec Ideal S1x1024x256 .bf16) (P19 : Vec Ideal S1x1024x256 .bf16) (P20 : Vec Ideal S1x256x1024 .bf16) (P21 : Vec Ideal S1x1024x256 .bf16) (P22 : Vec Ideal S1x1024x256 .bf16) (P23 : Vec Ideal S1x256x1024 .bf16) (P24 : Vec Ideal S1x1024x256 .bf16) (P25 : Vec Ideal S1x1024x256 .bf16) (P26 : Vec Ideal S1x256x1024 .bf16) (P27 : Vec Ideal S1x1024x256 .bf16) (P28 : Vec Ideal S1x1024x256 .bf16) (P29 : Vec Ideal S1x256x1024 .bf16) (P30 : Vec Ideal S1x1024x256 .bf16) (P31 : Vec Ideal S1x1024x256 .bf16) (P32 : Vec Ideal S1x256x1024 .bf16) (P33 : Vec Ideal S1x1024x256 .bf16) (P34 : Vec Ideal S1x1024x256 .bf16) (P35 : Vec Ideal S1x256x1024 .bf16) (P36 : Vec Ideal S1x1024x256 .bf16) (P37 : Vec Ideal S1x1024x256 .bf16) (P38 : Vec Ideal S1x256x1024 .bf16) (P39 : Vec Ideal S1x1024x256 .bf16) (P40 : Vec Ideal S1x1024x256 .bf16) (P41 : Vec Ideal S1x256x1024 .bf16) :
    k0_pay1 (k0_pay2 P0 P1 P2 P3 P4) (k0_pay16 (k0_pay7 (k0_pay3 P6) (k0_pay4 P8) (k0_pay5 P7) (k0_pay6 P0 P1 P2 P3 P4)) (k0_pay14 (k0_pay7 (k0_pay3 P6) (k0_pay4 P8) (k0_pay5 P7) (k0_pay6 P0 P1 P2 P3 P4)) (k0_pay11 (k0_pay7 (k0_pay3 P6) (k0_pay4 P8) (k0_pay5 P7) (k0_pay6 P0 P1 P2 P3 P4)) (k0_pay10 (k0_pay7 (k0_pay3 P6) (k0_pay4 P8) (k0_pay5 P7) (k0_pay6 P0 P1 P2 P3 P4)) (k0_pay8 (k0_pay3 P6) (k0_pay4 P8) (k0_pay5 P7) (k0_pay6 P0 P1 P2 P3 P4) P9 P10 P11) (k0_pay9 (k0_pay3 P6) (k0_pay4 P8) (k0_pay5 P7) (k0_pay6 P0 P1 P2 P3 P4) P12 P13) P14 P15 P16 P17 P18 P19 P20) P21 P22 P23 P24 P25 P26) (k0_pay12 (k0_pay7 (k0_pay3 P6) (k0_pay4 P8) (k0_pay5 P7) (k0_pay6 P0 P1 P2 P3 P4)) P27) (k0_pay13 P28) P29 P30 P31 P32) (k0_pay15 (k0_pay7 (k0_pay3 P6) (k0_pay4 P8) (k0_pay5 P7) (k0_pay6 P0 P1 P2 P3 P4)) P33 P34) P35 P36 P37 P38 P39 P40 P41) P5
      = shapeCast S1x512x1024 (layerV (mixV P0 P1 P2 P4 P3) P6 P8 P7 P5 ![P9, P12, P15, P18, P21, P24, P27, P30, P33, P36, P39] ![P10, P13, P16, P19, P22, P25, P28, P31, P34, P37, P40] ![P11, P14, P17, P20, P23, P26, P29, P32, P35, P38, P41])
          shapeCasts_S512x1024_S1x512x1024 := rfl

/-- The output block of a point, entry by entry, from its input blocks. -/
theorem out_apply (x0 : Vec Ideal S1x512x1024 .bf16) (x1 : Vec Ideal S1x1024x1024 .bf16) (x2 : Vec Ideal S1x1024 .f32) (x3 : Vec Ideal S1x1x1024 .f32) (x4 : Vec Ideal S1x512x1024 .f32) (x5 : Vec Ideal S1x1024 .f32) (x6 x7 x8 : Vec Ideal S1x1x1024 .f32) (x9 x10 : Vec Ideal S1x1024x2816 .bf16) (x11 : Vec Ideal S1x2816x1024 .bf16) (x12 : Vec Ideal S1x1024 .f32)
    (r : Fin 512) (j : Fin 1024) :
    out0_13 x0 x1 x2 x3 x4 x5 x6 x7 x8 x9 x10 x11 x12 (ix3 0 r j : S1x512x1024.Idx)
      = Rows.layer (Rows.mix (fun k => x0 (ix3 0 r k)) (fun k j => x1 (ix3 0 k j)) (fun j => x2 (ix2 0 j)) (fun j => x3 (ix3 0 0 j)) (fun j => x4 (ix3 0 r j)))
          (fun j => x5 (ix2 0 j)) (fun j => x6 (ix3 0 0 j)) (fun j => x7 (ix3 0 0 j)) (fun j => x8 (ix3 0 0 j))
          (fun k f => x9 (ix3 0 k f)) (fun k f => x10 (ix3 0 k f)) (fun f j => x11 (ix3 0 f j)) j := by
  have z3 : (![0, 0, 0] : Fin 3 → ℕ) = fun _ => 0 := by funext a; fin_cases a <;> rfl
  have z2 : (![0, 0] : Fin 2 → ℕ) = fun _ => 0 := by funext a; fin_cases a <;> rfl
  unfold_out out0_13
  rw [payload_eq]
  rw [View.canon_unit_zero (S := S1x512x1024) z3, View.ld_unit_zero (S := S1x512x1024) z3, View.ld_unit_zero (S := S1x1024x1024) z3,
    View.ld_unit_zero (S := S1x1024) z2, View.ld_unit_zero (S := S1x1x1024) z3, View.ld_unit_zero (S := S1x512x1024) z3,
    View.ld_unit_zero (S := S1x1024) z2, View.ld_unit_zero (S := S1x1x1024) z3, View.ld_unit_zero (S := S1x1x1024) z3, View.ld_unit_zero (S := S1x1x1024) z3]
  have h1 : ∀ (X : Vec Ideal S1x1024x2816 .bf16) (c : Fin 11) (k : Fin 1024) (f : Fin 256),
      (![View.ld X r0_4, View.ld X r0_6, View.ld X r0_8, View.ld X r0_10, View.ld X r0_12, View.ld X r0_14,
        View.ld X r0_16, View.ld X r0_18, View.ld X r0_20, View.ld X r0_22, View.ld X r0_24] : Fin 11 → Vec Ideal S1x1024x256 .bf16) c (ix3 0 k f)
        = X (ix3 0 k (Rows.col c f)) := by
    intro X c k f
    fin_cases c <;>
    · refine congrArg X (funext fun a => Fin.ext ?_)
      match a with
      | ⟨0, _⟩ => rfl
      | ⟨1, _⟩ => show 0 + 1 * k.val = k.val; omega
      | ⟨2, _⟩ => simp [Rows.col]
  have h2 : ∀ (X : Vec Ideal S1x2816x1024 .bf16) (c : Fin 11) (f : Fin 256) (j : Fin 1024),
      (![View.ld X r0_5, View.ld X r0_7, View.ld X r0_9, View.ld X r0_11, View.ld X r0_13, View.ld X r0_15,
        View.ld X r0_17, View.ld X r0_19, View.ld X r0_21, View.ld X r0_23, View.ld X r0_25] : Fin 11 → Vec Ideal S1x256x1024 .bf16) c (ix3 0 f j)
        = X (ix3 0 (Rows.col c f) j) := by
    intro X c f j
    fin_cases c <;>
    · refine congrArg X (funext fun a => Fin.ext ?_)
      match a with
      | ⟨0, _⟩ => rfl
      | ⟨1, _⟩ => simp [Rows.col]
      | ⟨2, _⟩ => show 0 + 1 * j.val = j.val; omega
  have hm : ∀ j, mixV x0 x1 x2 x3 x4 (ix2 r j) = _ := fun j => mixV_apply x0 x1 x2 x3 x4 r j
  pointwise
  rw [layerV_apply _ _ _ _ _ _ _ _ (fun k f => x9 (ix3 0 k f)) (fun k f => x10 (ix3 0 k f)) (fun f j => x11 (ix3 0 f j)) (h1 x9) (h1 x10) (h2 x11)]
  simp only [hm]

end Cert.Kernel2Ideal.Tile

end
-- ==== Proof.Feed.lean ====
/- What the last layer's kernel stores of a tile, from the tile's attention output and the layer's weights. -/
module

public import proofs.«01_k».proof.Proof.Tile2
public import proofs.«01_k».proof.Proof.Gen.KernelIdeal.Skeleton

@[expose] public section

set_option maxRecDepth 16384

noncomputable section

namespace Cert.KernelIdeal.Hand

open Cert.KernelIdeal Cert.KernelIdeal.Gen Idealize.ShloMosaic Idealize.ShloMosaic.TcCoe
open Cert.Kernel2Ideal.Tile (mixV mixV_apply scaledV scaledV_apply layerV layerV_apply)

/-- The normed block with its gain. -/
def normV (y : FVec Ideal S512x1024 .f32) (g : Vec Ideal S1x1024 .f32) : FVec Ideal S512x1024 .f32 :=
  mulf (scaledV y) (broadcastTo S512x1024 (shapeCast S1x1024 g shapeCasts_S1x1024_S1x1024) broadcasts_S1x1024_S512x1024)

/-- The normed block at an entry. -/
theorem normV_apply (y : FVec Ideal S512x1024 .f32) (g : Vec Ideal S1x1024 .f32) (r : Fin 512) (j : Fin 1024) :
    normV y g (ix2 r j : S512x1024.Idx) = Rows.norm (fun k => y (ix2 r k : S512x1024.Idx)) (fun j => g (ix2 0 j)) j := by
  pointwise [normV, scaledV_apply, Rows.norm]
  all_goals rfl

/-- Chunk `c` of a first or third feed-forward matrix, as the body loads it. -/
def colsOf (w : Vec Ideal S1x1024x2816 .bf16) (c : Fin 11) : Vec Ideal S1x1024x256 .bf16 :=
  View.ld w (Rect.unit (s := S1x1024x2816) ![0, 0, 256 * c.val] S1x1024x256.size (by intro a; fin_cases c <;> fin_cases a <;> decide))

/-- Chunk `c` of the second feed-forward matrix, as the body loads it. -/
def rowsOf (w : Vec Ideal S1x2816x1024 .bf16) (c : Fin 11) : Vec Ideal S1x256x1024 .bf16 :=
  View.ld w (Rect.unit (s := S1x2816x1024) ![0, 256 * c.val, 0] S1x256x1024.size (by intro a; fin_cases c <;> fin_cases a <;> decide))

theorem colsOf_apply (w : Vec Ideal S1x1024x2816 .bf16) (c : Fin 11) (k : Fin 1024) (f : Fin 256) :
    colsOf w c (ix3 0 k f) = w (ix3 0 k (Rows.col c f)) := by
  refine congrArg w (funext fun a => Fin.ext ?_)
  match a with
  | ⟨0, _⟩ => rfl
  | ⟨1, _⟩ => show 0 + 1 * k.val = k.val; omega
  | ⟨2, _⟩ => show 256 * c.val + 1 * f.val = c.val * 256 + f.val; omega

theorem rowsOf_apply (w : Vec Ideal S1x2816x1024 .bf16) (c : Fin 11) (f : Fin 256) (j : Fin 1024) :
    rowsOf w c (ix3 0 f j) = w (ix3 0 (Rows.col c f) j) := by
  refine congrArg w (funext fun a => Fin.ext ?_)
  match a with
  | ⟨0, _⟩ => rfl
  | ⟨1, _⟩ => show 256 * c.val + 1 * f.val = c.val * 256 + f.val; omega
  | ⟨2, _⟩ => show 0 + 1 * j.val = j.val; omega

/-- What the body stores of a tile, from the tile's attention output. -/
def finalV (o : Vec Ideal S1x512x1024 .bf16) (wo : Vec Ideal S1x1024x1024 .bf16) (bo : Vec Ideal S1x1024 .f32)
    (g1 : Vec Ideal S1x1x1024 .f32) (x : Vec Ideal S1x512x1024 .f32) (g : Vec Ideal S1x1024 .f32)
    (sh sc gate : Vec Ideal S1x1x1024 .f32) (w1 w3 : Vec Ideal S1x1024x2816 .bf16) (w2 : Vec Ideal S1x2816x1024 .bf16)
    (fg : Vec Ideal S1x1024 .f32) : Vec Ideal S1x512x1024 .f32 :=
  shapeCast S1x512x1024 (normV (layerV (mixV o wo bo g1 x) g sh sc gate (colsOf w1) (colsOf w3) (rowsOf w2)) fg)
    shapeCasts_S512x1024_S1x512x1024

/-- What the body stores, entry by entry. -/
theorem finalV_apply (o : Vec Ideal S1x512x1024 .bf16) (wo : Vec Ideal S1x1024x1024 .bf16) (bo : Vec Ideal S1x1024 .f32)
    (g1 : Vec Ideal S1x1x1024 .f32) (x : Vec Ideal S1x512x1024 .f32) (g : Vec Ideal S1x1024 .f32)
    (sh sc gate : Vec Ideal S1x1x1024 .f32) (w1 w3 : Vec Ideal S1x1024x2816 .bf16) (w2 : Vec Ideal S1x2816x1024 .bf16)
    (fg : Vec Ideal S1x1024 .f32) (r : Fin 512) (j : Fin 1024) :
    finalV o wo bo g1 x g sh sc gate w1 w3 w2 fg (ix3 0 r j : S1x512x1024.Idx)
      = Rows.norm (Rows.layer (Rows.mix (fun k => o (ix3 0 r k)) (fun k j => wo (ix3 0 k j)) (fun j => bo (ix2 0 j)) (fun j => g1 (ix3 0 0 j)) (fun j => x (ix3 0 r j)))
          (fun j => g (ix2 0 j)) (fun j => sh (ix3 0 0 j)) (fun j => sc (ix3 0 0 j)) (fun j => gate (ix3 0 0 j))
          (fun k f => w1 (ix3 0 k f)) (fun k f => w3 (ix3 0 k f)) (fun f j => w2 (ix3 0 f j))) (fun j => fg (ix2 0 j)) j := by
  have hm : ∀ j, mixV o wo bo g1 x (ix2 r j) = _ := fun j => mixV_apply o wo bo g1 x r j
  have hl : ∀ j, layerV (mixV o wo bo g1 x) g sh sc gate (colsOf w1) (colsOf w3) (rowsOf w2) (ix2 r j) = _ := fun j =>
    layerV_apply _ g sh sc gate _ _ _ (fun k f => w1 (ix3 0 k f)) (fun k f => w3 (ix3 0 k f)) (fun f j => w2 (ix3 0 f j))
      (colsOf_apply w1) (colsOf_apply w3) (rowsOf_apply w2) r j
  pointwise [finalV, normV_apply]
  simp only [hl, hm]

/-- The blocks loaded whole are the blocks. -/
theorem finalV_loads (o : Vec Ideal S1x512x1024 .bf16) (wo : Vec Ideal S1x1024x1024 .bf16) (bo : Vec Ideal S1x1024 .f32)
    (g1 : Vec Ideal S1x1x1024 .f32) (x : Vec Ideal S1x512x1024 .f32) (g : Vec Ideal S1x1024 .f32)
    (sh sc gate : Vec Ideal S1x1x1024 .f32) (w1 w3 : Vec Ideal S1x1024x2816 .bf16) (w2 : Vec Ideal S1x2816x1024 .bf16)
    (fg : Vec Ideal S1x1024 .f32) :
    finalV o (View.ld wo (Rect.unit (s := S1x1024x1024) ![0, 0, 0] S1x1024x1024.size inb_S1x1024x1024_S1x1024x1024_0_0_0)) (View.ld bo (Rect.unit (s := S1x1024) ![0, 0] S1x1024.size inb_S1x1024_S1x1024_0_0)) (View.ld g1 (Rect.unit (s := S1x1x1024) ![0, 0, 0] S1x1x1024.size inb_S1x1x1024_S1x1x1024_0_0_0)) (View.ld x (Rect.unit (s := S1x512x1024) ![0, 0, 0] S1x512x1024.size inb_S1x512x1024_S1x512x1024_0_0_0)) (View.ld g (Rect.unit (s := S1x1024) ![0, 0] S1x1024.size inb_S1x1024_S1x1024_0_0)) (View.ld sh (Rect.unit (s := S1x1x1024) ![0, 0, 0] S1x1x1024.size inb_S1x1x1024_S1x1x1024_0_0_0)) (View.ld sc (Rect.unit (s := S1x1x1024) ![0, 0, 0] S1x1x1024.size inb_S1x1x1024_S1x1x1024_0_0_0)) (View.ld gate (Rect.unit (s := S1x1x1024) ![0, 0, 0] S1x1x1024.size inb_S1x1x1024_S1x1x1024_0_0_0)) w1 w3 w2 (View.ld fg (Rect.unit (s := S1x1024) ![0, 0] S1x1024.size inb_S1x1024_S1x1024_0_0))
      = finalV o wo bo g1 x g sh sc gate w1 w3 w2 fg := by
  have z3 : (![0, 0, 0] : Fin 3 → ℕ) = fun _ => 0 := by funext a; fin_cases a <;> rfl
  have z2 : (![0, 0] : Fin 2 → ℕ) = fun _ => 0 := by funext a; fin_cases a <;> rfl
  rw [View.ld_unit_zero (S := S1x1024x1024) z3, View.ld_unit_zero (S := S1x1024) z2, View.ld_unit_zero (S := S1x1x1024) z3,
    View.ld_unit_zero (S := S1x512x1024) z3, View.ld_unit_zero (S := S1x1024) z2, View.ld_unit_zero (S := S1x1x1024) z3,
    View.ld_unit_zero (S := S1x1x1024) z3, View.ld_unit_zero (S := S1x1x1024) z3, View.ld_unit_zero (S := S1x1024) z2]

end Cert.KernelIdeal.Hand

end
-- ==== Proof.Attend.lean ====
/- One block of the kernel's attention, written once for every block: 128 query rows against 256 key rows, for the
   eight heads of one key/value group taken four lane pairs at a time, with the two heads of a pair side by side. -/
module

public import proofs.«01_k».proof.Proof.Gen.KernelIdeal.Skeleton

@[expose] public section

noncomputable section

namespace Cert.KernelIdeal.Hand

open Cert.KernelIdeal Cert.KernelIdeal.Gen
open Idealize.ShloMosaic

variable {F : FTy → Type} [FloatOps F] [Named F]

/-- Keys (or values) of a tile: the 128 rows before it and its own 512. -/
def joined (p : Vec F S1x128x128 .bf16) (c : Vec F S1x512x128 .bf16) : FVec F S640x128 .f32 :=
  extf .f32 (concatenate S640x128 0 [⟨S128x128, shapeCast S128x128 p shapeCasts_S1x128x128_S128x128⟩,
    ⟨S512x128, shapeCast S512x128 c shapeCasts_S1x512x128_S512x128⟩] concatenates_S128x128_S512x128_S640x128_d0) bitsLt_bf16_f32

/-- The lanes of the first half. -/
def low : IVec S640x128 1 :=
  cmpi .slt (iota .tc S640x128 32 [1] iota_S640x128_d1_w32) (broadcast S640x128 64#32)

/-- Zeros over a whole tile's keys. -/
def zeros : FVec F S640x128 .f32 := broadcast S640x128 (Scalar.ofBits .f32 0x00000000#32)

/-- The lanes of one group moved to the half a head of parity `par` uses, the other half zero. -/
def padded (x : FVec F S640x128 .f32) (g par : Fin 2) : FVec F S640x128 .bf16 :=
  match g, par with
  | 0, 0 => truncf .bf16 (select low x zeros) bitsLt_bf16_f32
  | 0, 1 => truncf .bf16 (select low zeros (dynamicRotate 1 64#32 none x rotates_S640x128_d1)) bitsLt_bf16_f32
  | 1, 0 => truncf .bf16 (select low (dynamicRotate 1 64#32 none x rotates_S640x128_d1) zeros) bitsLt_bf16_f32
  | 1, 1 => truncf .bf16 (select low zeros x) bitsLt_bf16_f32

/-- The 256 key rows a block of queries looks at. -/
def window (x : FVec F S640x128 .bf16) (b : Fin 4) : FVec F S256x128 .bf16 :=
  match b with
  | 0 => extractStridedSlice S256x128 ![0, 0] x slices_S640x128_o0_0_S256x128
  | 1 => extractStridedSlice S256x128 ![128, 0] x slices_S640x128_o128_0_S256x128
  | 2 => extractStridedSlice S256x128 ![256, 0] x slices_S640x128_o256_0_S256x128
  | 3 => extractStridedSlice S256x128 ![384, 0] x slices_S640x128_o384_0_S256x128

/-- One pair of heads' lanes of the queries. -/
def lanes (q : FVec F S128x1024 .bf16) (g : Fin 2) (p : Fin 4) : FVec F S128x128 .bf16 :=
  match g, p with
  | 0, 0 => extractStridedSlice S128x128 ![0, 0] q slices_S128x1024_o0_0_S128x128
  | 0, 1 => extractStridedSlice S128x128 ![0, 128] q slices_S128x1024_o0_128_S128x128
  | 0, 2 => extractStridedSlice S128x128 ![0, 256] q slices_S128x1024_o0_256_S128x128
  | 0, 3 => extractStridedSlice S128x128 ![0, 384] q slices_S128x1024_o0_384_S128x128
  | 1, 0 => extractStridedSlice S128x128 ![0, 512] q slices_S128x1024_o0_512_S128x128
  | 1, 1 => extractStridedSlice S128x128 ![0, 640] q slices_S128x1024_o0_640_S128x128
  | 1, 2 => extractStridedSlice S128x128 ![0, 768] q slices_S128x1024_o0_768_S128x128
  | 1, 3 => extractStridedSlice S128x128 ![0, 896] q slices_S128x1024_o0_896_S128x128

/-- The scores of four pairs of heads, one under the other, the two parities side by side. -/
def scores (q : Vec F S1x128x1024 .bf16) (k : Fin 2 → FVec F S256x128 .bf16) (bias : Vec F S1x1x512x512 .f32) (g : Fin 2) :
    FVec F S512x512 .f32 :=
  addf (matmul dot_S512x128_S512x128_S512x512_1_1_0_0_n_n none
      (concatenate S512x128 0 [⟨S128x128, lanes (shapeCast S128x1024 q shapeCasts_S1x128x1024_S128x1024) g 0⟩,
        ⟨S128x128, lanes (shapeCast S128x1024 q shapeCasts_S1x128x1024_S128x1024) g 1⟩,
        ⟨S128x128, lanes (shapeCast S128x1024 q shapeCasts_S1x128x1024_S128x1024) g 2⟩,
        ⟨S128x128, lanes (shapeCast S128x1024 q shapeCasts_S1x128x1024_S128x1024) g 3⟩]
        concatenates_S128x128_S128x128_S128x128_S128x128_S512x128_d0)
      (concatenate S512x128 0 [⟨S256x128, k 0⟩, ⟨S256x128, k 1⟩] concatenates_S256x128_S256x128_S512x128_d0)
      (constant S512x512 .f32 0x00000000#32))
    (shapeCast S512x512 bias shapeCasts_S1x1x512x512_S512x512)

/-- One head's scores. -/
def head (s : FVec F S512x512 .f32) (p : Fin 4) (par : Fin 2) : FVec F S128x256 .f32 :=
  match p, par with
  | 0, 0 => extractStridedSlice S128x256 ![0, 0] s slices_S512x512_o0_0_S128x256
  | 0, 1 => extractStridedSlice S128x256 ![0, 256] s slices_S512x512_o0_256_S128x256
  | 1, 0 => extractStridedSlice S128x256 ![128, 0] s slices_S512x512_o128_0_S128x256
  | 1, 1 => extractStridedSlice S128x256 ![128, 256] s slices_S512x512_o128_256_S128x256
  | 2, 0 => extractStridedSlice S128x256 ![256, 0] s slices_S512x512_o256_0_S128x256
  | 2, 1 => extractStridedSlice S128x256 ![256, 256] s slices_S512x512_o256_256_S128x256
  | 3, 0 => extractStridedSlice S128x256 ![384, 0] s slices_S512x512_o384_0_S128x256
  | 3, 1 => extractStridedSlice S128x256 ![384, 256] s slices_S512x512_o384_256_S128x256

/-- The sink in the base of the scores. -/
def base (sink : Elt F .f32) : F .f32 := Scalar.mulf sink (Named.named κ "log2e" 0x3FB8AA3B#32)

/-- The largest of a row's scores and the sink. -/
def peak (s : FVec F S128x256 .f32) (sink : Elt F .f32) : FVec F S128x1 .f32 :=
  maximumf (shapeCast S128x1 (multiReduction .maximumf [1] S128 s 0xFF800000#32 reduces_S128x256_S128 (.inl rfl) rfl) shapeCasts_S128_S128x1)
    (broadcast S128x1 (base sink))

/-- The powers of two of a row's scores below its peak. -/
def powers (s : FVec F S128x256 .f32) (sink : Elt F .f32) : FVec F S128x256 .f32 :=
  exp2 (subf s (broadcastTo S128x256 (peak s sink) broadcasts_S128x1_S128x256))

/-- One over the sum of a row's powers, the sink's among them. -/
def share (s : FVec F S128x256 .f32) (sink : Elt F .f32) : FVec F S128x1 .f32 :=
  divf (broadcast S128x1 (Scalar.ofBits .f32 0x3F800000#32))
    (addf (shapeCast S128x1 (multiReduction .add [1] S128 (powers s sink) 0x00000000#32 reduces_S128x256_S128 (.inl rfl) rfl) shapeCasts_S128_S128x1)
      (exp2 (subf (broadcast S128x1 (base sink)) (peak s sink))))

/-- One head's probabilities. -/
def weights (s : FVec F S128x256 .f32) (sink : Elt F .f32) : FVec F S128x256 .bf16 :=
  truncf .bf16 (mulf (powers s sink) (broadcastTo S128x256 (share s sink) broadcasts_S128x1_S128x256)) bitsLt_bf16_f32

/-- The probabilities of four heads of one parity, one under the other. -/
def stacked (s : FVec F S512x512 .f32) (sink : Fin 4 → Fin 2 → Elt F .f32) (par : Fin 2) : FVec F S512x256 .bf16 :=
  concatenate S512x256 0 [⟨S128x256, weights (head s 0 par) (sink 0 par)⟩, ⟨S128x256, weights (head s 1 par) (sink 1 par)⟩,
    ⟨S128x256, weights (head s 2 par) (sink 2 par)⟩, ⟨S128x256, weights (head s 3 par) (sink 3 par)⟩]
    concatenates_S128x256_S128x256_S128x256_S128x256_S512x256_d0

/-- The four pairs' outputs, one under the other. -/
def mixed (s : FVec F S512x512 .f32) (sink : Fin 4 → Fin 2 → Elt F .f32) (v : Fin 2 → FVec F S256x128 .bf16) : FVec F S512x128 .f32 :=
  addf (matmul dot_S512x256_S256x128_S512x128_1_0_0_1_n_n none (stacked s sink 0) (v 0) (constant S512x128 .f32 0x00000000#32))
    (matmul dot_S512x256_S256x128_S512x128_1_0_0_1_n_n none (stacked s sink 1) (v 1) (constant S512x128 .f32 0x00000000#32))

/-- The four pairs' outputs put side by side. -/
def beside (o : FVec F S512x128 .f32) : FVec F S128x512 .f32 :=
  concatenate S128x512 1 [⟨S128x128, extractStridedSlice S128x128 ![0, 0] o slices_S512x128_o0_0_S128x128⟩,
    ⟨S128x128, extractStridedSlice S128x128 ![128, 0] o slices_S512x128_o128_0_S128x128⟩,
    ⟨S128x128, extractStridedSlice S128x128 ![256, 0] o slices_S512x128_o256_0_S128x128⟩,
    ⟨S128x128, extractStridedSlice S128x128 ![384, 0] o slices_S512x128_o384_0_S128x128⟩]
    concatenates_S128x128_S128x128_S128x128_S128x128_S128x512_d1

/-- What one block stores. -/
def block (q : Vec F S1x128x1024 .bf16) (k v : FVec F S640x128 .f32) (bias : Vec F S1x1x512x512 .f32)
    (sink : Fin 4 → Fin 2 → Elt F .f32) (b : Fin 4) (g : Fin 2) : Vec F S1x128x512 .bf16 :=
  shapeCast S1x128x512 (truncf .bf16 (beside (mixed (scores q (fun par => window (padded k g par) b) bias g) sink
    fun par => window (padded v g par) b)) bitsLt_bf16_f32) shapeCasts_S128x512_S1x128x512

end Cert.KernelIdeal.Hand

end
-- ==== Proof.Laid.lean ====
/- The tile of attention outputs one run of the body leaves in the scratch buffer's half: eight blocks, each 128 rows of
   one key/value group's lanes. -/
module

public import proofs.«01_k».proof.Proof.Attend
public import proofs.«01_k».proof.Proof.Gen.KernelIdeal.Loops
public import Idealize.ShloMosaic.Lib.Pipeline.CanonAppend
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe

variable {F : FTy → Type} [FloatOps F] [Named F]

/-- The sinks of one group's heads, as the body loads them. -/
def sinks (x : Vec F S1x16 .f32) (g : Fin 2) (p : Fin 4) (par : Fin 2) : Elt F .f32 :=
  View.ld x (Rect.unit (s := S1x16) ![0, 8 * g.val + 2 * p.val + par.val] S1x1.size
    (by intro a; fin_cases g <;> fin_cases p <;> fin_cases par <;> fin_cases a <;> decide)) (Shape.Idx.first (by show 0 < S1x1.numel; rw [numel1_S1x1]; decide))

/-- One block's query rows, as the body loads them. -/
def queries (x : Vec F S1x512x1024 .bf16) (b : Fin 4) : Vec F S1x128x1024 .bf16 :=
  View.ld x (Rect.unit (s := S1x512x1024) ![0, 128 * b.val, 0] S1x128x1024.size
    (by intro a; fin_cases b <;> fin_cases a <;> decide))

/-- One block's bias, as the body loads it: the first block's has a place of its own. -/
def biases (i : grid0.Coords) (x : Vec F S2x2x512x512 .f32) (b : Fin 4) (g : Fin 2) : Vec F S1x1x512x512 .f32 :=
  match b, g with
  | 0, 0 => View.ld x (Rect.unit (s := S2x2x512x512) (k0_off4 i) S1x1x512x512.size (k0_off4_inb i))
  | 0, 1 => View.ld x (Rect.unit (s := S2x2x512x512) (k0_off6 i) S1x1x512x512.size (k0_off6_inb i))
  | ⟨_ + 1, _⟩, g => View.ld x (Rect.unit (s := S2x2x512x512) ![0, g.val, 0, 0] S1x1x512x512.size
    (by intro a; fin_cases g <;> fin_cases a <;> decide))

/-- A tile's keys or values, as the body loads and joins them. -/
def rowsIn (p : Vec F S1x128x128 .bf16) (c : Vec F S1x512x128 .bf16) : FVec F S640x128 .f32 :=
  joined (View.ld p (Rect.unit (s := S1x128x128) ![0, 0, 0] S1x128x128.size inb_S1x128x128_S1x128x128_0_0_0))
    (View.ld c (Rect.unit (s := S1x512x128) ![0, 0, 0] S1x512x128.size inb_S1x512x128_S1x512x128_0_0_0))

/-- The eight blocks of a tile. -/
def stored (i : grid0.Coords) (x0 : Vec F S1x16 .f32) (x1 : Vec F S1x512x1024 .bf16) (x2 : Vec F S1x128x128 .bf16) (x3 : Vec F S1x512x128 .bf16)
    (x4 : Vec F S1x128x128 .bf16) (x5 : Vec F S1x512x128 .bf16) (x6 : Vec F S2x2x512x512 .f32) (b : Fin 4) (g : Fin 2) : Vec F S1x128x512 .bf16 :=
  block (queries x1 b) (rowsIn x2 x3) (rowsIn x4 x5) (biases i x6 b g) (sinks x0 g) b g

/-- Eight blocks laid out as a tile. -/
def laid (V : Fin 4 → Fin 2 → Vec F S1x128x512 .bf16) (r : Fin 512) (j : Fin 1024) : Elt F .bf16 :=
  V ⟨r.val / 128, by have := r.isLt; omega⟩ ⟨j.val / 512, by have := j.isLt; omega⟩
    (ix3 0 ⟨r.val % 128, Nat.mod_lt _ (by decide)⟩ ⟨j.val % 512, Nat.mod_lt _ (by decide)⟩)

/-- A block is the tile at the block's place. -/
theorem laid_emb (V : Fin 4 → Fin 2 → Vec F S1x128x512 .bf16) (s : ℕ) (b : Fin 4) (g : Fin 2) (off : Fin 3 → ℕ)
    (inb : ∀ a, off a + S1x128x512.size a ≤ S2x512x1024.size a) (h : off = ![s, 128 * b.val, 512 * g.val]) (x : S1x128x512.Idx) :
    V b g x = laid V ((Rect.unit (s := S2x512x1024) off S1x128x512.size inb).emb x 1) ((Rect.unit (s := S2x512x1024) off S1x128x512.size inb).emb x 2) := by
  subst h
  have e1 : ((Rect.unit (s := S2x512x1024) ![s, 128 * b.val, 512 * g.val] S1x128x512.size inb).emb x 1).val = 128 * b.val + (x 1).val := by
    show 128 * b.val + 1 * (x 1).val = _; omega
  have e2 : ((Rect.unit (s := S2x512x1024) ![s, 128 * b.val, 512 * g.val] S1x128x512.size inb).emb x 2).val = 512 * g.val + (x 2).val := by
    show 512 * g.val + 1 * (x 2).val = _; omega
  have h1 : (x 1).val < 128 := (x 1).isLt
  have h2 : (x 2).val < 512 := (x 2).isLt
  have h0 : (x 0).val < 1 := (x 0).isLt
  have same : ∀ (b b' : Fin 4) (g g' : Fin 2) (z z' : S1x128x512.Idx), b = b' → g = g' → z = z' → V b g z = V b' g' z' := by
    rintro _ _ _ _ _ _ rfl rfl rfl; rfl
  refine same b _ g _ x _ (Fin.ext ?_) (Fin.ext ?_) (funext fun a => ?_)
  · show b.val = _ / 128; rw [e1]; omega
  · show g.val = _ / 512; rw [e2]; omega
  · match a with
    | ⟨0, _⟩ => exact Fin.ext (by show (x 0).val = 0; omega)
    | ⟨1, _⟩ => exact Fin.ext (by show (x 1).val = _ % 128; rw [e1]; omega)
    | ⟨2, _⟩ => exact Fin.ext (by show (x 2).val = _ % 512; rw [e2]; omega)

/-- A half of the scratch buffer after the eight blocks were stored in it. -/
theorem read_laid (v : View sig .tc .vmem S2x512x1024 .bf16) (f : BufTy.Contents (Elt F) v.ty) (V : Fin 4 → Fin 2 → Vec F S1x128x512 .bf16) (s : ℕ)
    (off : Fin 4 → Fin 2 → Fin 3 → ℕ) (inb : ∀ b g a, off b g a + S1x128x512.size a ≤ S2x512x1024.size a)
    (h : ∀ b g, off b g = ![s, 128 * b.val, 512 * g.val]) (L : List (View.Piece (Elt F) S2x512x1024 .bf16)) (y : S2x512x1024.Idx) (hy : (y 0).val = s) :
    v.read (Elt F) (v.writes (Elt F) f (⟨Rect.unit (off 3 1) S1x128x512.size (inb 3 1), V 3 1⟩ :: ⟨Rect.unit (off 3 0) S1x128x512.size (inb 3 0), V 3 0⟩
      :: ⟨Rect.unit (off 2 1) S1x128x512.size (inb 2 1), V 2 1⟩ :: ⟨Rect.unit (off 2 0) S1x128x512.size (inb 2 0), V 2 0⟩
      :: ⟨Rect.unit (off 1 1) S1x128x512.size (inb 1 1), V 1 1⟩ :: ⟨Rect.unit (off 1 0) S1x128x512.size (inb 1 0), V 1 0⟩
      :: ⟨Rect.unit (off 0 1) S1x128x512.size (inb 0 1), V 0 1⟩ :: ⟨Rect.unit (off 0 0) S1x128x512.size (inb 0 0), V 0 0⟩ :: L)) y
      = laid V (y 1) (y 2) := by
  have mem : ∀ b g, (y 1).val / 128 = b.val → (y 2).val / 512 = g.val → y ∈ (Rect.unit (s := S2x512x1024) (off b g) S1x128x512.size (inb b g)).set := by
    intro b g hb hg
    rw [Rect.mem_set_unit]
    rw [h b g]
    intro a
    match a with
    | ⟨0, _⟩ => exact ⟨hy.ge, by show (y 0).val < s + 1; omega⟩
    | ⟨1, _⟩ => exact ⟨by show 128 * b.val ≤ (y 1).val; omega, by show (y 1).val < 128 * b.val + 128; omega⟩
    | ⟨2, _⟩ => exact ⟨by show 512 * g.val ≤ (y 2).val; omega, by show (y 2).val < 512 * g.val + 512; omega⟩
  have hm : ∃ p ∈ ([⟨Rect.unit (off 3 1) S1x128x512.size (inb 3 1), V 3 1⟩, ⟨Rect.unit (off 3 0) S1x128x512.size (inb 3 0), V 3 0⟩,
      ⟨Rect.unit (off 2 1) S1x128x512.size (inb 2 1), V 2 1⟩, ⟨Rect.unit (off 2 0) S1x128x512.size (inb 2 0), V 2 0⟩,
      ⟨Rect.unit (off 1 1) S1x128x512.size (inb 1 1), V 1 1⟩, ⟨Rect.unit (off 1 0) S1x128x512.size (inb 1 0), V 1 0⟩,
      ⟨Rect.unit (off 0 1) S1x128x512.size (inb 0 1), V 0 1⟩, ⟨Rect.unit (off 0 0) S1x128x512.size (inb 0 0), V 0 0⟩] : List (View.Piece (Elt F) S2x512x1024 .bf16)), y ∈ p.1.set := by
    have h1 : (y 1).val < 512 := (y 1).isLt
    have h2 : (y 2).val < 1024 := (y 2).isLt
    have : ∃ b : Fin 4, ∃ g : Fin 2, (y 1).val / 128 = b.val ∧ (y 2).val / 512 = g.val := ⟨⟨(y 1).val / 128, by omega⟩, ⟨(y 2).val / 512, by omega⟩, rfl, rfl⟩
    obtain ⟨b, g, hb, hg⟩ := this
    refine ⟨⟨Rect.unit (off b g) S1x128x512.size (inb b g), V b g⟩, ?_, mem b g hb hg⟩
    fin_cases b <;> fin_cases g <;> simp
  rw [View.read_writes_apply_eq_canon v f y _ (by
    obtain ⟨p, hp, hy⟩ := hm
    exact ⟨p, List.mem_append_left L hp, hy⟩)]
  refine View.canon_append_of_pieces (fun y => laid V (y 1) (y 2)) L _ ?_ y hm
  have one : ∀ b g (x : S1x128x512.Idx), V b g x = laid V ((Rect.unit (s := S2x512x1024) (off b g) S1x128x512.size (inb b g)).emb x 1) ((Rect.unit (s := S2x512x1024) (off b g) S1x128x512.size (inb b g)).emb x 2) :=
    fun b g x => laid_emb V s b g _ _ (h b g) x
  intro p hp
  simp only [List.mem_cons, List.not_mem_nil, or_false] at hp
  rcases hp with rfl | rfl | rfl | rfl | rfl | rfl | rfl | rfl <;> exact one _ _

end Cert.KernelIdeal.Hand

end
-- ==== Proof.RunKernelIdeal.lean ====
/- The body of the attention and feed-forward kernel, run once: it gives the input blocks back, stores the finished tile
   its scratch buffer held before, and leaves the next tile's attention outputs in the buffer's other half. -/
module

public import proofs.«01_k».proof.Proof.Gen.KernelIdeal.Frame
public import proofs.«01_k».proof.Proof.Gen.KernelIdeal.Loops
public import proofs.«01_k».proof.Proof.Feed
public import proofs.«01_k».proof.Proof.Laid
public import Idealize.ShloMosaic.Lib.Pipeline.Frame
public import Idealize.ShloMosaic.Lib.Pipeline.DatRel
public import Idealize.ShloMosaic.Lib.Pipeline.ArrRel
public import Idealize.ShloMosaic.Lib.Claim
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

/-- A buffer held at contents of which something is known shows a block of which it is known. -/
theorem owns_such {sp : Space} {S : Shape} {e : EltTy} (c : Dev nD) (r : Memref sig .tc sp S e) (f : BufTy.Contents (Elt Ideal) r.view.ty)
    (P : (S.Idx → Elt Ideal e) → Prop) :
    iprop((r.view.loc (c : Thread nD τ) ↦[r.view.set]{fullShare} f : sProp 𝕄) ∗ ⌜P (r.view.read (Elt Ideal) f)⌝)
      ⊢ iprop(∃ X, ⌜P X⌝ ∗ owns (c : Thread nD τ) r fullShare X) := by
  unfold owns
  iintro ⟨H, %h⟩; iexists _; isplitr
  · ipureintro; exact h
  iexists f; isplitr; · ipureintro; rfl
  iexact H

/-- The same of a buffer held by its contents. -/
theorem held_such {sp : Space} {S : Shape} {e : EltTy} (c : Dev nD) (r : Memref sig .tc sp S e) (f : BufTy.Contents (Elt Ideal) r.view.ty)
    (P : BufTy.Contents (Elt Ideal) r.view.ty → Prop) :
    iprop((r.view.loc (c : Thread nD τ) ↦[r.view.set]{fullShare} f : sProp 𝕄) ∗ ⌜P f⌝)
      ⊢ iprop(∃ f, ⌜P f⌝ ∗ r.view.loc (c : Thread nD τ) ↦[r.view.set]{fullShare} f) := by
  iintro ⟨H, %h⟩; iexists f; isplitr
  · ipureintro; exact h
  iexact H

/-- After the first point neither loop that clears the scratch buffer runs. -/
theorem trips_t1 : ∀ i : grid0.Coords, 1 ≤ (i 0).val → Scf.trips (k0_t1_loop i).lb (k0_t1_loop i).ub (k0_t1_loop i).st = 0 := by
  decide +kernel

theorem trips_t2 : ∀ i : grid0.Coords, Scf.trips (k0_t2_loop i).lb (k0_t2_loop i).ub (k0_t2_loop i).st = 0 := by
  decide +kernel

/-- Where the body stores a block. -/
def offs (i : grid0.Coords) : Fin 4 → Fin 2 → Fin 3 → ℕ
  | 0, 0 => k0_off5 i
  | 0, 1 => k0_off7 i
  | 1, 0 => k0_off8 i
  | 1, 1 => k0_off9 i
  | 2, 0 => k0_off10 i
  | 2, 1 => k0_off11 i
  | 3, 0 => k0_off12 i
  | 3, 1 => k0_off13 i

theorem offs_eq (i : grid0.Coords) (b : Fin 4) (g : Fin 2) : offs i b g = ![(i 0).val % 2, 128 * b.val, 512 * g.val] := by
  have h : ∀ i : grid0.Coords, (Scalar.indexCast (Scalar.andi (BitVec.ofNat 32 (i 0).val) 1#32)).toNat = (i 0).val % 2 := by decide +kernel
  rw [← h i]
  match b, g with
  | 0, 0 | 0, 1 | 1, 0 | 1, 1 | 2, 0 | 2, 1 | 3, 0 | 3, 1 => rfl

theorem offs_inb (i : grid0.Coords) (b : Fin 4) (g : Fin 2) (a : Fin 3) : offs i b g a + S1x128x512.size a ≤ S2x512x1024.size a := by
  rw [offs_eq]
  fin_cases b <;> fin_cases g <;> fin_cases a <;> simp <;> omega

/-- The tile the scratch buffer's other half holds, as the body loads it. -/
def held (i : grid0.Coords) (X : Vec Ideal S2x512x1024 .bf16) : Vec Ideal S1x512x1024 .bf16 :=
  View.ld X (Rect.unit (s := S2x512x1024) (k0_off3 i) S1x512x1024.size (k0_off3_inb i))

/-- The tile, at an entry. -/
theorem held_apply (i : grid0.Coords) (X : Vec Ideal S2x512x1024 .bf16) (r : Fin 512) (j : Fin 1024) :
    held i X (ix3 0 r j) = X (ix3 ⟨1 - (i 0).val % 2, by omega⟩ r j) := by
  have h : ∀ i : grid0.Coords, k0_off3 i 0 = 1 - (i 0).val % 2 := by decide +kernel
  refine congrArg X (funext fun a => Fin.ext ?_)
  match a with
  | ⟨0, _⟩ => show k0_off3 i 0 + 1 * 0 = _; rw [h i]; rfl
  | ⟨1, _⟩ => show 0 + 1 * r.val = r.val; omega
  | ⟨2, _⟩ => show 0 + 1 * j.val = j.val; omega

/-- A store of a whole block, read back. -/
theorem read_store {sp : Space} {S : Shape} {e : EltTy} (v : View sig .tc sp S e) (f : BufTy.Contents (Elt Ideal) v.ty) {off : Fin S.rank → ℕ} (h : off = fun _ => 0)
    (inb : ∀ a, off a + S.size a ≤ S.size a) (X : S.Idx → Elt Ideal e) :
    v.read (Elt Ideal) (v.writes (Elt Ideal) f [⟨Rect.unit off S.size inb, X⟩]) = X := by
  funext y
  rw [View.read_writes_apply_eq_canon v f y _ ⟨_, List.mem_cons_self, View.mem_set_unit_zero h inb y⟩, View.canon_unit_zero h]

set_option maxHeartbeats 4000000 in
/-- One run of the body: the input blocks come back as they were, the output block with the
    tile the scratch buffer held finished (after the first point), the scratch buffer with this point's tile in its half. -/
theorem kernelRun (c : Dev nD) (E : Set ℕ) (i : grid0.Coords) (arg1 : Memref sig .tc .smem S1x16 .f32) (harg1 : arg1.IsWhole) (arg2 : Memref sig .tc .vmem S1x512x1024 .bf16) (harg2 : arg2.IsWhole) (arg3 : Memref sig .tc .vmem S1x128x128 .bf16) (harg3 : arg3.IsWhole) (arg4 : Memref sig .tc .vmem S1x512x128 .bf16) (harg4 : arg4.IsWhole) (arg5 : Memref sig .tc .vmem S1x128x128 .bf16) (harg5 : arg5.IsWhole) (arg6 : Memref sig .tc .vmem S1x512x128 .bf16) (harg6 : arg6.IsWhole) (arg7 : Memref sig .tc .vmem S2x2x512x512 .f32) (harg7 : arg7.IsWhole) (arg8 : Memref sig .tc .vmem S1x1024x1024 .bf16) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S1x512x1024 .f32) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1024x2816 .bf16) (harg16 : arg16.IsWhole) (arg17 : Memref sig .tc .vmem S1x1024x2816 .bf16) (harg17 : arg17.IsWhole) (arg18 : Memref sig .tc .vmem S1x2816x1024 .bf16) (harg18 : arg18.IsWhole) (arg19 : Memref sig .tc .vmem S1x1024 .f32) (harg19 : arg19.IsWhole) (arg20 : Memref sig .tc .vmem S1x512x1024 .f32) (harg20 : arg20.IsWhole) (arg21 : Memref sig .tc .vmem S2x512x1024 .bf16) (harg21 : arg21.IsWhole)
    (x0 : Vec Ideal S1x16 .f32) (x1 : Vec Ideal S1x512x1024 .bf16) (x2 : Vec Ideal S1x128x128 .bf16) (x3 : Vec Ideal S1x512x128 .bf16) (x4 : Vec Ideal S1x128x128 .bf16) (x5 : Vec Ideal S1x512x128 .bf16) (x6 : Vec Ideal S2x2x512x512 .f32) (x7 : Vec Ideal S1x1024x1024 .bf16) (x8 : Vec Ideal S1x1024 .f32) (x9 : Vec Ideal S1x1x1024 .f32) (x10 : Vec Ideal S1x512x1024 .f32) (x11 : Vec Ideal S1x1024 .f32) (x12 : Vec Ideal S1x1x1024 .f32) (x13 : Vec Ideal S1x1x1024 .f32) (x14 : Vec Ideal S1x1x1024 .f32) (x15 : Vec Ideal S1x1024x2816 .bf16) (x16 : Vec Ideal S1x1024x2816 .bf16) (x17 : Vec Ideal S1x2816x1024 .bf16) (x18 : Vec Ideal S1x1024 .f32) (f21 : BufTy.Contents (Elt Ideal) arg21.view.ty) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ X, owns (c : Thread nD τ) arg20 fullShare X) ∗ (arg21.view.loc (c : Thread nD τ) ↦[arg21.view.set]{fullShare} f21)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ X, ⌜1 ≤ (i 0).val → X = finalV (held i (arg21.view.read (Elt Ideal) f21)) x7 x8 x9 x10 x11 x12 x13 x14 x15 x16 x17 x18⌝ ∗ owns (c : Thread nD τ) arg20 fullShare X) ∗ (∃ f, ⌜∀ y : S2x512x1024.Idx, (y 0).val = (i 0).val % 2 → arg21.view.read (Elt Ideal) f y = laid (stored i x0 x1 x2 x3 x4 x5 x6) (y 1) (y 2)⌝ ∗ arg21.view.loc (c : Thread nD τ) ↦[arg21.view.set]{fullShare} f)) -∗ K ⟨⟩))
      ⊢ wp frame (wpE (defs₀ (F := Ideal)) Variants.none c none) E (cc0_b_attn_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_b_attn_ffn_eq_skeleton]; unfold cc0_b_attn_ffn_skel
  simp only [k0_part43_eq_skeleton]; unfold k0_part43_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d20, %f20, -, H20⟩, H21, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H20]
  · iapply owns_such
    isplitl [H20]; · iexact H20
    ipureintro
    intro h
    have z3 : (![0, 0, 0] : Fin 3 → ℕ) = fun _ => 0 := by funext a; fin_cases a <;> rfl
    refine (read_store _ _ z3 _ _).trans ?_
    have e1 := trips_t1 i h
    have e2 := trips_t2 i
    have whole : ∀ n1 n2, n1 = 0 → n2 = 0 → finalV (held i (arg21.view.read (Elt Ideal) (arg21.view.writes (Elt Ideal) f21
        (pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 n2
          ++ pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 n1))))
        (arg8.view.read (Elt Ideal) f7) (arg9.view.read (Elt Ideal) f8) (arg10.view.read (Elt Ideal) f9) (arg11.view.read (Elt Ideal) f10) (arg12.view.read (Elt Ideal) f11) (arg13.view.read (Elt Ideal) f12) (arg14.view.read (Elt Ideal) f13) (arg15.view.read (Elt Ideal) f14) (arg16.view.read (Elt Ideal) f15) (arg17.view.read (Elt Ideal) f16) (arg18.view.read (Elt Ideal) f17) (arg19.view.read (Elt Ideal) f18)
        = finalV (held i (arg21.view.read (Elt Ideal) f21)) (arg8.view.read (Elt Ideal) f7) (arg9.view.read (Elt Ideal) f8) (arg10.view.read (Elt Ideal) f9) (arg11.view.read (Elt Ideal) f10) (arg12.view.read (Elt Ideal) f11) (arg13.view.read (Elt Ideal) f12) (arg14.view.read (Elt Ideal) f13) (arg15.view.read (Elt Ideal) f14) (arg16.view.read (Elt Ideal) f15) (arg17.view.read (Elt Ideal) f16) (arg18.view.read (Elt Ideal) f17) (arg19.view.read (Elt Ideal) f18) := by
      rintro _ _ rfl rfl; rfl
    refine Eq.trans ?_ ((finalV_loads _ _ _ _ _ _ _ _ _ _ _ _ _).trans (whole _ _ e1 e2))
    rfl
  · iapply held_such
    isplitl [H21]; · iexact H21
    ipureintro
    intro y hy
    exact read_laid arg21.view f21 (stored i (arg1.view.read (Elt Ideal) f0) (arg2.view.read (Elt Ideal) f1) (arg3.view.read (Elt Ideal) f2) (arg4.view.read (Elt Ideal) f3) (arg5.view.read (Elt Ideal) f4) (arg6.view.read (Elt Ideal) f5) (arg7.view.read (Elt Ideal) f6))
      _ (offs i) (offs_inb i) (offs_eq i) _ y hy

end Cert.KernelIdeal.Hand

end
-- ==== Proof.FrameKernelIdeal.lean ====
/- The attention and feed-forward kernel's launch: what the body holds from grid point to grid point, its obligation at
   each point, and the run, which leaves the arguments as they were and every counter at zero. -/
module

public import proofs.«01_k».proof.Proof.Gen.KernelIdeal.Frame
public import proofs.«01_k».proof.Proof.Gen.KernelIdeal.Loops
public import Idealize.ShloMosaic.Lib.Pipeline.Frame
public import Idealize.ShloMosaic.Lib.Pipeline.DatRel
public import Idealize.ShloMosaic.Lib.Pipeline.ArrRel
public import Idealize.ShloMosaic.Lib.Claim
public import Idealize.ShloMosaic.Lib.Tactic
public import proofs.«01_k».proof.Proof.RunKernelIdeal

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-- The attention outputs of the tile point `t` reads. -/
def tileOf (c : Dev nD) (t : Fin cfg0.N) : Fin 512 → Fin 1024 → Elt Ideal .bf16 :=
  laid (stored (grid0.coords t) (iblk m c 0 t) (iblk m c 1 t) (iblk m c 2 t) (iblk m c 3 t) (iblk m c 4 t) (iblk m c 5 t) (iblk m c 6 t))

/-- The point before `t`. -/
def prev (t : Fin cfg0.N) : Fin cfg0.N := ⟨t.val - 1, lt_of_le_of_lt (Nat.sub_le _ _) t.isLt⟩

/-- What point `t` stores in its output block: the tile of the point before, finished. -/
def outOf (c : Dev nD) (t : Fin cfg0.N) : Vec Ideal S1x512x1024 .f32 :=
  finalV (fun z : S1x512x1024.Idx => tileOf m c (prev t) (z 1) (z 2)) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- Of the scratch buffer before point `n`: the half the point before wrote holds that point's tile. -/
def Inv (c : Dev nD) (n : ℕ) (f : Buf (Elt Ideal) ((c : Thread nD τ).loc cc0_scratch0)) : Prop :=
  ∀ t : Fin cfg0.N, t.val + 1 = n → ∀ y : S2x512x1024.Idx, (y 0).val = t.val % 2 →
    (Memref.whole cc0_scratch0).view.read (Elt Ideal) f y = tileOf m c t (y 1) (y 2)

/-- What the body holds besides its blocks before point `n`. -/
def Held (c : Dev nD) (n : ℕ) : sProp 𝕄 :=
  iprop((∃ f, ⌜Inv m c n f⌝ ∗ ((c : Thread nD τ).loc cc0_scratch0) ↦{fullShare} f) ∗ ∃ r, prngReg c r)

/-- What is said of the output block: after the first point it is the finished tile. -/
def Says (c : Dev nD) (w : Fin cfg0.W) (t : Fin cfg0.N) (X : (cfg0.win w).block.Idx → Elt Ideal (cfg0.win w).elt) : Prop :=
  match w, X with
  | ⟨19, _⟩, X => 1 ≤ t.val → X = outOf m c t
  | _, _ => True

/-- The proof data: the arrays as the region finds them, every input block left as found; the output is spoken of apart. -/
def dat (c : Dev nD) : Dat τ (Elt Ideal) Unit ℕ (UR sig nD τ) ℕ (cfgs 0) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => fun _ => Classical.arbitrary _
    | ⟨k + 20, h⟩ => absurd (show k + 20 < 20 from h) (by omega)
  Φ t := Held m c t.val
  q w := Pipeline.shareOf spec0 w
  owed _ := 0

/-- The one window spoken of apart: the output's. -/
def loose (w : Fin cfg0.W) : Bool := decide (w = 19)

/-- The data with what is said of the output. -/
abbrev rdat (c : Dev nD) : RDat τ (Elt Ideal) Unit ℕ (UR sig nD τ) ℕ (cfgs 0) c := (dat m c).toRRel loose (Says m c)

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) : (dat m c).after 5 t = iblk m c 5 t := by dsimp only [dat]
theorem after6 (c : Dev nD) (t : Fin cfg0.N) : (dat m c).after 6 t = iblk m c 6 t := by dsimp only [dat]
theorem after7 (c : Dev nD) (t : Fin cfg0.N) : (dat m c).after 7 t = iblk m c 7 t := by dsimp only [dat]
theorem after8 (c : Dev nD) (t : Fin cfg0.N) : (dat m c).after 8 t = iblk m c 8 t := by dsimp only [dat]
theorem after9 (c : Dev nD) (t : Fin cfg0.N) : (dat m c).after 9 t = iblk m c 9 t := by dsimp only [dat]
theorem after10 (c : Dev nD) (t : Fin cfg0.N) : (dat m c).after 10 t = iblk m c 10 t := by dsimp only [dat]
theorem after11 (c : Dev nD) (t : Fin cfg0.N) : (dat m c).after 11 t = iblk m c 11 t := by dsimp only [dat]
theorem after12 (c : Dev nD) (t : Fin cfg0.N) : (dat m c).after 12 t = iblk m c 12 t := by dsimp only [dat]
theorem after13 (c : Dev nD) (t : Fin cfg0.N) : (dat m c).after 13 t = iblk m c 13 t := by dsimp only [dat]
theorem after14 (c : Dev nD) (t : Fin cfg0.N) : (dat m c).after 14 t = iblk m c 14 t := by dsimp only [dat]
theorem after15 (c : Dev nD) (t : Fin cfg0.N) : (dat m c).after 15 t = iblk m c 15 t := by dsimp only [dat]
theorem after16 (c : Dev nD) (t : Fin cfg0.N) : (dat m c).after 16 t = iblk m c 16 t := by dsimp only [dat]
theorem after17 (c : Dev nD) (t : Fin cfg0.N) : (dat m c).after 17 t = iblk m c 17 t := by dsimp only [dat]
theorem after18 (c : Dev nD) (t : Fin cfg0.N) : (dat m c).after 18 t = iblk m c 18 t := by dsimp only [dat]

theorem before0 (c : Dev nD) (t : Fin cfg0.N) (d) : (dat m c).before 0 t d = iblk m c 0 t :=
  before0_0_of m (dat m c) (by dsimp only [dat]) (after0 m c) t d
theorem before1 (c : Dev nD) (t : Fin cfg0.N) (d) : (dat m c).before 1 t d = iblk m c 1 t :=
  before0_1_of m (dat m c) (by dsimp only [dat]) (after1 m c) t d
theorem before2 (c : Dev nD) (t : Fin cfg0.N) (d) : (dat m c).before 2 t d = iblk m c 2 t :=
  before0_2_of m (dat m c) (by dsimp only [dat]) (after2 m c) t d
theorem before3 (c : Dev nD) (t : Fin cfg0.N) (d) : (dat m c).before 3 t d = iblk m c 3 t :=
  before0_3_of m (dat m c) (by dsimp only [dat]) (after3 m c) t d
theorem before4 (c : Dev nD) (t : Fin cfg0.N) (d) : (dat m c).before 4 t d = iblk m c 4 t :=
  before0_4_of m (dat m c) (by dsimp only [dat]) (after4 m c) t d
theorem before5 (c : Dev nD) (t : Fin cfg0.N) (d) : (dat m c).before 5 t d = iblk m c 5 t :=
  before0_5_of m (dat m c) (by dsimp only [dat]) (after5 m c) t d
theorem before6 (c : Dev nD) (t : Fin cfg0.N) (d) : (dat m c).before 6 t d = iblk m c 6 t :=
  before0_6_of m (dat m c) (by dsimp only [dat]) (after6 m c) t d
theorem before7 (c : Dev nD) (t : Fin cfg0.N) (d) : (dat m c).before 7 t d = iblk m c 7 t :=
  before0_7_of m (dat m c) (by dsimp only [dat]) (after7 m c) t d
theorem before8 (c : Dev nD) (t : Fin cfg0.N) (d) : (dat m c).before 8 t d = iblk m c 8 t :=
  before0_8_of m (dat m c) (by dsimp only [dat]) (after8 m c) t d
theorem before9 (c : Dev nD) (t : Fin cfg0.N) (d) : (dat m c).before 9 t d = iblk m c 9 t :=
  before0_9_of m (dat m c) (by dsimp only [dat]) (after9 m c) t d
theorem before10 (c : Dev nD) (t : Fin cfg0.N) (d) : (dat m c).before 10 t d = iblk m c 10 t :=
  before0_10_of m (dat m c) (by dsimp only [dat]) (after10 m c) t d
theorem before11 (c : Dev nD) (t : Fin cfg0.N) (d) : (dat m c).before 11 t d = iblk m c 11 t :=
  before0_11_of m (dat m c) (by dsimp only [dat]) (after11 m c) t d
theorem before12 (c : Dev nD) (t : Fin cfg0.N) (d) : (dat m c).before 12 t d = iblk m c 12 t :=
  before0_12_of m (dat m c) (by dsimp only [dat]) (after12 m c) t d
theorem before13 (c : Dev nD) (t : Fin cfg0.N) (d) : (dat m c).before 13 t d = iblk m c 13 t :=
  before0_13_of m (dat m c) (by dsimp only [dat]) (after13 m c) t d
theorem before14 (c : Dev nD) (t : Fin cfg0.N) (d) : (dat m c).before 14 t d = iblk m c 14 t :=
  before0_14_of m (dat m c) (by dsimp only [dat]) (after14 m c) t d
theorem before15 (c : Dev nD) (t : Fin cfg0.N) (d) : (dat m c).before 15 t d = iblk m c 15 t :=
  before0_15_of m (dat m c) (by dsimp only [dat]) (after15 m c) t d
theorem before16 (c : Dev nD) (t : Fin cfg0.N) (d) : (dat m c).before 16 t d = iblk m c 16 t :=
  before0_16_of m (dat m c) (by dsimp only [dat]) (after16 m c) t d
theorem before17 (c : Dev nD) (t : Fin cfg0.N) (d) : (dat m c).before 17 t d = iblk m c 17 t :=
  before0_17_of m (dat m c) (by dsimp only [dat]) (after17 m c) t d
theorem before18 (c : Dev nD) (t : Fin cfg0.N) (d) : (dat m c).before 18 t d = iblk m c 18 t :=
  before0_18_of m (dat m c) (by dsimp only [dat]) (after18 m c) t d

/-- What the body finds at point `t`. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ d, owns (c : Thread nD τ) (st0_9 t) fullShare ((dat m c).before 9 t d))
    ∗ (∃ d, owns (c : Thread nD τ) (st0_10 t) fullShare ((dat m c).before 10 t d))
    ∗ (∃ d, owns (c : Thread nD τ) (st0_11 t) fullShare ((dat m c).before 11 t d))
    ∗ (∃ d, owns (c : Thread nD τ) (st0_12 t) fullShare ((dat m c).before 12 t d))
    ∗ (∃ d, owns (c : Thread nD τ) (st0_13 t) fullShare ((dat m c).before 13 t d))
    ∗ (∃ d, owns (c : Thread nD τ) (st0_14 t) fullShare ((dat m c).before 14 t d))
    ∗ (∃ d, owns (c : Thread nD τ) (st0_15 t) fullShare ((dat m c).before 15 t d))
    ∗ (∃ d, owns (c : Thread nD τ) (st0_16 t) fullShare ((dat m c).before 16 t d))
    ∗ (∃ d, owns (c : Thread nD τ) (st0_17 t) fullShare ((dat m c).before 17 t d))
    ∗ (∃ d, owns (c : Thread nD τ) (st0_18 t) fullShare ((dat m c).before 18 t d))
    ∗ (∃ Y, ⌜(rdat m c).Finds 19 t Y⌝ ∗ owns (c : Thread nD τ) (st0_19 t) fullShare Y))

/-- What the body leaves at point `t`. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t)
    ∗ owns (c : Thread nD τ) (st0_8 t) fullShare ((dat m c).after 8 t)
    ∗ owns (c : Thread nD τ) (st0_9 t) fullShare ((dat m c).after 9 t)
    ∗ owns (c : Thread nD τ) (st0_10 t) fullShare ((dat m c).after 10 t)
    ∗ owns (c : Thread nD τ) (st0_11 t) fullShare ((dat m c).after 11 t)
    ∗ owns (c : Thread nD τ) (st0_12 t) fullShare ((dat m c).after 12 t)
    ∗ owns (c : Thread nD τ) (st0_13 t) fullShare ((dat m c).after 13 t)
    ∗ owns (c : Thread nD τ) (st0_14 t) fullShare ((dat m c).after 14 t)
    ∗ owns (c : Thread nD τ) (st0_15 t) fullShare ((dat m c).after 15 t)
    ∗ owns (c : Thread nD τ) (st0_16 t) fullShare ((dat m c).after 16 t)
    ∗ owns (c : Thread nD τ) (st0_17 t) fullShare ((dat m c).after 17 t)
    ∗ owns (c : Thread nD τ) (st0_18 t) fullShare ((dat m c).after 18 t)
    ∗ (∃ X, ⌜1 ≤ t.val → X = outOf m c t⌝ ∗ owns (c : Thread nD τ) (st0_19 t) fullShare X))

/-- The scratch buffer, as the launch holds it and as the body does. -/
theorem scratch_in (c : Dev nD) (f : Buf (Elt Ideal) ((c : Thread nD τ).loc cc0_scratch0)) :
    (((c : Thread nD τ).loc cc0_scratch0) ↦{fullShare} f : sProp 𝕄)
      ⊢ ((Memref.whole cc0_scratch0).view.loc (c : Thread nD τ) ↦[(Memref.whole cc0_scratch0).view.set]{fullShare} f) := by
  rw [View.set_whole]

/-- And back. -/
theorem scratch_out (c : Dev nD) (f : Buf (Elt Ideal) ((c : Thread nD τ).loc cc0_scratch0)) :
    ((Memref.whole cc0_scratch0).view.loc (c : Thread nD τ) ↦[(Memref.whole cc0_scratch0).view.set]{fullShare} f : sProp 𝕄)
      ⊢ (((c : Thread nD τ).loc cc0_scratch0) ↦{fullShare} f) := by
  rw [View.set_whole]

/-- A point's coordinate is its number. -/
theorem coords_val : ∀ t : Fin cfg0.N, (grid0.coords t 0).val = t.val := by decide +kernel

/-- The half a point writes holds its tile afterwards. -/
theorem inv_next (c : Dev nD) (t : Fin cfg0.N) (f : Buf (Elt Ideal) ((c : Thread nD τ).loc cc0_scratch0))
    (h : ∀ y : S2x512x1024.Idx, (y 0).val = (grid0.coords t 0).val % 2 → (Memref.whole cc0_scratch0).view.read (Elt Ideal) f y
      = laid (stored (grid0.coords t) (iblk m c 0 t) (iblk m c 1 t) (iblk m c 2 t) (iblk m c 3 t) (iblk m c 4 t) (iblk m c 5 t) (iblk m c 6 t)) (y 1) (y 2)) : Inv m c (t.val + 1) f := by
  intro t' e y hy
  obtain rfl : t' = t := Fin.ext (by omega)
  exact h y (by rw [coords_val]; exact hy)

/-- What a point reads of the scratch buffer is the tile of the point before. -/
theorem held_eq (c : Dev nD) (t : Fin cfg0.N) (f : Buf (Elt Ideal) ((c : Thread nD τ).loc cc0_scratch0)) (hf : Inv m c t.val f) (h : 1 ≤ t.val) :
    finalV (held (grid0.coords t) ((Memref.whole cc0_scratch0).view.read (Elt Ideal) f)) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) = outOf m c t := by
  have e : held (grid0.coords t) ((Memref.whole cc0_scratch0).view.read (Elt Ideal) f) = fun z : S1x512x1024.Idx => tileOf m c (prev t) (z 1) (z 2) := by
    funext z
    obtain ⟨r, j, rfl⟩ : ∃ (r : Fin 512) (j : Fin 1024), z = ix3 0 r j := ⟨z 1, z 2, by
      funext a
      match a with
      | ⟨0, _⟩ => exact Fin.ext (by have : (z 0).val < 1 := (z 0).isLt; show (z 0).val = 0; omega)
      | ⟨1, _⟩ => rfl
      | ⟨2, _⟩ => rfl⟩
    rw [held_apply]
    refine hf (prev t) (by show t.val - 1 + 1 = t.val; omega) _ ?_
    show 1 - (grid0.coords t 0).val % 2 = (t.val - 1) % 2
    rw [coords_val]; omega
  rw [e, outOf]

set_option maxHeartbeats 400000 in
/-- The body at point `t` takes the one to the other. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18]
  rw [show (dat m c).Φ t.succ = Held m c (t.val + 1) from rfl, show (dat m c).Φ t.castSucc = Held m c t.val from rfl,
    show (dat m c).owesAt () t.succ = (dat m c).owesAt () t.castSucc from rfl,
    after0, after1, after2, after3, after4, after5, after6, after7, after8, after9, after10, after11, after12, after13, after14, after15, after16, after17, after18]
  unfold Held
  iintro ⟨⟨⟨%f21, %hf, H21⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%Y, -, H19⟩⟩
  iapply (kernelRun c Set.univ (grid0.coords t) _ _ _ _ _ _ _ _ _ _ _ _ _ _ _ _ _ _ _ _ _ _ _ _ _ _ _ _ _ _ _ _ _ _ _ _ _ _ _ _ (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) f21 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H21]; · iapply scratch_in; iexact H21
  iintro ⟨H0, H1, H2, H3, H4, H5, H6, H7, H8, H9, H10, H11, H12, H13, H14, H15, H16, H17, H18, ⟨%X, %hX, H19⟩, ⟨%f, %hf', H21⟩⟩
  isplitl [H21 Hr]
  · isplitl [H21]
    · iexists f; isplitr; · ipureintro; exact inv_next m c t f hf'
      iapply scratch_out; iexact H21
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexists X; isplitr; · ipureintro; exact fun h => (hX ((coords_val t).symm ▸ h)).trans (held_eq m c t f21 hf h)
  iexact H19

/-- The body table's row at point `t`'s buffers is the body there. -/
theorem entryRow (t : Fin cfg0.N) : defs₀ (F := Ideal) .tc cfg0.body (cfg0.bodyArgs t (cfg0.slots t)) = bodyAt0 t := by
  unfold defs₀; rw [Defs.onTc_tc]

/-- The body's obligation at every point. -/
theorem obligation (c : Dev nD) :
    BodyObligationRel (dat m c) (defs₀ (F := Ideal)) Variants.none () Set.univ loose (Says m c) := fun t => by
  rw [bigSep_W0, bigSep_W0, entryRow]
  exact triple_restated (sound_body m c t) rfl .rfl fun _ => .rfl

/-- Before the first point nothing is known of the scratch buffer. -/
theorem held_in (c : Dev nD) : Pipeline.ΦA spec0 c ⊢ (dat m c).Φ 0 := by
  rw [show (dat m c).Φ 0 = Held m c 0 from rfl, show Pipeline.ΦA spec0 c = iprop(Pipeline.scopedRest spec0 c ∗ ∃ r, prngReg c r) from rfl, scopedRest0_eq]
  unfold Held
  iintro ⟨⟨%f, H⟩, Hr⟩
  isplitl [H]
  · iexists f; isplitr; · ipureintro; exact fun t e => absurd e (by omega)
    iexact H
  iexact Hr

/-- After the last point the scratch buffer is given back. -/
theorem held_out (c : Dev nD) : (dat m c).Φ (Fin.last _) ⊢ Pipeline.ΦA spec0 c := by
  rw [show (dat m c).Φ (Fin.last _) = Held m c cfg0.N from rfl, show Pipeline.ΦA spec0 c = iprop(Pipeline.scopedRest spec0 c ∗ ∃ r, prngReg c r) from rfl, scopedRest0_eq]
  unfold Held
  iintro ⟨⟨%f, -, H⟩, Hr⟩
  isplitl [H]
  · iexists f; iexact H
  iexact Hr

set_option backward.isDefEq.respectTransparency.types false in
set_option maxHeartbeats 400000 in
/-- The run: every array at contents the data allow, every other buffer as found, every counter at zero. -/
theorem run : θ_run defs (onTc (τ := τ) (main (F := Ideal))) (s₀ m ρ)
    (fun r => RDat.FramePost (cfgs 0) (rdat m) (V m) r ∧ r.2.sem = fun _ => 0) :=
  RDat.θ_run_frame_track_shared (Q' := _) cfgs (0 : Fin 1) launch₀0 defs₀ Variants.none (rdat m) m ρ main
    (hbody := fun c => (obligation m c).toRRel) (hq := fun _ _ _ => rfl) (howed := fun _ _ => rfl) (V := V m)
    (hmain := hmain m Variants.none) (hA := fun _ _ => rfl) (hin := fun c => held_in m c) (hout := fun c => held_out m c) (hQ' := fun _ h => h)

/-- The arguments end as they began. -/
theorem kept (r : PUnit × MemSt nD τ sig (Elt Ideal)) (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (RDat.FramePost.arr_in h c 10 rfl).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

end Cert.KernelIdeal.Hand

end
-- ==== Proof.Host.lean ====
/- What the operations before the attention and feed-forward kernel leave in the arrays it reads, as expressions in the
   arguments. -/
module

public import proofs.«01_k».proof.Proof.Gen.KernelIdeal.Frame

@[expose] public section

set_option maxRecDepth 16384

noncomputable section

namespace Cert.KernelIdeal.Hand

open Cert.KernelIdeal Cert.KernelIdeal.Gen Idealize.ShloMosaic Idealize.ShloMosaic.TcCoe Idealize.SL.Sem

/-- One over the logarithm of two. -/
def unit : FVec Ideal S_ .f32 := Host.divf (constant (F := Ideal) S_ .f32 0x3F800000#32) (Host.log (constant (F := Ideal) S_ .f32 0x40000000#32))

/-- The queries scaled by an eighth and to base two. -/
def scaledQ (q : FVec Ideal S16x2048x1024 .f32) : FVec Ideal S16x2048x1024 .bf16 :=
  truncf .bf16 (mulf q (broadcastInDim S16x2048x1024 ![] bcast_S_S16x2048x1024 (mulf (constant (F := Ideal) S_ .f32 0x3E000000#32) unit))) bitsLt_bf16_f32

/-- Of two argument rows, how far the key lies before the query. -/
def dist : IVec S128x256 32 :=
  subi (broadcastInDim S128x256 ![0, 1] bcast_S128x1_S128x256_0_1
      (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- Whether the key is in the query's window. -/
def inWindow : IVec S128x256 1 :=
  andi (cmpi .sge dist (broadcastInDim S128x256 ![] bcast_S_S128x256 (constantI S_ 32 0#32)))
    (cmpi .slt dist (broadcastInDim S128x256 ![] bcast_S_S128x256 (constantI S_ 32 128#32)))

/-- Whether the key is of the query's own block. -/
def own : IVec S1x256 1 :=
  cmpi .sge (broadcastInDim S1x256 ![1] bcast_S256_S1x256_1 (iotaInDim S256 32 0)) (broadcastInDim S1x256 ![] bcast_S_S1x256 (constantI S_ 32 128#32))

/-- The bias to base two where `w` is on, minus infinity elsewhere. -/
def masked (w : IVec S128x256 1) (b : FVec Ideal S16x128x256 .f32) : FVec Ideal S16x128x256 .f32 :=
  select (broadcastInDim S16x128x256 ![1, 2] bcast_S128x256_S16x128x256_1_2 w)
    (mulf b (broadcastInDim S16x128x256 ![] bcast_S_S16x128x256 unit))
    (broadcastInDim S16x128x256 ![] bcast_S_S16x128x256 (constant (F := Ideal) S_ .f32 0xFF800000#32))

/-- Two biases of each head, laid out as the kernel reads them. -/
def laidOut (x y : FVec Ideal S16x128x256 .f32) : FVec Ideal S2x2x512x512 .f32 :=
  shapeCast S2x2x512x512 (transpose S2x2x4x128x2x256 [3, 0, 1, 4, 2, 5]
    (shapeCast S2x4x2x2x128x256 (concatenate S16x2x128x256 1
      [⟨S16x1x128x256, broadcastInDim S16x1x128x256 ![0, 2, 3] bcast_S16x128x256_S16x1x128x256_0_2_3 x⟩,
       ⟨S16x1x128x256, broadcastInDim S16x1x128x256 ![0, 2, 3] bcast_S16x128x256_S16x1x128x256_0_2_3 y⟩]
      concatenates_S16x1x128x256_S16x1x128x256_S16x2x128x256_d1) shapeCasts_S16x2x128x256_S2x4x2x2x128x256)
    transposes_S2x4x2x2x128x256_S2x2x4x128x2x256_3_0_1_4_2_5) shapeCasts_S2x2x4x128x2x256_S2x2x512x512

/-- Where the first block of a sequence is masked: outside the window, and before the sequence. -/
def inFirst : IVec S128x256 1 := andi inWindow (broadcastInDim S128x256 ![0, 1] bcast_S1x256_S128x256_0_1 own)

/-- The two biases of each head: a block's, and that of a sequence's first block. -/
def biasV (b : FVec Ideal S16x128x256 .f32) : FVec Ideal S2x2x512x512 .f32 := laidOut (masked inWindow b) (masked inFirst b)

/-- Part of the modulation vector, laid out as the kernel reads it. -/
def partV (p : ℕ) (h : S16x6144.Slices ![0, p] S16x1024) (x : FVec Ideal S16x6144 .f32) : FVec Ideal S16x1x1024 .f32 :=
  shapeCast S16x1x1024 (extractStridedSlice S16x1024 ![0, p] x h) shapeCasts_S16x1024_S16x1x1024

/-- An argument vector as one row. -/
def rowV (x : FVec Ideal S1024 .f32) : FVec Ideal S1x1024 .f32 := broadcastInDim S1x1024 ![1] bcast_S1024_S1x1024_1 x

variable (m : (ℓ : Loc nD τ sig) → Buf (Elt Ideal) ℓ) (c : Dev nD)

theorem host_sinks : V m c main_v62 = shapeCast S1x16 (m ((c : Thread nD τ).loc main_arg3)) shapeCasts_S16_S1x16 := rfl
theorem host_q : V m c main_v18 = scaledQ (m ((c : Thread nD τ).loc main_arg0)) := rfl
theorem host_k : V m c main_v19 = (truncf .bf16 (m ((c : Thread nD τ).loc main_arg1) : FVec Ideal S16x2048x128 .f32) bitsLt_bf16_f32 : FVec Ideal S16x2048x128 .bf16) := rfl
theorem host_v : V m c main_v20 = (truncf .bf16 (m ((c : Thread nD τ).loc main_arg2) : FVec Ideal S16x2048x128 .f32) bitsLt_bf16_f32 : FVec Ideal S16x2048x128 .bf16) := rfl
theorem host_wo : V m c main_v55 = (truncf .bf16 (m ((c : Thread nD τ).loc main_arg5) : FVec Ideal S2x1024x1024 .f32) bitsLt_bf16_f32 : FVec Ideal S2x1024x1024 .bf16) := rfl
theorem host_bo : V m c main_v56 = rowV (m ((c : Thread nD τ).loc main_arg6)) := rfl
theorem host_g1 : V m c main_v8 = partV 2048 slices_S16x6144_S16x1024_0_2048 (m ((c : Thread nD τ).loc main_arg9)) := rfl
theorem host_g : V m c main_v57 = rowV (m ((c : Thread nD τ).loc main_arg8)) := rfl
theorem host_sh : V m c main_v9 = partV 3072 slices_S16x6144_S16x1024_0_3072 (m ((c : Thread nD τ).loc main_arg9)) := rfl
theorem host_sc : V m c main_v10 = partV 4096 slices_S16x6144_S16x1024_0_4096 (m ((c : Thread nD τ).loc main_arg9)) := rfl
theorem host_gate : V m c main_v11 = partV 5120 slices_S16x6144_S16x1024_0_5120 (m ((c : Thread nD τ).loc main_arg9)) := rfl
theorem host_w1 : V m c main_v58 = (truncf .bf16 (m ((c : Thread nD τ).loc main_arg10) : FVec Ideal S4x1024x2816 .f32) bitsLt_bf16_f32 : FVec Ideal S4x1024x2816 .bf16) := rfl
theorem host_w3 : V m c main_v59 = (truncf .bf16 (m ((c : Thread nD τ).loc main_arg11) : FVec Ideal S4x1024x2816 .f32) bitsLt_bf16_f32 : FVec Ideal S4x1024x2816 .bf16) := rfl
theorem host_w2 : V m c main_v60 = (truncf .bf16 (m ((c : Thread nD τ).loc main_arg12) : FVec Ideal S4x2816x1024 .f32) bitsLt_bf16_f32 : FVec Ideal S4x2816x1024 .bf16) := rfl
theorem host_fg : V m c main_v61 = rowV (m ((c : Thread nD τ).loc main_arg13)) := rfl

end Cert.KernelIdeal.Hand

end
-- ==== Proof.HostBias.lean ====
/- What the operations before the attention and feed-forward kernel leave in its bias array: group by group, each from
   any contents. -/
module

public import proofs.«01_k».proof.Proof.Host
public import Idealize.ShloMosaic.Lib.Pipeline.Frame

@[expose] public section

set_option maxRecDepth 16384

noncomputable section

namespace Cert.KernelIdeal.Hand

open Cert.KernelIdeal Cert.KernelIdeal.Gen Idealize.ShloMosaic Idealize.ShloMosaic.TcCoe Idealize.SL.Sem

/-- A choice between an array and one value elsewhere. -/
def chosen (w : IVec S128x256 1) (x : FVec Ideal S16x128x256 .f32) (e : FVec Ideal S_ .f32) : FVec Ideal S16x128x256 .f32 :=
  select (broadcastInDim S16x128x256 ![1, 2] bcast_S128x256_S16x128x256_1_2 w) x (broadcastInDim S16x128x256 ![] bcast_S_S16x128x256 e)

section

variable (W : Valuation τ sig (Elt Ideal))

theorem group1 : StableHlo.after hostOps0_1 W (Proc.devRef .tc main_v42)
    = chosen (W (Proc.devRef .tc main_v34)) (W (Proc.devRef .tc main_v41)) (W (Proc.devRef .tc main_cst_5)) := rfl
theorem group1_inWindow : StableHlo.after hostOps0_1 W (Proc.devRef .tc main_v34) = W (Proc.devRef .tc main_v34) := rfl
theorem group1_own : StableHlo.after hostOps0_1 W (Proc.devRef .tc main_v38) = W (Proc.devRef .tc main_v38) := rfl
theorem group1_unit : StableHlo.after hostOps0_1 W (Proc.devRef .tc main_v13) = W (Proc.devRef .tc main_v13) := rfl
theorem group1_bias : StableHlo.after hostOps0_1 W (Proc.devRef .tc main_arg4) = W (Proc.devRef .tc main_arg4) := rfl

theorem group2_window : StableHlo.after hostOps0_2 W (Proc.devRef .tc main_v44)
    = andi (W (Proc.devRef .tc main_v34) : IVec S128x256 1) (broadcastInDim S128x256 ![0, 1] bcast_S1x256_S128x256_0_1 (W (Proc.devRef .tc main_v38) : IVec S1x256 1)) := rfl
theorem group2_scaled : StableHlo.after hostOps0_2 W (Proc.devRef .tc main_v47)
    = (mulf (W (Proc.devRef .tc main_arg4) : FVec Ideal S16x128x256 .f32) (broadcastInDim S16x128x256 ![] bcast_S_S16x128x256 (W (Proc.devRef .tc main_v13) : FVec Ideal S_ .f32)) : FVec Ideal S16x128x256 .f32) := rfl
theorem group2_least : StableHlo.after hostOps0_2 W (Proc.devRef .tc main_cst_6) = constant (F := Ideal) S_ .f32 0xFF800000#32 := rfl
theorem group2_later : StableHlo.after hostOps0_2 W (Proc.devRef .tc main_v42) = W (Proc.devRef .tc main_v42) := rfl

theorem group3 : StableHlo.after hostOps0_3 W (Proc.devRef .tc main_v48)
    = chosen (W (Proc.devRef .tc main_v44)) (W (Proc.devRef .tc main_v47)) (W (Proc.devRef .tc main_cst_6)) := rfl
theorem group3_later : StableHlo.after hostOps0_3 W (Proc.devRef .tc main_v42) = W (Proc.devRef .tc main_v42) := rfl

theorem group4 : StableHlo.after hostOps0_4 W (Proc.devRef .tc main_v54) = laidOut (W (Proc.devRef .tc main_v42)) (W (Proc.devRef .tc main_v48)) := rfl

end

variable (m : (ℓ : Loc nD τ sig) → Buf (Elt Ideal) ℓ) (c : Dev nD)

/-- What the buffers hold after the first group. -/
def front : Valuation τ sig (Elt Ideal) := StableHlo.after hostOps0 fun b => m (c, b)

theorem front_inWindow : front m c (Proc.devRef .tc main_v34) = inWindow := rfl
theorem front_own : front m c (Proc.devRef .tc main_v38) = own := rfl
theorem front_unit : front m c (Proc.devRef .tc main_v13) = unit := rfl
theorem front_bias : front m c (Proc.devRef .tc main_arg4) = m ((c : Thread nD τ).loc main_arg4) := rfl
theorem front_scaled : front m c (Proc.devRef .tc main_v41)
    = mulf (m ((c : Thread nD τ).loc main_arg4) : FVec Ideal S16x128x256 .f32) (broadcastInDim S16x128x256 ![] bcast_S_S16x128x256 unit) := rfl
theorem front_least : front m c (Proc.devRef .tc main_cst_5) = constant (F := Ideal) S_ .f32 0xFF800000#32 := rfl

/-- The bias array the kernel reads. -/
theorem host_bias : V m c main_v54 = biasV (m ((c : Thread nD τ).loc main_arg4)) := by
  have e : V m c main_v54 = StableHlo.after hostOps0_4 (StableHlo.after hostOps0_3 (StableHlo.after hostOps0_2 (StableHlo.after hostOps0_1 (front m c)))) (Proc.devRef .tc main_v54) := by
    show StableHlo.after (hostOps0 ++ (hostOps0_1 ++ (hostOps0_2 ++ (hostOps0_3 ++ (hostOps0_4 ++ []))))) (fun b => m (c, b)) (Proc.devRef .tc main_v54) = _
    rw [List.append_nil, StableHlo.after_append, StableHlo.after_append, StableHlo.after_append, StableHlo.after_append]
    rfl
  rw [e, group4, group3, group3_later, group2_window, group2_scaled, group2_least, group2_later, group1, group1_inWindow, group1_own, group1_unit, group1_bias,
    front_inWindow, front_own, front_unit, front_bias, front_scaled, front_least]
  rfl

end Cert.KernelIdeal.Hand

end
-- ==== Proof.Ref2.lean ====
/- The first layer's reference after its attention, read row by row: the projection with its residual, the modulated
   norm and the feed-forward are the row functions of `Rows`. -/
module

public import proofs.«01_k».proof.Proof.Rows
public import proofs.«01_k».proof.Proof.Gen.Reference2Ideal.Read

@[expose] public section

set_option maxRecDepth 16384

noncomputable section

namespace Cert.Reference2Ideal.Row

open Cert.Reference2Ideal Cert.Reference2Ideal.Gen Cert.Reference2Ideal.Read Idealize.ShloMosaic

variable (o : FVec Ideal S16x2048x1024 .bf16) (wo : FVec Ideal S2x1024x1024 .f32) (x : FVec Ideal S16x2048x1024 .f32)
  (g : FVec Ideal S1024 .f32) (mod : FVec Ideal S16x6144 .f32) (w1 w3 : FVec Ideal S4x1024x2816 .f32)
  (w2 : FVec Ideal S4x2816x1024 .f32)

/-- Part `p` (of six) of the modulation vector of batch entry `n`. -/
def part (n : Fin 16) (p : Fin 6) (j : Fin 1024) : EReal :=
  mod (ix2 n ⟨p.val * 1024 + j.val, by have := p.isLt; have := j.isLt; omega⟩)

/-- The mixed row. -/
theorem mixed (n : Fin 16) (i : Fin 2048) (j : Fin 1024) :
    val_main_v13 (F := Ideal) o wo x mod (ix3 n i j)
      = Rows.mix (fun k => o (ix3 n i k)) (fun k j => wo (ix3 0 k j)) (fun _ => 0) (part mod n 2) (fun j => x (ix3 n i j)) j := by
  pointwise [val_main_v13, val_main_v12, val_main_v11, val_main_v10, val_main_v6, val_main_v3, val_main_v2, val_main_v1, val_main_v0, Rows.mix, part]
  all_goals simp only [add_zero]

/-- The modulated norm of the mixed row. -/
theorem modulated (n : Fin 16) (i : Fin 2048) (j : Fin 1024) :
    val_main_v34 (F := Ideal) o wo x g mod (ix3 n i j)
      = Rows.modulated (fun j => val_main_v13 (F := Ideal) o wo x mod (ix3 n i j)) (fun j => g (ix1 j)) (part mod n 3) (part mod n 4) j := by
  pointwise [val_main_v34, val_main_v33, val_main_v32, val_main_v7, val_main_v31, val_main_v30, val_main_v29, val_main_v28, val_main_cst_2, val_main_v27, val_main_v8, val_main_v26, val_main_v25, val_main_v24, val_main_v23, val_main_v22, val_main_v21, val_main_v20, val_main_v19, val_main_cst_1, val_main_v18, val_main_v17, val_main_cst_0, val_main_v16, val_main_v15, val_main_cst, val_main_v14, Rows.modulated, Rows.norm, Rows.inv, part]
  all_goals rfl

/-- The feed-forward's activation. -/
theorem act (n : Fin 16) (i : Fin 2048) (f : Fin 2816) :
    val_main_v45 (F := Ideal) o wo x g mod w1 w3 (ix3 n i f)
      = Rows.act (fun k => val_main_v34 (F := Ideal) o wo x g mod (ix3 n i k)) (fun k => w1 (ix3 0 k f)) (fun k => w3 (ix3 0 k f)) := by
  pointwise [val_main_v45, val_main_v44, val_main_v43, val_main_v42, val_main_v39, val_main_v38, val_main_v37, val_main_v36, val_main_call0_v5, val_main_call0_v4, val_main_call0_cst_0, val_main_call0_v3, val_main_call0_v2, val_main_call0_cst, val_main_call0_v1, val_main_call0_v0, Rows.act]
  all_goals rfl

/-- The result's row. -/
theorem result (n : Fin 16) (i : Fin 2048) (j : Fin 1024) :
    val_main_v49 (F := Ideal) o wo x g mod w1 w3 w2 (ix3 n i j)
      = Rows.layer (Rows.mix (fun k => o (ix3 n i k)) (fun k j => wo (ix3 0 k j)) (fun _ => 0) (part mod n 2) (fun j => x (ix3 n i j)))
          (fun j => g (ix1 j)) (part mod n 3) (part mod n 4) (part mod n 5)
          (fun k f => w1 (ix3 0 k f)) (fun k f => w3 (ix3 0 k f)) (fun f j => w2 (ix3 0 f j)) j := by
  have hm : (fun j => val_main_v34 (F := Ideal) o wo x g mod (ix3 n i j)) = _ := funext fun j => modulated o wo x g mod n i j
  have hx : (fun j => val_main_v13 (F := Ideal) o wo x mod (ix3 n i j)) = _ := funext fun j => mixed o wo x mod n i j
  pointwise [val_main_v49, val_main_v48, val_main_v47, val_main_v46, val_main_v41, val_main_v40, val_main_v35, val_main_v9, act, Rows.layer, Rows.ffn, part]
  rw [hm, hx, mixed]
  all_goals rfl

end Cert.Reference2Ideal.Row

end
-- ==== Proof.Blocks.lean ====
/- The attention and feed-forward kernel's input blocks, entry by entry, as the arguments: the attention's follow the tile
   of the point, the feed-forward's the tile of the point before. -/
module

public import proofs.«01_k».proof.Proof.Host
public import proofs.«01_k».proof.Proof.Ref2
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
open Cert.Reference2Ideal.Row (part)

variable (m : (ℓ : Loc nD τ sig) → Buf (Elt Ideal) ℓ)

/-- Where each window stands at grid point `t`. -/
theorem idx : ∀ t : Fin cfg0.N,
    win0_0.index t = ![0, 0] ∧ win0_1.index t = ![min t.val 63 / 4, min t.val 63 % 4, 0]
    ∧ win0_2.index t = ![min t.val 63 / 4, min t.val 63 % 4 * 4 - 1, 0] ∧ win0_3.index t = ![min t.val 63 / 4, min t.val 63 % 4, 0]
    ∧ win0_4.index t = ![min t.val 63 / 4, min t.val 63 % 4 * 4 - 1, 0] ∧ win0_5.index t = ![min t.val 63 / 4, min t.val 63 % 4, 0]
    ∧ win0_6.index t = ![0, 0, 0, 0] ∧ win0_7.index t = ![1, 0, 0] ∧ win0_8.index t = ![0, 0]
    ∧ win0_9.index t = ![(t.val - 1) / 4, 0, 0] ∧ win0_10.index t = ![(t.val - 1) / 4, (t.val - 1) % 4, 0] ∧ win0_11.index t = ![0, 0]
    ∧ win0_12.index t = ![(t.val - 1) / 4, 0, 0] ∧ win0_13.index t = ![(t.val - 1) / 4, 0, 0] ∧ win0_14.index t = ![(t.val - 1) / 4, 0, 0]
    ∧ win0_15.index t = ![3, 0, 0] ∧ win0_16.index t = ![3, 0, 0] ∧ win0_17.index t = ![3, 0, 0] ∧ win0_18.index t = ![0, 0]
    ∧ win0_19.index t = ![(t.val - 1) / 4, (t.val - 1) % 4, 0] ∧ t.val < 65 :=
  (by decide +kernel : ∀ t : Fin grid0.N, _)

/-- A point counts at most 64. -/
theorem point_lt (t : Fin cfg0.N) : t.val < 65 := (idx t).2.2.2.2.2.2.2.2.2.2.2.2.2.2.2.2.2.2.2.2

/-- The batch entry of the tile the attention of point `t` works on. -/
def entry (t : Fin cfg0.N) : Fin 16 := ⟨min t.val 63 / 4, by omega⟩

/-- Row `r` of that tile among the rows of its batch entry. -/
def row (t : Fin cfg0.N) (r : Fin 512) : Fin 2048 := ⟨min t.val 63 % 4 * 512 + r.val, by have := r.isLt; omega⟩

/-- Row `r` of the 128 rows before that tile; before a sequence's first tile, the tile's own first rows. -/
def rowBefore (t : Fin cfg0.N) (r : Fin 128) : Fin 2048 := ⟨(min t.val 63 % 4 * 4 - 1) * 128 + r.val, by have := r.isLt; omega⟩

/-- The batch entry of the tile the feed-forward of point `t` works on. -/
def entryOut (t : Fin cfg0.N) : Fin 16 := ⟨(t.val - 1) / 4, by have := point_lt t; omega⟩

/-- Row `r` of that tile among the rows of its batch entry. -/
def rowOut (t : Fin cfg0.N) (r : Fin 512) : Fin 2048 := ⟨(t.val - 1) % 4 * 512 + r.val, by have := r.isLt; omega⟩

theorem in0 (c : Dev nD) (t : Fin cfg0.N) (h : Fin 16) : iblk m c 0 t ((ix2 0 h) : S1x16.Idx) = m ((c : Thread nD τ).loc main_arg3) (ix1 h) := by
  blk_simp [iblk]
  rw [host_sinks]
  pointwise []
  all_goals blk_ext [idx t]

theorem in1 (c : Dev nD) (t : Fin cfg0.N) (r : Fin 512) (k : Fin 1024) : iblk m c 1 t ((ix3 0 r k) : S1x512x1024.Idx)
    = scaledQ (m ((c : Thread nD τ).loc main_arg0)) (ix3 (entry t) (row t r) k) := by
  blk_simp [iblk]
  rw [host_q]
  blk_ext [idx t, entry, row]

theorem in2 (c : Dev nD) (t : Fin cfg0.N) (r : Fin 128) (k : Fin 128) : iblk m c 2 t ((ix3 0 r k) : S1x128x128.Idx) = m ((c : Thread nD τ).loc main_arg1) (ix3 (entry t) (rowBefore t r) k) := by
  blk_simp [iblk]
  rw [host_k]
  pointwise [entry, rowBefore]
  all_goals blk_ext [idx t]

theorem in3 (c : Dev nD) (t : Fin cfg0.N) (r : Fin 512) (k : Fin 128) : iblk m c 3 t ((ix3 0 r k) : S1x512x128.Idx) = m ((c : Thread nD τ).loc main_arg1) (ix3 (entry t) (row t r) k) := by
  blk_simp [iblk]
  rw [host_k]
  pointwise [entry, row]
  all_goals blk_ext [idx t]

theorem in4 (c : Dev nD) (t : Fin cfg0.N) (r : Fin 128) (k : Fin 128) : iblk m c 4 t ((ix3 0 r k) : S1x128x128.Idx) = m ((c : Thread nD τ).loc main_arg2) (ix3 (entry t) (rowBefore t r) k) := by
  blk_simp [iblk]
  rw [host_v]
  pointwise [entry, rowBefore]
  all_goals blk_ext [idx t]

theorem in5 (c : Dev nD) (t : Fin cfg0.N) (r : Fin 512) (k : Fin 128) : iblk m c 5 t ((ix3 0 r k) : S1x512x128.Idx) = m ((c : Thread nD τ).loc main_arg2) (ix3 (entry t) (row t r) k) := by
  blk_simp [iblk]
  rw [host_v]
  pointwise [entry, row]
  all_goals blk_ext [idx t]

theorem in7 (c : Dev nD) (t : Fin cfg0.N) (k j : Fin 1024) : iblk m c 7 t ((ix3 0 k j) : S1x1024x1024.Idx) = m ((c : Thread nD τ).loc main_arg5) (ix3 1 k j) := by
  blk_simp [iblk]
  rw [host_wo]
  pointwise []
  all_goals blk_ext [idx t]

theorem in8 (c : Dev nD) (t : Fin cfg0.N) (j : Fin 1024) : iblk m c 8 t ((ix2 0 j) : S1x1024.Idx) = m ((c : Thread nD τ).loc main_arg6) (ix1 j) := by
  blk_simp [iblk]
  rw [host_bo]
  pointwise [rowV]
  all_goals blk_ext [idx t]

theorem in9 (c : Dev nD) (t : Fin cfg0.N) (j : Fin 1024) : iblk m c 9 t ((ix3 0 0 j) : S1x1x1024.Idx) = part (m ((c : Thread nD τ).loc main_arg9)) (entryOut t) 2 j := by
  blk_simp [iblk]
  rw [host_g1]
  pointwise [partV, part, entryOut]
  all_goals blk_ext [idx t]

theorem in10 (c : Dev nD) (t : Fin cfg0.N) (r : Fin 512) (k : Fin 1024) : iblk m c 10 t ((ix3 0 r k) : S1x512x1024.Idx) = m ((c : Thread nD τ).loc main_arg7) (ix3 (entryOut t) (rowOut t r) k) := by
  blk_ext [iblk, V, idx t, entryOut, rowOut]

theorem in11 (c : Dev nD) (t : Fin cfg0.N) (j : Fin 1024) : iblk m c 11 t ((ix2 0 j) : S1x1024.Idx) = m ((c : Thread nD τ).loc main_arg8) (ix1 j) := by
  blk_simp [iblk]
  rw [host_g]
  pointwise [rowV]
  all_goals blk_ext [idx t]

theorem in12 (c : Dev nD) (t : Fin cfg0.N) (j : Fin 1024) : iblk m c 12 t ((ix3 0 0 j) : S1x1x1024.Idx) = part (m ((c : Thread nD τ).loc main_arg9)) (entryOut t) 3 j := by
  blk_simp [iblk]
  rw [host_sh]
  pointwise [partV, part, entryOut]
  all_goals blk_ext [idx t]

theorem in13 (c : Dev nD) (t : Fin cfg0.N) (j : Fin 1024) : iblk m c 13 t ((ix3 0 0 j) : S1x1x1024.Idx) = part (m ((c : Thread nD τ).loc main_arg9)) (entryOut t) 4 j := by
  blk_simp [iblk]
  rw [host_sc]
  pointwise [partV, part, entryOut]
  all_goals blk_ext [idx t]

theorem in14 (c : Dev nD) (t : Fin cfg0.N) (j : Fin 1024) : iblk m c 14 t ((ix3 0 0 j) : S1x1x1024.Idx) = part (m ((c : Thread nD τ).loc main_arg9)) (entryOut t) 5 j := by
  blk_simp [iblk]
  rw [host_gate]
  pointwise [partV, part, entryOut]
  all_goals blk_ext [idx t]

theorem in15 (c : Dev nD) (t : Fin cfg0.N) (k : Fin 1024) (f : Fin 2816) : iblk m c 15 t ((ix3 0 k f) : S1x1024x2816.Idx) = m ((c : Thread nD τ).loc main_arg10) (ix3 3 k f) := by
  blk_simp [iblk]
  rw [host_w1]
  pointwise []
  all_goals blk_ext [idx t]

theorem in16 (c : Dev nD) (t : Fin cfg0.N) (k : Fin 1024) (f : Fin 2816) : iblk m c 16 t ((ix3 0 k f) : S1x1024x2816.Idx) = m ((c : Thread nD τ).loc main_arg11) (ix3 3 k f) := by
  blk_simp [iblk]
  rw [host_w3]
  pointwise []
  all_goals blk_ext [idx t]

theorem in17 (c : Dev nD) (t : Fin cfg0.N) (f : Fin 2816) (j : Fin 1024) : iblk m c 17 t ((ix3 0 f j) : S1x2816x1024.Idx) = m ((c : Thread nD τ).loc main_arg12) (ix3 3 f j) := by
  blk_simp [iblk]
  rw [host_w2]
  pointwise []
  all_goals blk_ext [idx t]

theorem in18 (c : Dev nD) (t : Fin cfg0.N) (j : Fin 1024) : iblk m c 18 t ((ix2 0 j) : S1x1024.Idx) = m ((c : Thread nD τ).loc main_arg13) (ix1 j) := by
  blk_simp [iblk]
  rw [host_fg]
  pointwise [rowV]
  all_goals blk_ext [idx t]

end Cert.KernelIdeal.Hand

end
-- ==== Proof.Soft.lean ====
/- One row of sink attention over the extended reals: the kernel's form in base two and the reference's softmax over the
   row and its sink. -/
module

public import Idealize.ShloMosaic.Lib.Pointwise

@[expose] public section

noncomputable section

namespace Cert.Soft

open Idealize.ShloMosaic

/-- The largest of a row's scores and the sink's. -/
def peak (t : Fin 256 → EReal) (σ : EReal) : EReal :=
  max (Finset.fold max (Ideal.ofBits .f32 0xFF800000#32) t Finset.univ) σ

/-- The kernel's probability of entry `s`: powers of two, times one over their sum. -/
def prob (t : Fin 256 → EReal) (σ : EReal) (s : Fin 256) : EReal :=
  Ideal.exp2 (t s - peak t σ) * Ideal.div 1 ((∑ x : Fin 256, Ideal.exp2 (t x - peak t σ)) + Ideal.exp2 (σ - peak t σ))

/-- The kernel's row: the probabilities against the values. -/
def mixed (t v : Fin 256 → EReal) (σ : EReal) : EReal := ∑ s : Fin 256, prob t σ s * v s

end Cert.Soft

end
-- ==== Proof.BlockRead.lean ====
/- The attention block read entry by entry: each head's output lane is its sixty-four query lanes against the keys of its
   group, weighted as `Soft.mixed` says. -/
module

public import proofs.«01_k».proof.Proof.Attend
public import proofs.«01_k».proof.Proof.Soft

@[expose] public section

set_option maxRecDepth 16384

noncomputable section

namespace Cert.KernelIdeal.Hand

open Cert.KernelIdeal Cert.KernelIdeal.Gen
open Idealize.ShloMosaic

/-- Row `r` of the `p`-th of four blocks of 128. -/
def at4 (p : Fin 4) (r : Fin 128) : Fin 512 := ⟨128 * p.val + r.val, by have := p.isLt; have := r.isLt; omega⟩
/-- Entry `s` of one of two halves of 256. -/
def at2 (par : Fin 2) (s : Fin 256) : Fin 512 := ⟨256 * par.val + s.val, by have := par.isLt; have := s.isLt; omega⟩
/-- Lane `d` of a half of 64. -/
def half (par : Fin 2) (d : Fin 64) : Fin 128 := ⟨64 * par.val + d.val, by have := par.isLt; have := d.isLt; omega⟩
/-- Lane `x` of a pair of heads of a group. -/
def pairLane (g : Fin 2) (p : Fin 4) (x : Fin 128) : Fin 1024 :=
  ⟨512 * g.val + 128 * p.val + x.val, by have := g.isLt; have := p.isLt; have := x.isLt; omega⟩
/-- Row `s` of a block's 256 key rows. -/
def keyRow (b : Fin 4) (s : Fin 256) : Fin 640 := ⟨128 * b.val + s.val, by have := b.isLt; have := s.isLt; omega⟩

theorem low_apply (j : Fin 128) : IntOp.cmpi CmpIPredicate.slt (BitVec.ofNat 32 j.val) 64#32 = if j.val < 64 then 1#1 else 0#1 := by
  revert j; decide +kernel

/-- A padded lane: the group's lane in its half, zero in the other. -/
theorem padded_apply (x : FVec Ideal S640x128 .f32) (g par : Fin 2) (r : Fin 640) (h : Fin 2) (d : Fin 64) :
    padded x g par (ix2 r (half h d) : S640x128.Idx) = if h = par then x (ix2 r (half g d) : S640x128.Idx) else 0 := by
  have hd := d.isLt
  have lt : ∀ h : Fin 2, (half h d).val < 64 ↔ h = 0 := by intro h; fin_cases h <;> simp [half] <;> omega
  have rot0 : (⟨((half 0 d).val + 64) % 128, Nat.mod_lt _ (by decide)⟩ : Fin 128) = half 1 d := Fin.ext (by simp [half]; omega)
  have rot1 : (⟨((half 1 d).val + 64) % 128, Nat.mod_lt _ (by decide)⟩ : Fin 128) = half 0 d := Fin.ext (by simp [half]; omega)
  match g, par, h with
  | 0, 0, 0 | 0, 0, 1 | 0, 1, 0 | 0, 1, 1 | 1, 0, 0 | 1, 0, 1 | 1, 1, 0 | 1, 1, 1 =>
    pointwise [padded, low, zeros]
    simp [low_apply, lt, Scalar.select, rot0, rot1]

theorem window_apply (x : FVec Ideal S640x128 .bf16) (b : Fin 4) (s : Fin 256) (j : Fin 128) :
    window x b (ix2 s j : S256x128.Idx) = x (ix2 (keyRow b s) j : S640x128.Idx) := by
  match b with
  | 0 | 1 | 2 | 3 =>
    pointwise [window]
    simp [keyRow]

theorem lanes_apply (q : FVec Ideal S128x1024 .bf16) (g : Fin 2) (p : Fin 4) (r : Fin 128) (x : Fin 128) :
    lanes q g p (ix2 r x : S128x128.Idx) = q (ix2 r (pairLane g p x) : S128x1024.Idx) := by
  match g, p with
  | 0, 0 | 0, 1 | 0, 2 | 0, 3 | 1, 0 | 1, 1 | 1, 2 | 1, 3 =>
    pointwise [lanes]
    simp [pairLane]

theorem head_apply (s : FVec Ideal S512x512 .f32) (p : Fin 4) (par : Fin 2) (r : Fin 128) (j : Fin 256) :
    head s p par (ix2 r j : S128x256.Idx) = s (ix2 (at4 p r) (at2 par j) : S512x512.Idx) := by
  match p, par with
  | 0, 0 | 0, 1 | 1, 0 | 1, 1 | 2, 0 | 2, 1 | 3, 0 | 3, 1 =>
    pointwise [head]
    simp [at4, at2]

theorem beside_apply (o : FVec Ideal S512x128 .f32) (p : Fin 4) (r : Fin 128) (l : Fin 128) :
    beside o (ix2 r (at4 p l) : S128x512.Idx) = o (ix2 (at4 p r) l : S512x128.Idx) := by
  have hl := l.isLt
  have same : ∀ (a a' : Fin 512) (b b' : Fin 128), a.val = a'.val → b.val = b'.val → o (ix2 a b : S512x128.Idx) = o (ix2 a' b' : S512x128.Idx) := by
    intro a a' b b' ha hb; rw [Fin.ext ha, Fin.ext hb]
  pointwise [beside]
  match p with
  | 0 => exact (dif_pos (by show 128 * 0 + l.val < 128; omega)).trans <| same _ _ _ _ (by show r.val = 128 * 0 + r.val; omega) (by show 128 * 0 + l.val = l.val; omega)
  | 1 => exact (dif_neg (by show ¬ (128 * 1 + l.val < 128); omega)).trans <| (dif_pos (by show 128 * 1 + l.val - 128 < 128; omega)).trans <| same _ _ _ _ (by show 128 + r.val = 128 * 1 + r.val; omega) (by show 128 * 1 + l.val - 128 = l.val; omega)
  | 2 => exact (dif_neg (by show ¬ (128 * 2 + l.val < 128); omega)).trans <| (dif_neg (by show ¬ (128 * 2 + l.val - 128 < 128); omega)).trans <| (dif_pos (by show 128 * 2 + l.val - 128 - 128 < 128; omega)).trans <| same _ _ _ _ (by show 256 + r.val = 128 * 2 + r.val; omega) (by show 128 * 2 + l.val - 128 - 128 = l.val; omega)
  | 3 => exact (dif_neg (by show ¬ (128 * 3 + l.val < 128); omega)).trans <| (dif_neg (by show ¬ (128 * 3 + l.val - 128 < 128); omega)).trans <| (dif_neg (by show ¬ (128 * 3 + l.val - 128 - 128 < 128); omega)).trans <| same _ _ _ _ (by show 384 + r.val = 128 * 3 + r.val; omega) (by show 128 * 3 + l.val - 128 - 128 - 128 = l.val; omega)

theorem stacked_apply (s : FVec Ideal S512x512 .f32) (sink : Fin 4 → Fin 2 → Elt Ideal .f32) (par : Fin 2) (p : Fin 4) (r : Fin 128) (x : Fin 256) :
    stacked s sink par (ix2 (at4 p r) x : S512x256.Idx) = weights (head s p par) (sink p par) (ix2 r x : S128x256.Idx) := by
  have hr := r.isLt
  have same : ∀ (W : FVec Ideal S128x256 .bf16) (a : Fin 128), a.val = r.val → W (ix2 a x : S128x256.Idx) = W (ix2 r x : S128x256.Idx) := by
    intro W a ha; rw [Fin.ext ha]
  pointwise [stacked]
  match p with
  | 0 => exact (dif_pos (by show 128 * 0 + r.val < 128; omega)).trans <| same _ _ (by show 128 * 0 + r.val = r.val; omega)
  | 1 => exact (dif_neg (by show ¬ (128 * 1 + r.val < 128); omega)).trans <| (dif_pos (by show 128 * 1 + r.val - 128 < 128; omega)).trans <| same _ _ (by show 128 * 1 + r.val - 128 = r.val; omega)
  | 2 => exact (dif_neg (by show ¬ (128 * 2 + r.val < 128); omega)).trans <| (dif_neg (by show ¬ (128 * 2 + r.val - 128 < 128); omega)).trans <| (dif_pos (by show 128 * 2 + r.val - 128 - 128 < 128; omega)).trans <| same _ _ (by show 128 * 2 + r.val - 128 - 128 = r.val; omega)
  | 3 => exact (dif_neg (by show ¬ (128 * 3 + r.val < 128); omega)).trans <| (dif_neg (by show ¬ (128 * 3 + r.val - 128 < 128); omega)).trans <| (dif_neg (by show ¬ (128 * 3 + r.val - 128 - 128 < 128); omega)).trans <| same _ _ (by show 128 * 3 + r.val - 128 - 128 - 128 = r.val; omega)

/-- The values of a score row's probabilities, in the form of `Soft.prob`. -/
theorem weights_apply (s : FVec Ideal S128x256 .f32) (sink : Elt Ideal .f32) (r : Fin 128) (j : Fin 256) :
    weights s sink (ix2 r j : S128x256.Idx) = Soft.prob (fun x => s (ix2 r x : S128x256.Idx)) (base sink) j := by
  have hp : peak s sink (ix2 r 0 : S128x1.Idx) = Soft.peak (fun x => s (ix2 r x : S128x256.Idx)) (base sink) := by
    pointwise [peak, Soft.peak]
  have hw : ∀ x, powers s sink (ix2 r x : S128x256.Idx) = Ideal.exp2 (s (ix2 r x : S128x256.Idx) - Soft.peak (fun x => s (ix2 r x : S128x256.Idx)) (base sink)) := by
    intro x
    pointwise [powers, hp]
    all_goals rfl
  have hs : share s sink (ix2 r 0 : S128x1.Idx) = Ideal.div 1 ((∑ x : Fin 256, Ideal.exp2 (s (ix2 r x : S128x256.Idx) - Soft.peak (fun x => s (ix2 r x : S128x256.Idx)) (base sink)))
      + Ideal.exp2 (base sink - Soft.peak (fun x => s (ix2 r x : S128x256.Idx)) (base sink))) := by
    pointwise [share, hw, hp]
    all_goals rfl
  pointwise [weights, hw, hs, Soft.prob]

/-- Scores of one head: its query lanes against the padded keys, and the bias. -/
theorem scores_apply (q : Vec Ideal S1x128x1024 .bf16) (k : Fin 2 → FVec Ideal S256x128 .bf16) (bias : Vec Ideal S1x1x512x512 .f32) (g : Fin 2)
    (p : Fin 4) (par : Fin 2) (r : Fin 128) (s : Fin 256) :
    scores q k bias g (ix2 (at4 p r) (at2 par s) : S512x512.Idx)
      = (∑ x : Fin 128, q (ix3 0 r (pairLane g p x)) * k par (ix2 s x : S256x128.Idx)) + bias (ix4 0 0 (at4 p r) (at2 par s)) := by
  have hr := r.isLt
  have hs := s.isLt
  have hq : ∀ x, (concatenate S512x128 0 [⟨S128x128, lanes (shapeCast S128x1024 q shapeCasts_S1x128x1024_S128x1024 : FVec Ideal S128x1024 .bf16) g 0⟩,
        ⟨S128x128, lanes (shapeCast S128x1024 q shapeCasts_S1x128x1024_S128x1024 : FVec Ideal S128x1024 .bf16) g 1⟩,
        ⟨S128x128, lanes (shapeCast S128x1024 q shapeCasts_S1x128x1024_S128x1024 : FVec Ideal S128x1024 .bf16) g 2⟩,
        ⟨S128x128, lanes (shapeCast S128x1024 q shapeCasts_S1x128x1024_S128x1024 : FVec Ideal S128x1024 .bf16) g 3⟩]
        concatenates_S128x128_S128x128_S128x128_S128x128_S512x128_d0 : FVec Ideal S512x128 .bf16) (ix2 (at4 p r) x : S512x128.Idx) = q (ix3 0 r (pairLane g p x)) := by
    intro x
    have same : ∀ (p : Fin 4) (a : Fin 128), a.val = r.val → lanes (shapeCast S128x1024 q shapeCasts_S1x128x1024_S128x1024 : FVec Ideal S128x1024 .bf16) g p (ix2 a x : S128x128.Idx) = q (ix3 0 r (pairLane g p x)) := by
      intro p a ha; rw [Fin.ext ha, lanes_apply]; pointwise
    pointwise
    match p with
    | 0 => exact (dif_pos (by show 128 * 0 + r.val < 128; omega)).trans <| same _ _ (by show 128 * 0 + r.val = r.val; omega)
    | 1 => exact (dif_neg (by show ¬ (128 * 1 + r.val < 128); omega)).trans <| (dif_pos (by show 128 * 1 + r.val - 128 < 128; omega)).trans <| same _ _ (by show 128 * 1 + r.val - 128 = r.val; omega)
    | 2 => exact (dif_neg (by show ¬ (128 * 2 + r.val < 128); omega)).trans <| (dif_neg (by show ¬ (128 * 2 + r.val - 128 < 128); omega)).trans <| (dif_pos (by show 128 * 2 + r.val - 128 - 128 < 128; omega)).trans <| same _ _ (by show 128 * 2 + r.val - 128 - 128 = r.val; omega)
    | 3 => exact (dif_neg (by show ¬ (128 * 3 + r.val < 128); omega)).trans <| (dif_neg (by show ¬ (128 * 3 + r.val - 128 < 128); omega)).trans <| (dif_neg (by show ¬ (128 * 3 + r.val - 128 - 128 < 128); omega)).trans <| same _ _ (by show 128 * 3 + r.val - 128 - 128 - 128 = r.val; omega)
  have hk : ∀ x, concatenate S512x128 0 [⟨S256x128, k 0⟩, ⟨S256x128, k 1⟩] concatenates_S256x128_S256x128_S512x128_d0 (ix2 (at2 par s) x : S512x128.Idx)
      = k par (ix2 s x : S256x128.Idx) := by
    intro x
    have same : ∀ (W : FVec Ideal S256x128 .bf16) (a : Fin 256), a.val = s.val → W (ix2 a x : S256x128.Idx) = W (ix2 s x : S256x128.Idx) := by
      intro W a ha; rw [Fin.ext ha]
    pointwise
    match par with
    | 0 => exact (dif_pos (by show 256 * 0 + s.val < 256; omega)).trans (same _ _ (by show 256 * 0 + s.val = s.val; omega))
    | 1 => exact (dif_neg (by show ¬ (256 * 1 + s.val < 256); omega)).trans (same _ _ (by show 256 * 1 + s.val - 256 = s.val; omega))
  pointwise [scores, hq, hk]

/-- The four pairs' outputs: both parities' probabilities against the padded values. -/
theorem mixed_apply (s : FVec Ideal S512x512 .f32) (sink : Fin 4 → Fin 2 → Elt Ideal .f32) (v : Fin 2 → FVec Ideal S256x128 .bf16)
    (p : Fin 4) (r : Fin 128) (l : Fin 128) :
    mixed s sink v (ix2 (at4 p r) l : S512x128.Idx)
      = (∑ x : Fin 256, weights (head s p 0) (sink p 0) (ix2 r x : S128x256.Idx) * v 0 (ix2 x l : S256x128.Idx))
        + ∑ x : Fin 256, weights (head s p 1) (sink p 1) (ix2 r x : S128x256.Idx) * v 1 (ix2 x l : S256x128.Idx) := by
  pointwise [mixed, stacked_apply]

/-- A sum over a pair's lanes against a padded row is the sum over the half that is not zero. -/
theorem sum_half (par : Fin 2) (f : Fin 128 → EReal) (y : Fin 64 → EReal) (z : Fin 128 → EReal)
    (h : ∀ h d, z (half h d) = if h = par then y d else 0) : (∑ x : Fin 128, f x * z x) = ∑ d : Fin 64, f (half par d) * y d := by
  have e : ∀ (c : Fin 2) (d : Fin 64) (hh : c.val * 64 + d.val < 128), (⟨c.val * 64 + d.val, hh⟩ : Fin 128) = half c d := fun c d _ => Fin.ext (by simp [half]; omega)
  rw [Fin.sum_univ_tiles 2 64 rfl]
  simp only [e, h]
  rw [Fin.sum_univ_two]
  fin_cases par <;> simp

/-- One head's lane of a block's output. -/
theorem block_apply (q : Vec Ideal S1x128x1024 .bf16) (k v : FVec Ideal S640x128 .f32) (bias : Vec Ideal S1x1x512x512 .f32)
    (sink : Fin 4 → Fin 2 → Elt Ideal .f32) (b : Fin 4) (g : Fin 2) (r : Fin 128) (p : Fin 4) (par : Fin 2) (d : Fin 64) :
    block q k v bias sink b g (ix3 0 r (at4 p (half par d)) : S1x128x512.Idx)
      = Soft.mixed (fun s => (∑ e : Fin 64, q (ix3 0 r (pairLane g p (half par e))) * k (ix2 (keyRow b s) (half g e) : S640x128.Idx))
            + bias (ix4 0 0 (at4 p r) (at2 par s)))
          (fun s => v (ix2 (keyRow b s) (half g d) : S640x128.Idx)) (base (sink p par)) := by
  have hs : ∀ par s, scores q (fun par => window (padded k g par) b) bias g (ix2 (at4 p r) (at2 par s) : S512x512.Idx)
      = (∑ e : Fin 64, q (ix3 0 r (pairLane g p (half par e))) * k (ix2 (keyRow b s) (half g e) : S640x128.Idx)) + bias (ix4 0 0 (at4 p r) (at2 par s)) := by
    intro par s
    rw [scores_apply, sum_half par (fun x => q (ix3 0 r (pairLane g p x))) (fun e => k (ix2 (keyRow b s) (half g e) : S640x128.Idx))
      (fun x => window (padded k g par) b (ix2 s x : S256x128.Idx)) (fun h e => by rw [window_apply, padded_apply])]
  have hv : ∀ par' x, window (padded v g par') b (ix2 x (half par d) : S256x128.Idx) = if par = par' then v (ix2 (keyRow b x) (half g d) : S640x128.Idx) else 0 :=
    fun par' x => by rw [window_apply, padded_apply]
  have e : block q k v bias sink b g (ix3 0 r (at4 p (half par d)) : S1x128x512.Idx)
      = mixed (scores q (fun par => window (padded k g par) b) bias g) sink (fun par => window (padded v g par) b) (ix2 (at4 p r) (half par d) : S512x128.Idx) := by
    refine Eq.trans ?_ (beside_apply _ p r _)
    pointwise [block]
  rw [e, mixed_apply]
  simp only [weights_apply, head_apply, hs, hv]
  unfold Soft.mixed
  fin_cases par <;> simp

end Cert.KernelIdeal.Hand

end
-- ==== Proof.MaskRead.lean ====
/- The kernel's mask is the reference's. -/
module

public import proofs.«01_k».proof.Proof.Host
public import proofs.«01_k».proof.Proof.Gen.ReferenceIdeal.Read
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.Read

theorem window_eq : val_main_v26 (F := Ideal) = inWindow := rfl

theorem later : ∀ n : Fin 16, IntOp.cmpi CmpIPredicate.sgt (BitVec.ofNat 32 n.val) 0#32 = if n.val = 0 then 0#1 else 1#1 := by decide +kernel

/-- The reference's mask, of a sequence's first block and of the others. -/
theorem mask_eq (n : Fin 16) (r : Fin 128) (s : Fin 256) :
    val_main_v41 (F := Ideal) (ix3 n r s) = (if n.val = 0 then inFirst else inWindow) (ix2 r s) := by
  have h36 : val_main_v36 (F := Ideal) (ix2 n s) = (if n.val = 0 then 0#1 else 1#1) ||| own (ix2 0 s) := by
    pointwise [val_main_v36, val_main_v35, val_main_v34, val_main_v33, val_main_v32, val_main_v31, val_main_v30, val_main_v29, val_main_v28, val_main_v27,
      val_main_v14, val_main_c_4, val_main_c_5, own]
    rw [later]
    rfl
  have h41 : val_main_v41 (F := Ideal) (ix3 n r s) = val_main_v26 (F := Ideal) (ix2 r s) &&& val_main_v36 (F := Ideal) (ix2 n s) := by
    pointwise [val_main_v41, val_main_v40, val_main_v39, val_main_v38, val_main_v37]
    rfl
  have hf : inFirst (ix2 r s) = inWindow (ix2 r s) &&& own (ix2 0 s) := by
    pointwise [inFirst]
    rfl
  rw [h41, h36, window_eq]
  by_cases h : n.val = 0
  · rw [if_pos h, if_pos h, hf]
    generalize inWindow (ix2 r s) = w; generalize own (ix2 0 s) = o
    revert w o; decide
  · rw [if_neg h, if_neg h]
    generalize inWindow (ix2 r s) = w; generalize own (ix2 0 s) = o
    revert w o; decide

theorem own_eq : ∀ s : Fin 256, IntOp.cmpi CmpIPredicate.sge (BitVec.ofNat 32 s.val) 128#32 = 1#1 → 128 ≤ s.val := by decide +kernel

/-- Where the mask is on, the key's row is in the sequence. -/
theorem mask_row (n : Fin 16) (r : Fin 128) (s : Fin 256) (h : val_main_v41 (F := Ideal) (ix3 n r s) = 1#1) : 0 < n.val ∨ 128 ≤ s.val := by
  by_cases hn : n.val = 0
  · right
    rw [mask_eq, if_pos hn] at h
    have hf : inFirst (ix2 r s) = inWindow (ix2 r s) &&& IntOp.cmpi CmpIPredicate.sge (BitVec.ofNat 32 s.val) 128#32 := by
      pointwise [inFirst, own]
      rfl
    refine own_eq s ?_
    rw [hf] at h
    revert h
    generalize inWindow (ix2 r s) = w; generalize IntOp.cmpi CmpIPredicate.sge (BitVec.ofNat 32 s.val) 128#32 = o
    revert w o; decide
  · exact .inl (Nat.pos_of_ne_zero hn)

end Cert.KernelIdeal.Hand

end
-- ==== Proof.BiasRead.lean ====
/- The attention's bias and scales, entry by entry: the mask is the reference's, and everything is in base two. -/
module

public import proofs.«01_k».proof.Proof.HostBias
public import proofs.«01_k».proof.Proof.Blocks
public import proofs.«01_k».proof.Proof.BlockRead
public import proofs.«01_k».proof.Proof.Laid
public import proofs.«01_k».proof.Proof.MaskRead

@[expose] public section

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.Read

/-- The scale to base two. -/
theorem unit_eq : unit ix0 = (((Real.log 2)⁻¹ : ℝ) : EReal) := by
  have h2 : Ideal.ofBits .f32 0x40000000#32 = ((2 : ℝ) : EReal) := by
    simp [Ideal.ofBits, Ideal.ieee, -EReal.coe_mul]; norm_num
  have hl : Real.log 2 ≠ 0 := (Real.log_pos (by norm_num)).ne'
  show Ideal.div (Ideal.ofBits .f32 0x3F800000#32) (Ideal.log (Ideal.ofBits .f32 0x40000000#32)) = _
  have h1 : Ideal.ofBits .f32 0x3F800000#32 = ((1 : ℝ) : EReal) := by
    simp [Ideal.ofBits, Ideal.ieee, -EReal.coe_mul]; norm_num
  rw [h1, h2]
  have e : Ideal.log ((2 : ℝ) : EReal) = ((Real.log 2 : ℝ) : EReal) := by
    show (if (2 : ℝ) ≤ 0 then ⊥ else ((Real.log 2 : ℝ) : EReal)) = _
    rw [if_neg (by norm_num)]
  rw [e]
  unfold Ideal.div
  rw [if_neg (by exact_mod_cast hl), EReal.coe_one, one_mul, EReal.coe_inv]

/-- The reference's scale of the scores. -/
theorem eighth : Ideal.ofBits .f32 0x3E000000#32 = (((1 : ℝ) / 8 : ℝ) : EReal) := by
  simp [Ideal.ofBits, Ideal.ieee, -EReal.coe_mul]; norm_num

/-- The sink's base two scale. -/
theorem base_eq (σ : EReal) : base (F := Ideal) σ = σ * (((Real.log 2)⁻¹ : ℝ) : EReal) :=
  congrArg (σ * ·) (IdealRules.named_const.ideal_named_scalar _ _ _ _ rfl)

theorem scaledQ_apply (q : FVec Ideal S16x2048x1024 .f32) (b : Fin 16) (i : Fin 2048) (j : Fin 1024) :
    scaledQ q (ix3 b i j) = q (ix3 b i j) * (Ideal.ofBits .f32 0x3E000000#32 * unit ix0) := by
  pointwise [scaledQ]

theorem masked_apply (w : IVec S128x256 1) (b : FVec Ideal S16x128x256 .f32) (h : Fin 16) (r : Fin 128) (s : Fin 256) :
    masked w b (ix3 h r s) = Scalar.select (w (ix2 r s)) (b (ix3 h r s) * unit ix0) (Ideal.ofBits .f32 0xFF800000#32) := by
  pointwise [masked]

/-- Head `2p + par` of group `g`. -/
def headOf (g : Fin 2) (p : Fin 4) (par : Fin 2) : Fin 16 :=
  ⟨8 * g.val + 2 * p.val + par.val, by have := g.isLt; have := p.isLt; have := par.isLt; omega⟩

theorem laidOut_apply (x y : FVec Ideal S16x128x256 .f32) (z g : Fin 2) (p : Fin 4) (r : Fin 128) (par : Fin 2) (s : Fin 256) :
    laidOut x y (ix4 z g (at4 p r) (at2 par s)) = (if z.val = 1 then y else x) (ix3 (headOf g p par) r s) := by
  have hr := r.isLt; have hs := s.isLt; have hp := p.isLt; have hg := g.isLt; have hh := par.isLt; have hz := z.isLt
  have e1 : ∀ q, (⟨g.val * 8 + (at4 p r).val / 128 * 2 + (at2 par s).val / 256, q⟩ : Fin 16) = headOf g p par :=
    fun q => Fin.ext (by show g.val * 8 + (128 * p.val + r.val) / 128 * 2 + (256 * par.val + s.val) / 256 = 8 * g.val + 2 * p.val + par.val; omega)
  have e2 : ∀ q, (⟨(at4 p r).val % 128, q⟩ : Fin 128) = r := fun q => Fin.ext (by show (128 * p.val + r.val) % 128 = _; omega)
  have e3 : ∀ q, (⟨(at2 par s).val % 256, q⟩ : Fin 256) = s := fun q => Fin.ext (by show (256 * par.val + s.val) % 256 = _; omega)
  pointwise [laidOut]
  simp only [e1, e2, e3]
  by_cases h : z.val < 1
  · rw [dif_pos h, if_neg (by omega)]
  · rw [dif_neg h, if_pos (by omega)]

/-- Block `b` of the tile of point `t`, among a sequence's sixteen. -/
def blockOf (t : Fin cfg0.N) (b : Fin 4) : Fin 16 := ⟨min t.val 63 % 4 * 4 + b.val, by have := b.isLt; omega⟩

theorem first_places : ∀ t : Fin cfg0.N, k0_off4 (grid0.coords t) = ![if min t.val 63 % 4 = 0 then 1 else 0, 0, 0, 0]
    ∧ k0_off6 (grid0.coords t) = ![if min t.val 63 % 4 = 0 then 1 else 0, 1, 0, 0] :=
  (by decide +kernel : ∀ t : Fin grid0.N, _)

/-- One plane of the bias, read whole. -/
theorem plane (X : Vec Ideal S2x2x512x512 .f32) (off : Fin 4 → ℕ) (inb : ∀ a, off a + S1x1x512x512.size a ≤ S2x2x512x512.size a)
    (z g : Fin 2) (h : off = ![z.val, g.val, 0, 0]) (i j : Fin 512) :
    View.ld X (Rect.unit (s := S2x2x512x512) off S1x1x512x512.size inb) (ix4 0 0 i j : S1x1x512x512.Idx) = X (ix4 z g i j) := by
  subst h
  refine congrArg X (funext fun a => Fin.ext ?_)
  match a with
  | ⟨0, _⟩ => show z.val + 1 * 0 = z.val; omega
  | ⟨1, _⟩ => show g.val + 1 * 0 = g.val; omega
  | ⟨2, _⟩ => show 0 + 1 * i.val = i.val; omega
  | ⟨3, _⟩ => show 0 + 1 * j.val = j.val; omega

theorem biases_apply (t : Fin cfg0.N) (X : Vec Ideal S2x2x512x512 .f32) (b : Fin 4) (g : Fin 2) (i j : Fin 512) :
    biases (grid0.coords t) X b g (ix4 0 0 i j) = X (ix4 (if (blockOf t b).val = 0 then 1 else 0) g i j) := by
  have e : ∀ b : Fin 4, 0 < b.val → (blockOf t b).val ≠ 0 := fun b h => by show min t.val 63 % 4 * 4 + b.val ≠ 0; omega
  have e0 : ((blockOf t 0).val = 0) = (min t.val 63 % 4 = 0) := by
    refine propext ?_; show min t.val 63 % 4 * 4 + 0 = 0 ↔ _; omega
  have hz : ∀ (P : Prop) [Decidable P], (if P then 1 else 0 : ℕ) = ((if P then 1 else 0 : Fin 2)).val := fun P _ => by split <;> rfl
  match b, g with
  | 0, 0 => simp only [e0]; exact plane X _ _ _ 0 (by rw [(first_places t).1, hz]; rfl) i j
  | 0, 1 => simp only [e0]; exact plane X _ _ _ 1 (by rw [(first_places t).2, hz]; rfl) i j
  | ⟨n + 1, hn⟩, g => rw [if_neg (e _ (Nat.succ_pos n))]; exact plane X _ _ 0 g rfl i j

variable (m : (ℓ : Loc nD τ sig) → Buf (Elt Ideal) ℓ)

theorem in6 (c : Dev nD) (t : Fin cfg0.N) (z g : Fin 2) (i j : Fin 512) : iblk m c 6 t ((ix4 z g i j) : S2x2x512x512.Idx)
    = biasV (m ((c : Thread nD τ).loc main_arg4)) (ix4 z g i j) := by
  blk_simp [iblk]
  rw [host_bias]
  blk_ext [idx t]

/-- A score's bias, as the body reads it. -/
theorem bias_read (c : Dev nD) (B : FVec Ideal S16x128x256 .f32) (eB : m ((c : Thread nD τ).loc main_arg4) = B) (t : Fin cfg0.N) (b : Fin 4) (g : Fin 2) (p : Fin 4)
    (r : Fin 128) (par : Fin 2) (s : Fin 256) :
    biases (grid0.coords t) (iblk m c 6 t) b g (ix4 0 0 (at4 p r) (at2 par s))
      = Scalar.select (val_main_v41 (F := Ideal) (ix3 (blockOf t b) r s))
          (B (ix3 (headOf g p par) r s) * unit ix0) (Ideal.ofBits .f32 0xFF800000#32) := by
  rw [biases_apply, in6, mask_eq, eB]
  unfold biasV
  rw [laidOut_apply]
  by_cases h : (blockOf t b).val = 0
  · simp only [if_pos h]; exact masked_apply _ _ _ _ _
  · simp only [if_neg h]; exact masked_apply _ _ _ _ _

end Cert.KernelIdeal.Hand

end
-- ==== Proof.SoftEq.lean ====
/- The kernel's row of attention in base two is the reference's softmax row: on real scores either probability is
   the exponential over the sum of exponentials, whatever real number is taken off the scores first. -/
module

public import proofs.«01_k».proof.Proof.Soft
public import Idealize.ShloMosaic.Lib.IdealHost

@[expose] public section

noncomputable section

namespace Cert.Soft

open Idealize.ShloMosaic

/-- A row's logits with the sink's after them. -/
def withSink (l : Fin 256 → EReal) (σ : EReal) (x : Fin 257) : EReal := if e : x.val < 256 then l ⟨x.val, e⟩ else σ

/-- The largest of them. -/
def top (l : Fin 256 → EReal) (σ : EReal) : EReal :=
  max (Ideal.ofBits .f32 0xFF800000#32) (Finset.fold max (Ideal.ofBits .f32 0xFF800000#32) (withSink l σ) Finset.univ)

/-- The softmax of the logits and the sink's, at entry `s`. -/
def share (l : Fin 256 → EReal) (σ : EReal) (s : Fin 256) : EReal :=
  Ideal.div (Ideal.exp (l s - top l σ)) (∑ x : Fin 257, Ideal.exp (withSink l σ x - top l σ))

/-- The reference's row: the values against the softmax. -/
def softmax (l v : Fin 256 → EReal) (σ : EReal) : EReal := ∑ s : Fin 256, v s * share l σ s

theorem bits_bot : Ideal.ofBits .f32 0xFF800000#32 = ⊥ := by
  simp [Ideal.ofBits, Ideal.ieee]

theorem coe_sum {n : ℕ} (f : Fin n → ℝ) : (∑ s, (f s : EReal)) = ((∑ s, f s : ℝ) : EReal) := by
  induction n with
  | zero => simp
  | succ n ih => rw [Fin.sum_univ_castSucc, Fin.sum_univ_castSucc, ih, EReal.coe_add]

/-- A maximum of numbers below plus infinity, one of them real, is real. -/
theorem max_real {n : ℕ} (f : Fin n → EReal) (a : EReal) (hf : ∀ s, f s < ⊤) (ha : a < ⊤) (h : (∃ s, f s ≠ ⊥) ∨ a ≠ ⊥) :
    ∃ p : ℝ, max a (Finset.fold max ⊥ f Finset.univ) = p := by
  have lt : max a (Finset.fold max ⊥ f Finset.univ) < ⊤ := max_lt ha ((Finset.fold_max_lt _).2 ⟨bot_lt_top, fun s _ => hf s⟩)
  have ne : max a (Finset.fold max ⊥ f Finset.univ) ≠ ⊥ := by
    rcases h with ⟨s, hs⟩ | ha
    · exact fun e => hs (le_bot_iff.1 (e ▸ ((Finset.le_fold_max _).2 (.inr ⟨s, Finset.mem_univ s, le_rfl⟩)).trans (le_max_right _ _)))
    · exact fun e => ha (le_bot_iff.1 (e ▸ le_max_left _ _))
  exact ⟨_, (EReal.coe_toReal lt.ne ne).symm⟩

/-- The scores: `l` where `M` is on, minus infinity elsewhere. -/
def masked (M : Fin 256 → Prop) [DecidablePred M] (l : Fin 256 → ℝ) (s : Fin 256) : EReal := if M s then (l s : EReal) else ⊥

/-- The exponential of a score. -/
def weight (M : Fin 256 → Prop) [DecidablePred M] (l : Fin 256 → ℝ) (s : Fin 256) : ℝ := if M s then Real.exp (l s) else 0

variable (M : Fin 256 → Prop) [DecidablePred M] (l : Fin 256 → ℝ) (σ : ℝ)

theorem masked_lt (s : Fin 256) : masked M l s < ⊤ := by
  unfold masked; split
  · exact EReal.coe_lt_top _
  · exact bot_lt_top

theorem exp_masked (p : ℝ) (s : Fin 256) : Ideal.exp (masked M l s - p) = ((weight M l s * Real.exp (-p) : ℝ) : EReal) := by
  unfold masked weight; split
  · rw [← EReal.coe_sub, ← Real.exp_add]; rfl
  · rw [EReal.bot_sub, zero_mul]; rfl

theorem exp2_coe (y : ℝ) : Ideal.exp2 (((Real.log 2)⁻¹ * y : ℝ) : EReal) = ((Real.exp y : ℝ) : EReal) := by
  show ((Real.rpow 2 ((Real.log 2)⁻¹ * y) : ℝ) : EReal) = _
  have h : Real.log 2 ≠ 0 := (Real.log_pos (by norm_num)).ne'
  rw [Real.rpow_eq_pow, Real.rpow_def_of_pos (by norm_num), ← mul_assoc, mul_inv_cancel₀ h, one_mul]

theorem exp2_masked (p : ℝ) (s : Fin 256) : Ideal.exp2 (masked M (fun s => (Real.log 2)⁻¹ * l s) s - (((Real.log 2)⁻¹ * p : ℝ) : EReal))
    = ((weight M l s * Real.exp (-p) : ℝ) : EReal) := by
  unfold masked weight; split
  · rw [← EReal.coe_sub, ← mul_sub, exp2_coe, ← Real.exp_add, sub_eq_add_neg]
  · rw [EReal.bot_sub, zero_mul]; rfl

theorem weight_nonneg (s : Fin 256) : 0 ≤ weight M l s := by
  unfold weight; split
  · exact (Real.exp_pos _).le
  · exact le_rfl

theorem total_pos : 0 < (∑ s, weight M l s) + Real.exp σ :=
  add_pos_of_nonneg_of_pos (Finset.sum_nonneg fun s _ => weight_nonneg M l s) (Real.exp_pos σ)

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The kernel's probability. -/
theorem prob_eq (s : Fin 256) : prob (masked M fun s => (Real.log 2)⁻¹ * l s) (((Real.log 2)⁻¹ * σ : ℝ) : EReal) s
    = ((weight M l s / ((∑ s, weight M l s) + Real.exp σ) : ℝ) : EReal) := by
  have hc : Real.log 2 ≠ 0 := (Real.log_pos (by norm_num)).ne'
  obtain ⟨p, hp⟩ : ∃ p : ℝ, peak (masked M fun s => (Real.log 2)⁻¹ * l s) (((Real.log 2)⁻¹ * σ : ℝ) : EReal) = p := by
    unfold peak
    rw [max_comm, bits_bot]
    exact max_real _ _ (masked_lt M _) (EReal.coe_lt_top _) (.inr (EReal.coe_ne_bot _))
  obtain ⟨p, rfl⟩ : ∃ q : ℝ, p = (Real.log 2)⁻¹ * q := ⟨Real.log 2 * p, by rw [← mul_assoc, inv_mul_cancel₀ hc, one_mul]⟩
  unfold prob
  rw [hp]
  simp only [exp2_masked]
  rw [← EReal.coe_sub, ← mul_sub, exp2_coe, coe_sum, ← EReal.coe_add, sub_eq_add_neg, Real.exp_add, ← Finset.sum_mul, ← add_mul, ← EReal.coe_one,
    div_coe _ _ (mul_pos (total_pos M l σ) (Real.exp_pos _)).ne', ← EReal.coe_mul]
  have h1 := (total_pos M l σ).ne'
  have h2 := (Real.exp_pos (-p)).ne'
  congr 1
  field_simp

/-- The reference's probability. -/
theorem share_eq (s : Fin 256) : share (masked M l) (σ : EReal) s = ((weight M l s / ((∑ s, weight M l s) + Real.exp σ) : ℝ) : EReal) := by
  obtain ⟨p, hp⟩ : ∃ p : ℝ, top (masked M l) (σ : EReal) = p := by
    unfold top
    rw [bits_bot]
    refine max_real _ _ (fun x => ?_) bot_lt_top (.inl ⟨Fin.last 256, ?_⟩)
    · unfold withSink; split
      · exact masked_lt M l _
      · exact EReal.coe_lt_top _
    · exact EReal.coe_ne_bot _
  have first : ∀ s : Fin 256, withSink (masked M l) (σ : EReal) s.castSucc = masked M l s := fun s => dif_pos s.isLt
  have last : withSink (masked M l) (σ : EReal) (Fin.last 256) = (σ : EReal) := rfl
  unfold share
  rw [hp, Fin.sum_univ_castSucc]
  simp only [first, last, exp_masked]
  have hs : Ideal.exp ((σ : EReal) - (p : EReal)) = ((Real.exp σ * Real.exp (-p) : ℝ) : EReal) := by
    rw [← EReal.coe_sub, ← Real.exp_add]; rfl
  rw [hs, coe_sum, ← EReal.coe_add, ← Finset.sum_mul, ← add_mul, div_coe _ _ (mul_pos (total_pos M l σ) (Real.exp_pos _)).ne',
    mul_div_mul_right _ _ (Real.exp_pos (-p)).ne']

/-- The two rows agree; the values need agree only where the mask is on. -/
theorem mixed_eq (v w : Fin 256 → EReal) (h : ∀ s, M s → v s = w s) :
    mixed (masked M fun s => (Real.log 2)⁻¹ * l s) v (((Real.log 2)⁻¹ * σ : ℝ) : EReal) = softmax (masked M l) w σ := by
  refine Finset.sum_congr rfl fun s _ => ?_
  rw [prob_eq, share_eq, mul_comm]
  by_cases hM : M s
  · rw [h s hM]
  · have z : weight M l s = 0 := if_neg hM
    rw [z, zero_div, EReal.coe_zero, mul_zero, mul_zero]

end Cert.Soft

end
-- ==== Proof.RefMax.lean ====
/- The greatest logit of a row of the last layer's reference attention. -/
module

public import proofs.«01_k».proof.Proof.SoftEq
public import proofs.«01_k».proof.Proof.Gen.ReferenceIdeal.Read
public import Idealize.ShloMosaic.Lib.Pointwise

@[expose] public section

set_option maxRecDepth 16384

noncomputable section

/-- A host maximum over lines: the entries dropping to `j` are the line's. -/
theorem Cert.Soft.reduce_line {s t u : Idealize.ShloMosaic.Shape} {axes : List (Fin s.rank)} {n : ℕ} (h : s.ReducesTo axes t) (hu : 0 < u.numel) (j : t.Idx)
    (line : Fin n → s.Idx) (inj : Function.Injective line) (fib : ∀ i, h.drop i = j ↔ ∃ x, line x = i) (y : s.Idx → EReal) (init : u.Idx → EReal) :
    Idealize.ShloMosaic.Host.reduce max y init h hu j
      = Finset.fold max (init (Idealize.ShloMosaic.Shape.Idx.first hu)) (fun x => y (line x)) Finset.univ :=
  (Idealize.ShloMosaic.Host.reduce_eq_fold max y init h hu j).trans (Finset.fold_filter_eq_fold_of_fiber max _ line inj fib _ y)

namespace Cert.ReferenceIdeal.Row

open Cert.ReferenceIdeal Cert.ReferenceIdeal.Gen Cert.ReferenceIdeal.Read Idealize.ShloMosaic

variable (q : FVec Ideal S16x2048x1024 .f32) (k v : FVec Ideal S16x2048x128 .f32) (sk : FVec Ideal S16 .f32) (bias : FVec Ideal S16x128x256 .f32)

/-- The entries that drop to a row are the row's. -/
theorem row_fiber (b n : Fin 16) (g : Fin 2) (h : Fin 8) (r : Fin 128) (i : S16x16x2x8x128x257.Idx) :
    reducesTo_S16x16x2x8x128x257_S16x16x2x8x128_d5.drop i = (ix5 b n g h r : S16x16x2x8x128.Idx) ↔ ∃ x : Fin 257, (ix6 b n g h r x : S16x16x2x8x128x257.Idx) = i := by
  constructor
  · intro e
    refine ⟨i 5, funext fun a => Fin.ext ?_⟩
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨x, rfl⟩
    funext a
    match a with
    | ⟨0, _⟩ => rfl
    | ⟨1, _⟩ => rfl
    | ⟨2, _⟩ => rfl
    | ⟨3, _⟩ => rfl
    | ⟨4, _⟩ => rfl

/-- Entries of one row are told apart by their last coordinate. -/
theorem row_inj (b n : Fin 16) (g : Fin 2) (h : Fin 8) (r : Fin 128) : Function.Injective fun x : Fin 257 => (ix6 b n g h r x : S16x16x2x8x128x257.Idx) :=
  fun x y e => Fin.ext (congrArg Fin.val (congrFun e 5))

theorem lowest (i : S_.Idx) : val_main_cst_7 (F := Ideal) i = Ideal.ofBits .f32 0xFF800000#32 := val_main_cst_7_apply i

theorem row_max (y : S16x16x2x8x128x257.Idx → EReal) (init : S_.Idx → EReal) (b n : Fin 16) (g : Fin 2) (h : Fin 8) (r : Fin 128) :
    Host.reduce max y init reducesTo_S16x16x2x8x128x257_S16x16x2x8x128_d5 h_S_ (ix5 b n g h r : S16x16x2x8x128.Idx)
      = Finset.fold max (init (Shape.Idx.first h_S_)) (fun x : Fin 257 => y (ix6 b n g h r x)) Finset.univ :=
  Cert.Soft.reduce_line (n := 257) reducesTo_S16x16x2x8x128x257_S16x16x2x8x128_d5 h_S_ (ix5 b n g h r) (fun x : Fin 257 => ix6 b n g h r x) (row_inj b n g h r)
    (row_fiber b n g h r) y init

theorem max_op : (FloatOps.maximumf (F := Ideal) (φ := .f32)) = (max : EReal → EReal → EReal) := rfl

/-- A row's greatest entry. -/
theorem greatest (b n : Fin 16) (g : Fin 2) (h : Fin 8) (r : Fin 128) : val_main_v51 (F := Ideal) q k sk bias (ix5 b n g h r)
    = Finset.fold max (Ideal.ofBits .f32 0xFF800000#32) (fun x : Fin 257 => val_main_v50 (F := Ideal) q k sk bias (ix6 b n g h r x)) Finset.univ := by
  unfold val_main_v51
  rw [max_op, ← lowest (Shape.Idx.first h_S_)]
  exact row_max _ _ b n g h r

end Cert.ReferenceIdeal.Row

end
-- ==== Proof.RefRows.lean ====
/- The rows of the last layer's reference attention: logits, exponentials, probabilities, keys and values. -/
module

public import proofs.«01_k».proof.Proof.SoftEq
public import proofs.«01_k».proof.Proof.Gen.ReferenceIdeal.Read
public import Idealize.ShloMosaic.Lib.Pointwise

@[expose] public section

set_option maxRecDepth 16384

noncomputable section

namespace Cert.ReferenceIdeal.Row

open Cert.ReferenceIdeal Cert.ReferenceIdeal.Gen Cert.ReferenceIdeal.Read Idealize.ShloMosaic

variable (q : FVec Ideal S16x2048x1024 .f32) (k v : FVec Ideal S16x2048x128 .f32) (sk : FVec Ideal S16 .f32) (bias : FVec Ideal S16x128x256 .f32)

/-- A row's exponentials. -/
theorem power (b n : Fin 16) (g : Fin 2) (h : Fin 8) (r : Fin 128) (x : Fin 257) : val_main_v57 (F := Ideal) q k sk bias (ix6 b n g h r x)
    = Ideal.exp (val_main_v50 (F := Ideal) q k sk bias (ix6 b n g h r x)
        - max (Ideal.ofBits .f32 0xFF800000#32) (val_main_v51 (F := Ideal) q k sk bias (ix5 b n g h r))) := by
  have e : idx_main_v54 (idx_main_v55 (ix6 b n g h r x)) = ix5 b n g h r := by
    funext a
    match a with
    | ⟨0, _⟩ => rfl
    | ⟨1, _⟩ => rfl
    | ⟨2, _⟩ => rfl
    | ⟨3, _⟩ => rfl
    | ⟨4, _⟩ => rfl
  rw [val_main_v57_apply, val_main_v56_apply, val_main_v55_apply, val_main_v54_apply, e, val_main_v53_apply, val_main_v52_apply, val_main_cst_8_apply]
  generalize val_main_v50 (F := Ideal) q k sk bias (ix6 b n g h r x) = y
  generalize val_main_v51 (F := Ideal) q k sk bias (ix5 b n g h r) = z
  rfl

/-- A row's sum of exponentials. -/
theorem total (b n : Fin 16) (g : Fin 2) (h : Fin 8) (r : Fin 128) : val_main_v58 (F := Ideal) q k sk bias (ix5 b n g h r)
    = ∑ x : Fin 257, val_main_v57 (F := Ideal) q k sk bias (ix6 b n g h r x) := by
  have e : ∀ x : Fin 257, idx_main_v58 (ix5 b n g h r) x = ix6 b n g h r x := by
    intro x
    funext a
    match a with
    | ⟨0, _⟩ => rfl
    | ⟨1, _⟩ => rfl
    | ⟨2, _⟩ => rfl
    | ⟨3, _⟩ => rfl
    | ⟨4, _⟩ => rfl
    | ⟨5, _⟩ => rfl
  have z : val_main_cst_9 (F := Ideal) (Shape.Idx.first h_S_) = (0 : EReal) := by pointwise [val_main_cst_9]
  rw [val_main_v58_apply, z, zero_add]
  simp only [e]

/-- A row's probabilities. -/
theorem quotient (b n : Fin 16) (g : Fin 2) (h : Fin 8) (r : Fin 128) (x : Fin 257) : val_main_v61 (F := Ideal) q k sk bias (ix6 b n g h r x)
    = Ideal.div (val_main_v57 (F := Ideal) q k sk bias (ix6 b n g h r x)) (∑ x : Fin 257, val_main_v57 (F := Ideal) q k sk bias (ix6 b n g h r x)) := by
  have e : idx_main_v59 (idx_main_v60 (ix6 b n g h r x)) = ix5 b n g h r := by
    funext a
    match a with
    | ⟨0, _⟩ => rfl
    | ⟨1, _⟩ => rfl
    | ⟨2, _⟩ => rfl
    | ⟨3, _⟩ => rfl
    | ⟨4, _⟩ => rfl
  rw [val_main_v61_apply, val_main_v60_apply, val_main_v59_apply, e, total]
  generalize val_main_v57 (F := Ideal) q k sk bias (ix6 b n g h r x) = y
  generalize (∑ x : Fin 257, val_main_v57 (F := Ideal) q k sk bias (ix6 b n g h r x)) = z
  rfl

/-- Head `h` of group `g` among the sixteen. -/
def head (g : Fin 2) (h : Fin 8) : Fin 16 := ⟨g.val * 8 + h.val, by have := g.isLt; have := h.isLt; omega⟩
/-- Row `r` of block `n`. -/
def rowAt (n : Fin 16) (r : Fin 128) : Fin 2048 := ⟨n.val * 128 + r.val, by have := n.isLt; have := r.isLt; omega⟩
/-- Lane `d` of that head. -/
def laneAt (g : Fin 2) (h : Fin 8) (d : Fin 64) : Fin 1024 :=
  ⟨g.val * 512 + h.val * 64 + d.val, by have := g.isLt; have := h.isLt; have := d.isLt; omega⟩
/-- Lane `d` of a group's keys or values. -/
def keyLane (g : Fin 2) (d : Fin 64) : Fin 128 := ⟨g.val * 64 + d.val, by have := g.isLt; have := d.isLt; omega⟩

/-- A row with its sink. -/
theorem with_sink (b n : Fin 16) (g : Fin 2) (h : Fin 8) (r : Fin 128) (x : Fin 257) : val_main_v50 (F := Ideal) q k sk bias (ix6 b n g h r x)
    = Soft.withSink (fun s => val_main_v47 (F := Ideal) q k bias (ix6 b n g h r s)) (sk (ix1 (head g h))) x := by
  unfold val_main_v50 val_main_v49 val_main_v48 Soft.withSink head
  generalize val_main_v47 (F := Ideal) q k bias = y
  pointwise []

/-- A logit: minus infinity where the mask is off. -/
theorem logit (b n : Fin 16) (g : Fin 2) (h : Fin 8) (r : Fin 128) (s : Fin 256) : val_main_v47 (F := Ideal) q k bias (ix6 b n g h r s)
    = Scalar.select (val_main_v41 (F := Ideal) (ix3 n r s))
        ((∑ d : Fin 64, val_main_v5 (F := Ideal) k (ix5 b n s g d) * q (ix3 b (rowAt n r) (laneAt g h d))) * Ideal.ofBits .f32 0x3E000000#32 + bias (ix3 (head g h) r s))
        (Ideal.ofBits .f32 0xFF800000#32) := by
  pointwise [val_main_v47, val_main_call2_v0, val_main_call2_v1, val_main_call2_v2, val_main_cst_6, val_main_v46, val_main_v45, val_main_v44, val_main_v43,
    val_main_v42, val_main_v12, val_main_v11, val_main_cst, val_main_v10, val_main_v9, val_main_v0, head, rowAt, laneAt]
  rfl

/-- A key row of a block. -/
theorem keys (b n : Fin 16) (s : Fin 256) (g : Fin 2) (d : Fin 64) (i : Fin 2048) (h : 0 < n.val ∨ 128 ≤ s.val) (hi : i.val + 128 = n.val * 128 + s.val) :
    val_main_v5 (F := Ideal) k (ix5 b n s g d) = k (ix3 b i (keyLane g d)) := by
  pointwise [val_main_v5, val_main_v4, val_main_call0_v0, val_main_v3, val_main_v1, val_main_c]
  have hn := n.isLt
  by_cases h1 : s.val < 128
  · rw [dif_pos h1]
    refine (dif_pos ⟨by omega, h1⟩).trans ?_
    exact congrArg k (congrArg (fun i => ix3 b i (keyLane g d)) (Fin.ext (by show (n.val - 1) * 128 + s.val = i.val; omega)))
  · rw [dif_neg h1]
    exact congrArg k (congrArg (fun i => ix3 b i (keyLane g d)) (Fin.ext (by show n.val * 128 + (s.val - 128) = i.val; omega)))

/-- A value row of a block. -/
theorem values (b n : Fin 16) (s : Fin 256) (g : Fin 2) (d : Fin 64) (i : Fin 2048) (h : 0 < n.val ∨ 128 ≤ s.val) (hi : i.val + 128 = n.val * 128 + s.val) :
    val_main_v8 (F := Ideal) v (ix5 b n s g d) = v (ix3 b i (keyLane g d)) := by
  pointwise [val_main_v8, val_main_v7, val_main_call1_v0, val_main_v6, val_main_v2, val_main_c_0]
  have hn := n.isLt
  by_cases h1 : s.val < 128
  · rw [dif_pos h1]
    refine (dif_pos ⟨by omega, h1⟩).trans ?_
    exact congrArg v (congrArg (fun i => ix3 b i (keyLane g d)) (Fin.ext (by show (n.val - 1) * 128 + s.val = i.val; omega)))
  · rw [dif_neg h1]
    exact congrArg v (congrArg (fun i => ix3 b i (keyLane g d)) (Fin.ext (by show n.val * 128 + (s.val - 128) = i.val; omega)))

end Cert.ReferenceIdeal.Row

end
-- ==== Proof.RefAttn.lean ====
/- The last layer's reference attention, read row by row: each head's row is the softmax of `SoftEq` over the logits of its
   256 key rows and its sink. -/
module

public import proofs.«01_k».proof.Proof.RefMax
public import proofs.«01_k».proof.Proof.RefRows
public import Idealize.ShloMosaic.Lib.Pointwise

@[expose] public section

set_option maxRecDepth 16384

noncomputable section

namespace Cert.ReferenceIdeal.Row

open Cert.ReferenceIdeal Cert.ReferenceIdeal.Gen Cert.ReferenceIdeal.Read Idealize.ShloMosaic

variable (q : FVec Ideal S16x2048x1024 .f32) (k v : FVec Ideal S16x2048x128 .f32) (sk : FVec Ideal S16 .f32) (bias : FVec Ideal S16x128x256 .f32)

/-- The attention's lanes. -/
theorem lane (b n : Fin 16) (g : Fin 2) (h : Fin 8) (r : Fin 128) (d : Fin 64) :
    val_main_v65 (F := Ideal) q k v sk bias (ix3 b (rowAt n r) (laneAt g h d))
      = ∑ s : Fin 256, val_main_v8 (F := Ideal) v (ix5 b n s g d) * val_main_v61 (F := Ideal) q k sk bias (ix6 b n g h r s.castSucc) := by
  have hn := n.isLt; have hg := g.isLt; have hh := h.isLt; have hr := r.isLt; have hd := d.isLt
  have e1 : ∀ p, (⟨(rowAt n r).val / 128, p⟩ : Fin 16) = n := fun p => Fin.ext (by show (n.val * 128 + r.val) / 128 = _; omega)
  have e2 : ∀ p, (⟨(rowAt n r).val % 128, p⟩ : Fin 128) = r := fun p => Fin.ext (by show (n.val * 128 + r.val) % 128 = _; omega)
  have e3 : ∀ p, (⟨(laneAt g h d).val / 512, p⟩ : Fin 2) = g := fun p => Fin.ext (by show (g.val * 512 + h.val * 64 + d.val) / 512 = _; omega)
  have e4 : ∀ p, (⟨(laneAt g h d).val / 64 % 8, p⟩ : Fin 8) = h := fun p => Fin.ext (by show (g.val * 512 + h.val * 64 + d.val) / 64 % 8 = _; omega)
  have e5 : ∀ p, (⟨(laneAt g h d).val % 64, p⟩ : Fin 64) = d := fun p => Fin.ext (by show (g.val * 512 + h.val * 64 + d.val) % 64 = _; omega)
  pointwise [val_main_v65, val_main_v64, val_main_v63, val_main_v62]
  simp only [e1, e2, e3, e4, e5]
  rfl

/-- The attention's lanes as softmax rows. -/
theorem attention (b n : Fin 16) (g : Fin 2) (h : Fin 8) (r : Fin 128) (d : Fin 64) :
    val_main_v65 (F := Ideal) q k v sk bias (ix3 b (rowAt n r) (laneAt g h d))
      = Soft.softmax (fun s => val_main_v47 (F := Ideal) q k bias (ix6 b n g h r s)) (fun s => val_main_v8 (F := Ideal) v (ix5 b n s g d)) (sk (ix1 (head g h))) := by
  rw [lane]
  unfold Soft.softmax Soft.share Soft.top
  refine Finset.sum_congr rfl fun s _ => congrArg _ ?_
  rw [quotient]
  simp only [power, greatest, with_sink]
  rw [show Soft.withSink (fun s => val_main_v47 (F := Ideal) q k bias (ix6 b n g h r s)) (sk (ix1 (head g h))) s.castSucc
    = val_main_v47 (F := Ideal) q k bias (ix6 b n g h r s) from dif_pos s.isLt]

end Cert.ReferenceIdeal.Row

end
-- ==== Proof.Tile1.lean ====
/- One tile of the kernel's attention is the reference's attention on the tile's rows: each head's row in base two is the
   reference's softmax row, the key rows and the mask being the same. -/
module

public import proofs.«01_k».proof.Proof.BiasRead
public import proofs.«01_k».proof.Proof.RefAttn

@[expose] public section

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.Read
open Cert.ReferenceIdeal.Row (rowAt laneAt keyLane)

/-- Every entry is a real number. -/
def IsReal {s : Shape} {φ : FTy} (x : FVec Ideal s φ) : Prop := ∀ i, ∃ r : ℝ, x i = (r : EReal)

/-- Head `2p + par` among a group's eight. -/
def inGroup (p : Fin 4) (par : Fin 2) : Fin 8 := ⟨2 * p.val + par.val, by have := p.isLt; have := par.isLt; omega⟩

/-- The row of a sequence that is key `s` of block `n`; before the sequence, row 0 on. -/
def keyAt (n : Fin 16) (s : Fin 256) : Fin 2048 := ⟨n.val * 128 + s.val - 128, by have := n.isLt; have := s.isLt; omega⟩

theorem head_eq (g : Fin 2) (p : Fin 4) (par : Fin 2) : headOf g p par = Cert.ReferenceIdeal.Row.head g (inGroup p par) :=
  Fin.ext (by show 8 * g.val + 2 * p.val + par.val = g.val * 8 + (2 * p.val + par.val); omega)

theorem lane_eq (g : Fin 2) (p : Fin 4) (par : Fin 2) (e : Fin 64) : pairLane g p (half par e) = laneAt g (inGroup p par) e :=
  Fin.ext (by show 512 * g.val + 128 * p.val + (64 * par.val + e.val) = g.val * 512 + (2 * p.val + par.val) * 64 + e.val; omega)

theorem half_eq (g : Fin 2) (e : Fin 64) : half g e = keyLane g e :=
  Fin.ext (by show 64 * g.val + e.val = g.val * 64 + e.val; omega)

theorem row_eq (t : Fin cfg0.N) (b : Fin 4) (r : Fin 128) : row t (at4 b r) = rowAt (blockOf t b) r :=
  Fin.ext (by show min t.val 63 % 4 * 512 + (128 * b.val + r.val) = (min t.val 63 % 4 * 4 + b.val) * 128 + r.val; omega)

theorem queries_apply (x : Vec Ideal S1x512x1024 .bf16) (b : Fin 4) (r : Fin 128) (j : Fin 1024) :
    queries x b (ix3 0 r j) = x (ix3 0 (at4 b r) j) := by
  refine congrArg x (funext fun a => Fin.ext ?_)
  match a with
  | ⟨0, _⟩ => rfl
  | ⟨1, _⟩ => show 128 * b.val + 1 * r.val = 128 * b.val + r.val; omega
  | ⟨2, _⟩ => show 0 + 1 * j.val = j.val; omega

theorem sinks_apply (x : Vec Ideal S1x16 .f32) (g : Fin 2) (p : Fin 4) (par : Fin 2) : sinks x g p par = x (ix2 0 (headOf g p par)) := by
  refine congrArg x (funext fun a => Fin.ext ?_)
  match a with
  | ⟨0, _⟩ => rfl
  | ⟨1, _⟩ => rfl

theorem rowsIn_apply (x : Vec Ideal S1x128x128 .bf16) (y : Vec Ideal S1x512x128 .bf16) (r : Fin 640) (j : Fin 128) :
    rowsIn x y (ix2 r j) = if h : r.val < 128 then x (ix3 0 ⟨r.val, h⟩ j) else y (ix3 0 ⟨r.val - 128, by have := r.isLt; omega⟩ j) := by
  have z : (![0, 0, 0] : Fin 3 → ℕ) = fun _ => 0 := by funext a; fin_cases a <;> rfl
  unfold rowsIn
  rw [View.ld_unit_zero (S := S1x128x128) z, View.ld_unit_zero (S := S1x512x128) z]
  pointwise [joined]

/-- A key or value row of a block, where it lies in the sequence. -/
theorem key_row (X : FVec Ideal S16x2048x128 .f32) (t : Fin cfg0.N) (x : Vec Ideal S1x128x128 .bf16) (y : Vec Ideal S1x512x128 .bf16)
    (hx : ∀ r j, x (ix3 0 r j) = X (ix3 (entry t) (rowBefore t r) j)) (hy : ∀ r j, y (ix3 0 r j) = X (ix3 (entry t) (row t r) j))
    (b : Fin 4) (s : Fin 256) (j : Fin 128) (h : 0 < (blockOf t b).val ∨ 128 ≤ s.val) :
    rowsIn x y (ix2 (keyRow b s) j) = X (ix3 (entry t) (keyAt (blockOf t b) s) j) := by
  have hn : (blockOf t b).val = min t.val 63 % 4 * 4 + b.val := rfl
  have hk : (keyRow b s).val = 128 * b.val + s.val := rfl
  have hs := s.isLt
  rw [rowsIn_apply]
  by_cases h1 : (keyRow b s).val < 128
  · rw [dif_pos h1, hx]
    refine congrArg (fun i => X (ix3 (entry t) i j)) (Fin.ext ?_)
    show (min t.val 63 % 4 * 4 - 1) * 128 + (128 * b.val + s.val) = (min t.val 63 % 4 * 4 + b.val) * 128 + s.val - 128
    omega
  · rw [dif_neg h1, hy]
    refine congrArg (fun i => X (ix3 (entry t) i j)) (Fin.ext ?_)
    show min t.val 63 % 4 * 512 + (128 * b.val + s.val - 128) = (min t.val 63 % 4 * 4 + b.val) * 128 + s.val - 128
    omega

/-- A score in base two on real numbers. -/
theorem score_real (q k : Fin 64 → ℝ) (b : ℝ) :
    (∑ e, ((q e : EReal) * ((((1 : ℝ) / 8 : ℝ) : EReal) * (((Real.log 2)⁻¹ : ℝ) : EReal))) * (k e : EReal)) + (b : EReal) * (((Real.log 2)⁻¹ : ℝ) : EReal)
      = (((Real.log 2)⁻¹ * ((∑ e, k e * q e) * (1 / 8) + b) : ℝ) : EReal) := by
  simp only [← EReal.coe_mul]
  rw [Soft.coe_sum, ← EReal.coe_add]
  congr 1
  rw [mul_add, Finset.sum_mul, Finset.mul_sum, mul_comm b]
  congr 1
  exact Finset.sum_congr rfl fun e _ => by ring

variable (m : (ℓ : Loc nD τ sig) → Buf (Elt Ideal) ℓ)

/-- One lane of one head's row: the kernel's is the reference's. -/
theorem tile_lane (c : Dev nD) (t : Fin cfg0.N) (Q : FVec Ideal S16x2048x1024 .f32) (K W : FVec Ideal S16x2048x128 .f32) (S : FVec Ideal S16 .f32)
    (B : FVec Ideal S16x128x256 .f32)
    (eQ : m ((c : Thread nD τ).loc main_arg0) = Q) (eK : m ((c : Thread nD τ).loc main_arg1) = K) (eW : m ((c : Thread nD τ).loc main_arg2) = W)
    (eS : m ((c : Thread nD τ).loc main_arg3) = S) (eB : m ((c : Thread nD τ).loc main_arg4) = B)
    (hQ : IsReal Q) (hK : IsReal K) (hS : IsReal S) (hB : IsReal B)
    (b : Fin 4) (g : Fin 2) (r : Fin 128) (p : Fin 4) (par : Fin 2) (d : Fin 64) :
    stored (grid0.coords t) (iblk m c 0 t) (iblk m c 1 t) (iblk m c 2 t) (iblk m c 3 t) (iblk m c 4 t) (iblk m c 5 t) (iblk m c 6 t) b g
        (ix3 0 r (at4 p (half par d)))
      = val_main_v65 (F := Ideal) Q K W S B (ix3 (entry t) (rowAt (blockOf t b) r) (laneAt g (inGroup p par) d)) := by
  choose q' hq' using hQ
  choose k' hk' using hK
  choose s' hs' using hS
  choose b' hb' using hB
  have hkey : ∀ s, (0 < (blockOf t b).val ∨ 128 ≤ s.val) → ∀ j, rowsIn (iblk m c 2 t) (iblk m c 3 t) (ix2 (keyRow b s) j) = K (ix3 (entry t) (keyAt (blockOf t b) s) j) :=
    fun s h j => key_row K t _ _ (fun r j => (in2 m c t r j).trans (by rw [eK])) (fun r j => (in3 m c t r j).trans (by rw [eK])) b s j h
  have hval : ∀ s, (0 < (blockOf t b).val ∨ 128 ≤ s.val) → ∀ j, rowsIn (iblk m c 4 t) (iblk m c 5 t) (ix2 (keyRow b s) j) = W (ix3 (entry t) (keyAt (blockOf t b) s) j) :=
    fun s h j => key_row W t _ _ (fun r j => (in4 m c t r j).trans (by rw [eW])) (fun r j => (in5 m c t r j).trans (by rw [eW])) b s j h
  have hq : ∀ j, queries (iblk m c 1 t) b (ix3 0 r j) = Q (ix3 (entry t) (rowAt (blockOf t b) r) j) * (Ideal.ofBits .f32 0x3E000000#32 * unit ix0) := by
    intro j
    rw [queries_apply, in1, eQ, scaledQ_apply, row_eq]
  have hat : ∀ s : Fin 256, (0 < (blockOf t b).val ∨ 128 ≤ s.val) → (keyAt (blockOf t b) s).val + 128 = (blockOf t b).val * 128 + s.val := by
    intro s h
    show (blockOf t b).val * 128 + s.val - 128 + 128 = _
    omega
  unfold stored
  rw [block_apply, Cert.ReferenceIdeal.Row.attention, sinks_apply, in0, eS, head_eq, hs', base_eq, ← EReal.coe_mul, mul_comm (s' _)]
  have on : ∀ s, val_main_v41 (F := Ideal) (ix3 (blockOf t b) r s) = 1#1 → 0 < (blockOf t b).val ∨ 128 ≤ s.val := fun s h => mask_row _ r s h
  have ht : (fun s : Fin 256 => (∑ e : Fin 64, queries (iblk m c 1 t) b (ix3 0 r (pairLane g p (half par e))) * rowsIn (iblk m c 2 t) (iblk m c 3 t) (ix2 (keyRow b s) (half g e)))
        + biases (grid0.coords t) (iblk m c 6 t) b g (ix4 0 0 (at4 p r) (at2 par s)))
      = Soft.masked (fun s => val_main_v41 (F := Ideal) (ix3 (blockOf t b) r s) = 1#1) (fun s => (Real.log 2)⁻¹
          * ((∑ e : Fin 64, k' (ix3 (entry t) (keyAt (blockOf t b) s) (keyLane g e)) * q' (ix3 (entry t) (rowAt (blockOf t b) r) (laneAt g (inGroup p par) e))) * (1 / 8)
            + b' (ix3 (Cert.ReferenceIdeal.Row.head g (inGroup p par)) r s))) := by
    funext s
    rw [bias_read m c B eB]
    unfold Soft.masked
    by_cases h : val_main_v41 (F := Ideal) (ix3 (blockOf t b) r s) = 1#1
    · rw [if_pos h, h, ← score_real]
      simp only [lane_eq]
      simp only [hq, hkey s (on s h), half_eq, head_eq, hq', hk', hb', unit_eq, eighth]
      rfl
    · rw [if_neg h]
      refine Eq.trans (congrArg (_ + ·) ((if_neg h).trans Soft.bits_bot)) (EReal.add_bot _)
  have hl : (fun s : Fin 256 => val_main_v47 (F := Ideal) Q K B (ix6 (entry t) (blockOf t b) g (inGroup p par) r s))
      = Soft.masked (fun s => val_main_v41 (F := Ideal) (ix3 (blockOf t b) r s) = 1#1) (fun s =>
          (∑ e : Fin 64, k' (ix3 (entry t) (keyAt (blockOf t b) s) (keyLane g e)) * q' (ix3 (entry t) (rowAt (blockOf t b) r) (laneAt g (inGroup p par) e))) * (1 / 8)
            + b' (ix3 (Cert.ReferenceIdeal.Row.head g (inGroup p par)) r s)) := by
    funext s
    rw [Cert.ReferenceIdeal.Row.logit]
    unfold Soft.masked
    by_cases h : val_main_v41 (F := Ideal) (ix3 (blockOf t b) r s) = 1#1
    · rw [if_pos h, h, EReal.coe_add, EReal.coe_mul, ← Soft.coe_sum]
      simp only [Cert.ReferenceIdeal.Row.keys K (entry t) (blockOf t b) s g _ _ (on s h) (hat s (on s h)), hq', hk', hb', eighth, EReal.coe_mul]
      rfl
    · rw [if_neg h]
      exact (if_neg h).trans Soft.bits_bot
  rw [ht, hl]
  refine Soft.mixed_eq _ _ _ _ _ fun s h => ?_
  rw [hval s (on s h), Cert.ReferenceIdeal.Row.values W (entry t) (blockOf t b) s g d _ (on s h) (hat s (on s h)), half_eq]

end Cert.KernelIdeal.Hand

end
-- ==== Proof.Ref1.lean ====
/- The last layer's reference after its attention, read row by row: the projection with its bias and residual, the
   modulated norm, the feed-forward and the final norm are the row functions of `Rows`. -/
module

public import proofs.«01_k».proof.Proof.Ref2
public import proofs.«01_k».proof.Proof.Gen.ReferenceIdeal.Read

@[expose] public section

set_option maxRecDepth 16384

noncomputable section

namespace Cert.ReferenceIdeal.Row

open Cert.ReferenceIdeal Cert.ReferenceIdeal.Gen Cert.ReferenceIdeal.Read Idealize.ShloMosaic
open Cert.Reference2Ideal.Row (part)

variable (q : FVec Ideal S16x2048x1024 .f32) (k v : FVec Ideal S16x2048x128 .f32) (sk : FVec Ideal S16 .f32) (bias : FVec Ideal S16x128x256 .f32)
  (wo : FVec Ideal S2x1024x1024 .f32) (bo : FVec Ideal S1024 .f32) (x : FVec Ideal S16x2048x1024 .f32)
  (g : FVec Ideal S1024 .f32) (mod : FVec Ideal S16x6144 .f32) (w1 w3 : FVec Ideal S4x1024x2816 .f32)
  (w2 : FVec Ideal S4x2816x1024 .f32) (fg : FVec Ideal S1024 .f32)

/-- The mixed row. -/
theorem mixed (n : Fin 16) (i : Fin 2048) (j : Fin 1024) :
    val_main_v81 (F := Ideal) q k v sk bias wo bo x mod (ix3 n i j)
      = Rows.mix (fun a => val_main_v65 (F := Ideal) q k v sk bias (ix3 n i a)) (fun a j => wo (ix3 1 a j)) (fun j => bo (ix1 j)) (part mod n 2) (fun j => x (ix3 n i j)) j := by
  pointwise [val_main_v81, val_main_v80, val_main_v79, val_main_v78, val_main_v74, val_main_v71, val_main_v70, val_main_v69, val_main_v68, val_main_v67, val_main_v66, Rows.mix, part]

/-- The modulated norm of the mixed row. -/
theorem modulated (n : Fin 16) (i : Fin 2048) (j : Fin 1024) :
    val_main_v102 (F := Ideal) q k v sk bias wo bo x g mod (ix3 n i j)
      = Rows.modulated (fun j => val_main_v81 (F := Ideal) q k v sk bias wo bo x mod (ix3 n i j)) (fun j => g (ix1 j)) (part mod n 3) (part mod n 4) j := by
  pointwise [val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_cst_10, val_main_cst_11, val_main_cst_12, val_main_cst_13, val_main_v75, val_main_v76, Rows.modulated, Rows.norm, Rows.inv, part]
  all_goals rfl

/-- The feed-forward's activation. -/
theorem act (n : Fin 16) (i : Fin 2048) (f : Fin 2816) :
    val_main_v113 (F := Ideal) q k v sk bias wo bo x g mod w1 w3 (ix3 n i f)
      = Rows.act (fun a => val_main_v102 (F := Ideal) q k v sk bias wo bo x g mod (ix3 n i a)) (fun a => w1 (ix3 3 a f)) (fun a => w3 (ix3 3 a f)) := by
  pointwise [val_main_v113, val_main_v112, val_main_v111, val_main_v110, val_main_v107, val_main_v106, val_main_v105, val_main_v104, val_main_call3_v5, val_main_call3_v4, val_main_call3_v3, val_main_call3_v2, val_main_call3_v1, val_main_call3_v0, val_main_call3_cst, val_main_call3_cst_0, Rows.act]
  all_goals rfl

/-- The layer's row. -/
theorem layer (n : Fin 16) (i : Fin 2048) (j : Fin 1024) :
    val_main_v117 (F := Ideal) q k v sk bias wo bo x g mod w1 w3 w2 (ix3 n i j)
      = Rows.layer (Rows.mix (fun a => val_main_v65 (F := Ideal) q k v sk bias (ix3 n i a)) (fun a j => wo (ix3 1 a j)) (fun j => bo (ix1 j)) (part mod n 2) (fun j => x (ix3 n i j)))
          (fun j => g (ix1 j)) (part mod n 3) (part mod n 4) (part mod n 5)
          (fun a f => w1 (ix3 3 a f)) (fun a f => w3 (ix3 3 a f)) (fun f j => w2 (ix3 3 f j)) j := by
  have hm : (fun j => val_main_v102 (F := Ideal) q k v sk bias wo bo x g mod (ix3 n i j)) = _ := funext fun j => modulated q k v sk bias wo bo x g mod n i j
  have hx : (fun j => val_main_v81 (F := Ideal) q k v sk bias wo bo x mod (ix3 n i j)) = _ := funext fun j => mixed q k v sk bias wo bo x mod n i j
  pointwise [val_main_v117, val_main_v116, val_main_v115, val_main_v114, val_main_v109, val_main_v108, val_main_v103, val_main_v77, act, Rows.layer, Rows.ffn, part]
  rw [hm, hx, mixed]
  all_goals rfl

/-- The result's row. -/
theorem result (n : Fin 16) (i : Fin 2048) (j : Fin 1024) :
    val_main_v130 (F := Ideal) q k v sk bias wo bo x g mod w1 w3 w2 fg (ix3 n i j)
      = Rows.norm (fun j => val_main_v117 (F := Ideal) q k v sk bias wo bo x g mod w1 w3 w2 (ix3 n i j)) (fun j => fg (ix1 j)) j := by
  pointwise [val_main_v130, val_main_v129, val_main_v128, val_main_v127, val_main_v126, val_main_v125, val_main_v124, val_main_v123, val_main_v122, val_main_v121, val_main_v120, val_main_v119, val_main_v118, val_main_cst_14, val_main_cst_15, val_main_cst_16, Rows.norm, Rows.inv]
  all_goals rfl

end Cert.ReferenceIdeal.Row

end
-- ==== Proof.Final1.lean ====
/- The last layer's kernel, from its blocks to its result: on real queries, keys, sinks and biases the array after the run is
   the reference's result of the arguments. -/
module

public import proofs.«01_k».proof.Proof.FrameKernelIdeal
public import proofs.«01_k».proof.Proof.Tile1
public import proofs.«01_k».proof.Proof.Ref1

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat RDat)
open Cert.ReferenceIdeal.Read
open Cert.ReferenceIdeal.Row (rowAt laneAt)

variable (m : (ℓ : Loc nD τ sig) → Buf (Elt Ideal) ℓ)

/-- The arguments the attention's scores are made of are real. -/
structure Finite (c : Dev nD) : Prop where
  queries : IsReal (s := S16x2048x1024) (φ := .f32) (m ((c : Thread nD τ).loc main_arg0))
  keys : IsReal (s := S16x2048x128) (φ := .f32) (m ((c : Thread nD τ).loc main_arg1))
  sinks : IsReal (s := S16) (φ := .f32) (m ((c : Thread nD τ).loc main_arg3))
  biases : IsReal (s := S16x128x256) (φ := .f32) (m ((c : Thread nD τ).loc main_arg4))

/-- The attention of point `t`'s tile is the reference's. -/
theorem tile_eq (c : Dev nD) (hf : Finite m c) (t : Fin cfg0.N) (r : Fin 512) (j : Fin 1024) : tileOf m c t r j
    = val_main_v65 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (ix3 (entry t) (row t r) j) := by
  have hr := r.isLt; have hj := j.isLt
  obtain ⟨b, hb⟩ : ∃ b : Fin 4, b.val = r.val / 128 := ⟨⟨r.val / 128, by omega⟩, rfl⟩
  obtain ⟨r', hr'⟩ : ∃ r' : Fin 128, r'.val = r.val % 128 := ⟨⟨r.val % 128, by omega⟩, rfl⟩
  obtain ⟨g, hg⟩ : ∃ g : Fin 2, g.val = j.val / 512 := ⟨⟨j.val / 512, by omega⟩, rfl⟩
  obtain ⟨p, hp⟩ : ∃ p : Fin 4, p.val = j.val % 512 / 128 := ⟨⟨j.val % 512 / 128, by omega⟩, rfl⟩
  obtain ⟨par, hpar⟩ : ∃ par : Fin 2, par.val = j.val % 128 / 64 := ⟨⟨j.val % 128 / 64, by omega⟩, rfl⟩
  obtain ⟨d, hd⟩ : ∃ d : Fin 64, d.val = j.val % 64 := ⟨⟨j.val % 64, by omega⟩, rfl⟩
  have e1 : row t r = rowAt (blockOf t b) r' := Fin.ext (by
    show min t.val 63 % 4 * 512 + r.val = (min t.val 63 % 4 * 4 + b.val) * 128 + r'.val; omega)
  have e2 : j = laneAt g (inGroup p par) d := Fin.ext (by
    show j.val = g.val * 512 + (2 * p.val + par.val) * 64 + d.val; omega)
  have e3 : (⟨r.val / 128, by omega⟩ : Fin 4) = b := Fin.ext hb.symm
  have e4 : (⟨r.val % 128, by omega⟩ : Fin 128) = r' := Fin.ext hr'.symm
  have e5 : (⟨j.val / 512, by omega⟩ : Fin 2) = g := Fin.ext hg.symm
  have e6 : (⟨j.val % 512, by omega⟩ : Fin 512) = at4 p (half par d) := Fin.ext (by
    show j.val % 512 = 128 * p.val + (64 * par.val + d.val); omega)
  unfold tileOf laid
  rw [e3, e4, e5, e6, e1]
  refine Eq.trans (tile_lane m c t _ _ _ _ _ rfl rfl rfl rfl rfl hf.queries hf.keys hf.sinks hf.biases b g r' p par d) ?_
  rw [← e2]

/-- The result's row of point `t` from the attention's. -/
theorem point (c : Dev nD) (hf : Finite m c) (t : Fin cfg0.N) (ht : 1 ≤ t.val) (r : Fin 512) (j : Fin 1024) : outOf m c t (ix3 0 r j)
    = val_main_v130 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (ix3 (entryOut t) (rowOut t r) j) := by
  have hl := point_lt t
  have e1 : entry (prev t) = entryOut t := Fin.ext (by show min (t.val - 1) 63 / 4 = (t.val - 1) / 4; omega)
  have e2 : row (prev t) r = rowOut t r := Fin.ext (by show min (t.val - 1) 63 % 4 * 512 + r.val = (t.val - 1) % 4 * 512 + r.val; omega)
  have ha : ∀ k : Fin 1024, tileOf m c (prev t) r k = _ := fun k => tile_eq m c hf (prev t) r k
  unfold outOf
  rw [finalV_apply]
  simp only [in7, in8, in9, in10, in11, in12, in13, in14, in15, in16, in17, in18]
  rw [Cert.ReferenceIdeal.Row.result]
  simp only [Cert.ReferenceIdeal.Row.layer]
  rw [← e1, ← e2]
  simp only [← ha]
  rfl

/-- The result is written back from the second point on. -/
theorem written : ∀ t : Fin cfg0.N, (cfg0.win 19).flush t = true → 1 ≤ t.val :=
  (by decide +kernel : ∀ t : Fin grid0.N, (cfg0.win 19).flush t = true → 1 ≤ t.val)

/-- The kernel's result array after the run is the reference's result. -/
theorem final (r : PUnit × MemSt nD τ sig (Elt Ideal)) (h : RDat.FramePost (cfgs 0) (rdat m) (V m) r) (c : Dev nD) (hf : Finite m c) :
    r.2.mem ((c : Thread nD τ).loc main_v63)
      = val_main_v130 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) := by
  obtain ⟨after, hl, ha⟩ := h.exists_exact c
  refine (ha 19).trans ?_
  refine ((rdat m c).withAfter after).arrAt_eq_of_covers 19 _ (by decide +kernel) fun t ht y => ?_
  have hs : after 19 t = outOf m c t := Dat.toRRel_leaves _ rfl (hl 19 t ht) (written t ht)
  blk_simp
  rw [RDat.withAfter_after, hs]
  obtain ⟨z, i, j, rfl⟩ : ∃ z i j, y = ix3 z i j := ⟨y 0, y 1, y 2, by funext a; match a with | ⟨0, _⟩ => rfl | ⟨1, _⟩ => rfl | ⟨2, _⟩ => rfl⟩
  have hz : z = 0 := Subsingleton.elim _ _
  subst hz
  have e : ((cfg0.win 19).blk t).view.emb (ix3 0 i j : S1x512x1024.Idx) = ix3 (entryOut t) (rowOut t i) j := by
    blk_ext [idx t, entryOut, rowOut]
  rw [e]
  exact point m c hf t (written t ht) i j

end Cert.KernelIdeal.Hand

end
-- ==== Proof.Finite1.lean ====
/- The precondition: the arguments it names are real numbers entry by entry. -/
module

public import proofs.«01_k».proof.Defs
public import proofs.«01_k».proof.Proof.Final1

@[expose] public section

noncomputable section

namespace Cert.KernelIdeal.Hand

open Cert.KernelIdeal Idealize.ShloMosaic Idealize.ShloMosaic.TcCoe Idealize.SL.Sem

theorem infinity : Ideal.ofBits .f32 0x7F800000#32 = ⊤ := by
  simp [Ideal.ofBits, Ideal.ieee]

/-- An array whose absolute values lie below infinity is real. -/
theorem real_of {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1) : IsReal x := by
  intro i
  have hi : Ideal.cmp .olt (max (x i) (-(x i))) (Ideal.ofBits .f32 0x7F800000#32) = 1#1 := congrFun h i
  rw [infinity] at hi
  have lt : max (x i) (-(x i)) < ⊤ := by
    by_contra hn
    simp [Ideal.cmp, hn] at hi
  have h1 : x i ≠ ⊤ := ((le_max_left _ _).trans_lt lt).ne
  have h2 : x i ≠ ⊥ := fun e => (by rw [e] at lt; simp at lt)
  exact ⟨_, (EReal.coe_toReal h1 h2).symm⟩

/-- The side conditions the precondition's operations state. -/
theorem preFacts : Cert.Pre_finite.Facts where
  bcast_S_S16x2048x1024 := by decide
  bcast_S_S16x2048x128 := by decide
  bcast_S_S16 := by decide
  bcast_S_S16x128x256 := by decide

/-- Under the precondition the scores' arguments are real. -/
theorem finite_of [hPre_finite : Cert.Pre_finite.Facts] (m : (ℓ : Loc nD τ sig) → Buf (Elt Ideal) ℓ) (h : Cert.Pre_KernelIdeal_finite m) (c : Dev nD) :
    Finite m c :=
  ⟨real_of _ _ (h c).1, real_of _ _ (h c).2.1, real_of _ _ (h c).2.2.1, real_of _ _ (h c).2.2.2⟩

end Cert.KernelIdeal.Hand

end
-- ==== Proof.Value1.lean ====
/- The last layer's kernel and its reference end with the same array. -/
module

public import proofs.«01_k».proof.Defs
public import proofs.«01_k».proof.Proof.Finite1
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

open Idealize.ShloMosaic Idealize.SL.Sem

/-- From memories that agree on the arguments, the scores' arguments real, both programs run and their results agree. -/
theorem value1 [hPre_finite : Cert.Pre_finite.Facts] : Cert.algebraic_KernelIdeal_ReferenceIdeal_pre_finite := fun m g m' g' hf heq =>
  ⟨fun c => Cert.ReferenceIdeal.Read.val_main_v130 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    (θ_run Cert.KernelIdeal.defs _ _).mono (fun r h c =>
      ⟨Cert.KernelIdeal.Hand.final m r h.1 c (Cert.KernelIdeal.Hand.finite_of m hf c), Cert.KernelIdeal.Hand.kept m r h.1 c⟩) (Cert.KernelIdeal.Hand.run m g),
    (θ_run Cert.ReferenceIdeal.defs _ _).mono (fun r h c => ⟨by
      obtain ⟨h0, h1, h2, h3, h4, h5, h6, h7, h8, h9, h10, h11, h12, h13⟩ := heq c
      have k0 : StableHlo.launchContents m' c (Proc.tc.devRef Cert.ReferenceIdeal.main_arg0) = m ((c.tc : Thread Cert.KernelIdeal.nD Cert.KernelIdeal.τ).loc Cert.KernelIdeal.main_arg0) := h0
      have k1 : StableHlo.launchContents m' c (Proc.tc.devRef Cert.ReferenceIdeal.main_arg1) = m ((c.tc : Thread Cert.KernelIdeal.nD Cert.KernelIdeal.τ).loc Cert.KernelIdeal.main_arg1) := h1
      have k2 : StableHlo.launchContents m' c (Proc.tc.devRef Cert.ReferenceIdeal.main_arg2) = m ((c.tc : Thread Cert.KernelIdeal.nD Cert.KernelIdeal.τ).loc Cert.KernelIdeal.main_arg2) := h2
      have k3 : StableHlo.launchContents m' c (Proc.tc.devRef Cert.ReferenceIdeal.main_arg3) = m ((c.tc : Thread Cert.KernelIdeal.nD Cert.KernelIdeal.τ).loc Cert.KernelIdeal.main_arg3) := h3
      have k4 : StableHlo.launchContents m' c (Proc.tc.devRef Cert.ReferenceIdeal.main_arg4) = m ((c.tc : Thread Cert.KernelIdeal.nD Cert.KernelIdeal.τ).loc Cert.KernelIdeal.main_arg4) := h4
      have k5 : StableHlo.launchContents m' c (Proc.tc.devRef Cert.ReferenceIdeal.main_arg5) = m ((c.tc : Thread Cert.KernelIdeal.nD Cert.KernelIdeal.τ).loc Cert.KernelIdeal.main_arg5) := h5
      have k6 : StableHlo.launchContents m' c (Proc.tc.devRef Cert.ReferenceIdeal.main_arg6) = m ((c.tc : Thread Cert.KernelIdeal.nD Cert.KernelIdeal.τ).loc Cert.KernelIdeal.main_arg6) := h6
      have k7 : StableHlo.launchContents m' c (Proc.tc.devRef Cert.ReferenceIdeal.main_arg7) = m ((c.tc : Thread Cert.KernelIdeal.nD Cert.KernelIdeal.τ).loc Cert.KernelIdeal.main_arg7) := h7
      have k8 : StableHlo.launchContents m' c (Proc.tc.devRef Cert.ReferenceIdeal.main_arg8) = m ((c.tc : Thread Cert.KernelIdeal.nD Cert.KernelIdeal.τ).loc Cert.KernelIdeal.main_arg8) := h8
      have k9 : StableHlo.launchContents m' c (Proc.tc.devRef Cert.ReferenceIdeal.main_arg9) = m ((c.tc : Thread Cert.KernelIdeal.nD Cert.KernelIdeal.τ).loc Cert.KernelIdeal.main_arg9) := h9
      have k10 : StableHlo.launchContents m' c (Proc.tc.devRef Cert.ReferenceIdeal.main_arg10) = m ((c.tc : Thread Cert.KernelIdeal.nD Cert.KernelIdeal.τ).loc Cert.KernelIdeal.main_arg10) := h10
      have k11 : StableHlo.launchContents m' c (Proc.tc.devRef Cert.ReferenceIdeal.main_arg11) = m ((c.tc : Thread Cert.KernelIdeal.nD Cert.KernelIdeal.τ).loc Cert.KernelIdeal.main_arg11) := h11
      have k12 : StableHlo.launchContents m' c (Proc.tc.devRef Cert.ReferenceIdeal.main_arg12) = m ((c.tc : Thread Cert.KernelIdeal.nD Cert.KernelIdeal.τ).loc Cert.KernelIdeal.main_arg12) := h12
      have k13 : StableHlo.launchContents m' c (Proc.tc.devRef Cert.ReferenceIdeal.main_arg13) = m ((c.tc : Thread Cert.KernelIdeal.nD Cert.KernelIdeal.τ).loc Cert.KernelIdeal.main_arg13) := h13
      refine (h c).1.trans ?_
      rw [Cert.ReferenceIdeal.Read.val_main_v130_eq]
      rw [k0, k1, k2, k3, k4, k5, k6, k7, k8, k9, k10, k11, k12, k13], (h c).2⟩) (Cert.ReferenceIdeal.Value.run m' g')⟩

end Cert.Proof

end
-- ==== Proof.Final2.lean ====
/- The first layer's feed-forward kernel, from its blocks to its result: the array after the run is the reference's result
   of the arguments. -/
module

public import proofs.«01_k».proof.Proof.Tile2
public import proofs.«01_k».proof.Proof.Ref2
public import Idealize.ShloMosaic.Lib.Pipeline.ValueKit

@[expose] public section

set_option maxRecDepth 16384

noncomputable section

namespace Cert.Kernel2Ideal.Final

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Where each window stands at grid point `t`: batch entry `t / 4`, row block `t % 4`. -/
theorem idx : ∀ t : Fin cfg0.N,
    win0_0.index t = ![t.val / 4, t.val % 4, 0] ∧ win0_1.index t = ![0, 0, 0] ∧ win0_2.index t = ![0, 0]
    ∧ win0_3.index t = ![t.val / 4, 0, 0] ∧ win0_4.index t = ![t.val / 4, t.val % 4, 0] ∧ win0_5.index t = ![0, 0]
    ∧ win0_6.index t = ![t.val / 4, 0, 0] ∧ win0_7.index t = ![t.val / 4, 0, 0] ∧ win0_8.index t = ![t.val / 4, 0, 0]
    ∧ win0_9.index t = ![0, 0, 0] ∧ win0_10.index t = ![0, 0, 0] ∧ win0_11.index t = ![0, 0, 0]
    ∧ win0_13.index t = ![t.val / 4, t.val % 4, 0] ∧ t.val / 4 < 16 :=
  (by decide +kernel : ∀ t : Fin grid0.N, _)

/-- The batch entry of point `t`. -/
def entry (t : Fin cfg0.N) : Fin 16 := ⟨t.val / 4, (idx t).2.2.2.2.2.2.2.2.2.2.2.2.2⟩

/-- Row `r` of point `t`'s block among the rows of its batch entry. -/
def row (t : Fin cfg0.N) (r : Fin 512) : Fin 2048 := ⟨t.val % 4 * 512 + r.val, by have := r.isLt; omega⟩

/-! ## The input blocks, entry by entry, as the arguments -/

theorem in0 (c : Dev nD) (t : Fin cfg0.N) (r : Fin 512) (k : Fin 1024) : iblk m c 0 t ((ix3 0 r k) : S1x512x1024.Idx) = m ((c : Thread nD τ).loc main_arg0) (ix3 (entry t) (row t r) k) := by
  blk_ext [iblk, V, idx t, entry, row]

theorem in1 (c : Dev nD) (t : Fin cfg0.N) (k j : Fin 1024) : iblk m c 1 t ((ix3 0 k j) : S1x1024x1024.Idx) = m ((c : Thread nD τ).loc main_arg1) (ix3 0 k j) := by
  blk_simp [iblk]
  entry_read
  pointwise [Cert.Reference2Ideal.Row.part, entry]
  all_goals blk_ext [idx t]

theorem in2 (c : Dev nD) (t : Fin cfg0.N) (j : Fin 1024) : iblk m c 2 t ((ix2 0 j) : S1x1024.Idx) = (0 : EReal) := by
  blk_simp [iblk]
  entry_read
  pointwise [Cert.Reference2Ideal.Row.part, entry]
  all_goals blk_ext [idx t]

theorem in3 (c : Dev nD) (t : Fin cfg0.N) (j : Fin 1024) : iblk m c 3 t ((ix3 0 0 j) : S1x1x1024.Idx) = Cert.Reference2Ideal.Row.part (m ((c : Thread nD τ).loc main_arg4)) (entry t) 2 j := by
  blk_simp [iblk]
  entry_read
  pointwise [Cert.Reference2Ideal.Row.part, entry]
  all_goals blk_ext [idx t]

theorem in4 (c : Dev nD) (t : Fin cfg0.N) (r : Fin 512) (k : Fin 1024) : iblk m c 4 t ((ix3 0 r k) : S1x512x1024.Idx) = m ((c : Thread nD τ).loc main_arg2) (ix3 (entry t) (row t r) k) := by
  blk_ext [iblk, V, idx t, entry, row]

theorem in5 (c : Dev nD) (t : Fin cfg0.N) (j : Fin 1024) : iblk m c 5 t ((ix2 0 j) : S1x1024.Idx) = m ((c : Thread nD τ).loc main_arg3) (ix1 j) := by
  blk_simp [iblk]
  entry_read
  pointwise [Cert.Reference2Ideal.Row.part, entry]
  all_goals blk_ext [idx t]

theorem in6 (c : Dev nD) (t : Fin cfg0.N) (j : Fin 1024) : iblk m c 6 t ((ix3 0 0 j) : S1x1x1024.Idx) = Cert.Reference2Ideal.Row.part (m ((c : Thread nD τ).loc main_arg4)) (entry t) 3 j := by
  blk_simp [iblk]
  entry_read
  pointwise [Cert.Reference2Ideal.Row.part, entry]
  all_goals blk_ext [idx t]

theorem in7 (c : Dev nD) (t : Fin cfg0.N) (j : Fin 1024) : iblk m c 7 t ((ix3 0 0 j) : S1x1x1024.Idx) = Cert.Reference2Ideal.Row.part (m ((c : Thread nD τ).loc main_arg4)) (entry t) 4 j := by
  blk_simp [iblk]
  entry_read
  pointwise [Cert.Reference2Ideal.Row.part, entry]
  all_goals blk_ext [idx t]

theorem in8 (c : Dev nD) (t : Fin cfg0.N) (j : Fin 1024) : iblk m c 8 t ((ix3 0 0 j) : S1x1x1024.Idx) = Cert.Reference2Ideal.Row.part (m ((c : Thread nD τ).loc main_arg4)) (entry t) 5 j := by
  blk_simp [iblk]
  entry_read
  pointwise [Cert.Reference2Ideal.Row.part, entry]
  all_goals blk_ext [idx t]

theorem in9 (c : Dev nD) (t : Fin cfg0.N) (k : Fin 1024) (f : Fin 2816) : iblk m c 9 t ((ix3 0 k f) : S1x1024x2816.Idx) = m ((c : Thread nD τ).loc main_arg5) (ix3 0 k f) := by
  blk_simp [iblk]
  entry_read
  pointwise [Cert.Reference2Ideal.Row.part, entry]
  all_goals blk_ext [idx t]

theorem in10 (c : Dev nD) (t : Fin cfg0.N) (k : Fin 1024) (f : Fin 2816) : iblk m c 10 t ((ix3 0 k f) : S1x1024x2816.Idx) = m ((c : Thread nD τ).loc main_arg6) (ix3 0 k f) := by
  blk_simp [iblk]
  entry_read
  pointwise [Cert.Reference2Ideal.Row.part, entry]
  all_goals blk_ext [idx t]

theorem in11 (c : Dev nD) (t : Fin cfg0.N) (f : Fin 2816) (j : Fin 1024) : iblk m c 11 t ((ix3 0 f j) : S1x2816x1024.Idx) = m ((c : Thread nD τ).loc main_arg7) (ix3 0 f j) := by
  blk_simp [iblk]
  entry_read
  pointwise [Cert.Reference2Ideal.Row.part, entry]
  all_goals blk_ext [idx t]

/-- What point `t` stores is the reference's result there. -/
theorem point (c : Dev nD) (t : Fin cfg0.N) (y : S1x512x1024.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = Cert.Reference2Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 13).blk t).view.emb y) := by
  obtain ⟨z, r, j, rfl⟩ : ∃ z r j, y = ix3 z r j := ⟨y 0, y 1, y 2, by funext a; match a with | ⟨0, _⟩ => rfl | ⟨1, _⟩ => rfl | ⟨2, _⟩ => rfl⟩
  have hz : z = 0 := Subsingleton.elim _ _
  subst hz
  have e : ((cfg0.win 13).blk t).view.emb (ix3 0 r j : S1x512x1024.Idx) = ix3 (entry t) (row t r) j := by
    blk_ext [idx t, entry, row]
  rw [e, Tile.out_apply]
  simp only [in0, in1, in2, in3, in4, in5, in6, in7, in8, in9, in10, in11]
  exact (Cert.Reference2Ideal.Row.result _ _ _ _ _ _ _ _ _ _ _).symm

/-- The kernel's result array after the run is the reference's result. -/
theorem final (c : Dev nD) :
    (dats m 0 c).arrAt 13 (cfgs 0).N = Cert.Reference2Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t _ y => ?_
  blk_simp
  rw [after0_13]
  exact point m c t y

end Cert.Kernel2Ideal.Final

end
-- ==== Proof.Value2.lean ====
/- The feed-forward kernel and its reference end with the same array. -/
module

public import proofs.«01_k».proof.Defs
public import proofs.«01_k».proof.Proof.Final2
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read

@[expose] public section

noncomputable section

namespace Cert.Proof

open Idealize.ShloMosaic Idealize.SL.Sem

/-- From memories that agree on the arguments, both programs run and their results agree. -/
theorem value2 : Cert.algebraic_Kernel2Ideal_Reference2Ideal := fun m g m' g' _ heq =>
  ⟨fun c => (Cert.Kernel2Ideal.Gen.dats m 0 c).arrAt 13 Cert.Kernel2Ideal.cfg0.N,
    Cert.Kernel2Ideal.Value.run_blocks m g,
    (θ_run Cert.Reference2Ideal.defs _ _).mono (fun r h c => ⟨by
      obtain ⟨h0, h1, h2, h3, h4, h5, h6, h7, h8⟩ := heq c
      refine (h c).1.trans ?_
      rw [Cert.Reference2Ideal.Read.val_main_v49_eq]
      refine Eq.trans ?_ (Cert.Kernel2Ideal.Final.final m c).symm
      rw [h0, h1, h2, h3, h4, h5, h6, h7], (h c).2⟩) (Cert.Reference2Ideal.Value.run m' g')⟩

end Cert.Proof

end
-- ==== Proof.Tile3.lean ====
/- What the projection kernel stores of a row block, read entry by entry: the modulated norm of the row times the matrix, with
   the bias; the queries' columns carry the scores' scale to base two. -/
module

public import proofs.«01_k».proof.Proof.Tile2
public import proofs.«01_k».proof.Proof.Gen.Kernel3Ideal.Value

@[expose] public section

set_option maxRecDepth 16384

noncomputable section

namespace Cert.Kernel3Ideal.Tile

open Cert.Kernel3Ideal Cert.Kernel3Ideal.Gen Idealize.ShloMosaic Idealize.ShloMosaic.TcCoe Idealize.SL.Sem
open Cert.Kernel2Ideal.Tile (modV modV_apply)

/-- An entry of a row times a column, with its bias. -/
def proj (h w : Fin 1024 → EReal) (b : EReal) : EReal := (∑ k : Fin 1024, h k * w k) + b

/-- The scores' scale, 1/8, taken to base two. -/
def scale : EReal := ((8⁻¹ * (Real.log 2)⁻¹ : ℝ) : EReal)

/-- Column `j` of the queries among the columns of the projection. -/
def qcol (j : Fin 1024) : Fin 1280 := ⟨j.val, by have := j.isLt; omega⟩

/-- Column `j` of the keys. -/
def kcol (j : Fin 128) : Fin 1280 := ⟨1024 + j.val, by have := j.isLt; omega⟩

/-- Column `j` of the values. -/
def vcol (j : Fin 128) : Fin 1280 := ⟨1152 + j.val, by have := j.isLt; omega⟩

/-- The projected block. -/
def projV (x : Vec Ideal S1x512x1024 .f32) (g : Vec Ideal S1x1024 .f32) (sh sc : Vec Ideal S1x1x1024 .f32)
    (w : Vec Ideal S1x1024x1280 .bf16) (b : Vec Ideal S1x1280 .f32) : FVec Ideal S512x1280 .f32 :=
  addf (matmul dot_S512x1024_S1024x1280_S512x1280_1_0_0_1_n_n none
      (modV (shapeCast S512x1024 x shapeCasts_S1x512x1024_S512x1024 : FVec Ideal S512x1024 .f32) g sh sc : FVec Ideal S512x1024 .bf16)
      (shapeCast S1024x1280 w shapeCasts_S1x1024x1280_S1024x1280 : FVec Ideal S1024x1280 .bf16) (constant S512x1280 .f32 0x00000000#32))
    (broadcastTo S512x1280 (shapeCast S1x1280 b shapeCasts_S1x1280_S1x1280) broadcasts_S1x1280_S512x1280)

/-- An entry of a projected block. -/
def entry (x : Vec Ideal S1x512x1024 .f32) (g : Vec Ideal S1x1024 .f32) (sh sc : Vec Ideal S1x1x1024 .f32)
    (w : Vec Ideal S1x1024x1280 .bf16) (b : Vec Ideal S1x1280 .f32) (r : Fin 512) (j : Fin 1280) : EReal :=
  proj (Rows.modulated (fun k => x (ix3 0 r k)) (fun j => g (ix2 0 j)) (fun j => sh (ix3 0 0 j)) (fun j => sc (ix3 0 0 j)))
    (fun k => w (ix3 0 k j)) (b (ix2 0 j))

theorem projV_apply (x : Vec Ideal S1x512x1024 .f32) (g : Vec Ideal S1x1024 .f32) (sh sc : Vec Ideal S1x1x1024 .f32)
    (w : Vec Ideal S1x1024x1280 .bf16) (b : Vec Ideal S1x1280 .f32) (r : Fin 512) (j : Fin 1280) :
    projV x g sh sc w b (ix2 r j : S512x1280.Idx) = entry x g sh sc w b r j := by
  pointwise [projV, modV_apply, entry, proj]
  all_goals rfl

/-- The projected block of the body is `projV`. -/
theorem pay_eq (x : Vec Ideal S1x512x1024 .f32) (g : Vec Ideal S1x1024 .f32) (sh sc : Vec Ideal S1x1x1024 .f32)
    (w : Vec Ideal S1x1024x1280 .bf16) (b : Vec Ideal S1x1280 .f32) : k0_pay4 x g sh sc w b = projV x g sh sc w b := rfl

/-- The named constant is the scale. -/
theorem scale_eq : Named.named (F := Ideal) (φ := .f32) κ "scale" 0x3E38AA3B#32 = scale := by
  unfold scale
  exact IdealRules.named_const.ideal_named_scalar _ _ _ _ rfl

/-- The queries' block, entry by entry. -/
theorem queries (P : FVec Ideal S512x1280 .f32) (r : Fin 512) (j : Fin 1024) :
    k0_pay1 (extractStridedSlice S512x1024 ![0, 0] P slices_S512x1280_o0_0_S512x1024) (k0_pay6 (F := Ideal)) (ix3 0 r j : S1x512x1024.Idx)
      = P (ix2 r (qcol j) : S512x1280.Idx) * scale := by
  pointwise [k0_pay1, k0_pay6, qcol]
  all_goals rw [scale_eq]

/-- The keys' block. -/
theorem keys (P : FVec Ideal S512x1280 .f32) (r : Fin 512) (j : Fin 128) :
    k0_pay2 P (ix3 0 r j : S1x512x128.Idx) = P (ix2 r (kcol j) : S512x1280.Idx) := by
  pointwise [k0_pay2, kcol]

/-- The values' block. -/
theorem values (P : FVec Ideal S512x1280 .f32) (r : Fin 512) (j : Fin 128) :
    k0_pay3 P (ix3 0 r j : S1x512x128.Idx) = P (ix2 r (vcol j) : S512x1280.Idx) := by
  pointwise [k0_pay3, vcol]

/-- The blocks loaded whole are the blocks. -/
theorem loads (x : Vec Ideal S1x512x1024 .f32) (g : Vec Ideal S1x1024 .f32) (sh sc : Vec Ideal S1x1x1024 .f32)
    (w : Vec Ideal S1x1024x1280 .bf16) (b : Vec Ideal S1x1280 .f32) :
    k0_pay4 (View.ld x r0_0) (View.ld g r0_1) (View.ld sh r0_2) (View.ld sc r0_2) (View.ld w r0_3) (View.ld b r0_4) = projV x g sh sc w b := by
  have z3 : (![0, 0, 0] : Fin 3 → ℕ) = fun _ => 0 := by funext a; fin_cases a <;> rfl
  have z2 : (![0, 0] : Fin 2 → ℕ) = fun _ => 0 := by funext a; fin_cases a <;> rfl
  rw [View.ld_unit_zero (S := S1x512x1024) z3, View.ld_unit_zero (S := S1x1024) z2, View.ld_unit_zero (S := S1x1x1024) z3,
    View.ld_unit_zero (S := S1x1x1024) z3, View.ld_unit_zero (S := S1x1024x1280) z3, View.ld_unit_zero (S := S1x1280) z2, pay_eq]

/-- The queries a point stores. -/
theorem out_queries (x : Vec Ideal S1x512x1024 .f32) (g : Vec Ideal S1x1024 .f32) (sh sc : Vec Ideal S1x1x1024 .f32)
    (w : Vec Ideal S1x1024x1280 .bf16) (b : Vec Ideal S1x1280 .f32) (r : Fin 512) (j : Fin 1024) :
    out0_6 x g sh sc w b (ix3 0 r j : S1x512x1024.Idx) = entry x g sh sc w b r (qcol j) * scale := by
  have z3 : (![0, 0, 0] : Fin 3 → ℕ) = fun _ => 0 := by funext a; fin_cases a <;> rfl
  unfold_out out0_6
  unfold k0_pay5
  rw [loads, View.canon_unit_zero (S := S1x512x1024) z3]
  exact (queries _ r j).trans (by rw [projV_apply])

/-- The keys a point stores. -/
theorem out_keys (x : Vec Ideal S1x512x1024 .f32) (g : Vec Ideal S1x1024 .f32) (sh sc : Vec Ideal S1x1x1024 .f32)
    (w : Vec Ideal S1x1024x1280 .bf16) (b : Vec Ideal S1x1280 .f32) (r : Fin 512) (j : Fin 128) :
    out0_7 x g sh sc w b (ix3 0 r j : S1x512x128.Idx) = entry x g sh sc w b r (kcol j) := by
  have z3 : (![0, 0, 0] : Fin 3 → ℕ) = fun _ => 0 := by funext a; fin_cases a <;> rfl
  unfold_out out0_7
  rw [loads, View.canon_unit_zero (S := S1x512x128) z3]
  exact (keys _ r j).trans (projV_apply x g sh sc w b r (kcol j))

/-- The values a point stores. -/
theorem out_values (x : Vec Ideal S1x512x1024 .f32) (g : Vec Ideal S1x1024 .f32) (sh sc : Vec Ideal S1x1x1024 .f32)
    (w : Vec Ideal S1x1024x1280 .bf16) (b : Vec Ideal S1x1280 .f32) (r : Fin 512) (j : Fin 128) :
    out0_8 x g sh sc w b (ix3 0 r j : S1x512x128.Idx) = entry x g sh sc w b r (vcol j) := by
  have z3 : (![0, 0, 0] : Fin 3 → ℕ) = fun _ => 0 := by funext a; fin_cases a <;> rfl
  unfold_out out0_8
  rw [loads, View.canon_unit_zero (S := S1x512x128) z3]
  exact (values _ r j).trans (projV_apply x g sh sc w b r (vcol j))

end Cert.Kernel3Ideal.Tile

end
-- ==== Proof.Ref3.lean ====
/- The projection's reference, read row by row. -/
module

public import proofs.«01_k».proof.Proof.Ref2
public import proofs.«01_k».proof.Proof.Tile3
public import proofs.«01_k».proof.Proof.Gen.Reference3Ideal.Read

@[expose] public section

set_option maxRecDepth 16384

noncomputable section

namespace Cert.Reference3Ideal.Row

open Cert.Reference3Ideal Cert.Reference3Ideal.Gen Cert.Reference3Ideal.Read Idealize.ShloMosaic
open Cert.Reference2Ideal.Row (part)
open Cert.Kernel3Ideal.Tile (proj scale qcol kcol vcol)

variable (x : FVec Ideal S16x2048x1024 .f32) (g : FVec Ideal S1024 .f32) (mod : FVec Ideal S16x6144 .f32)
  (w : FVec Ideal S2x1024x1280 .f32) (b : FVec Ideal S2x1280 .f32)

/-- The modulated norm of the row. -/
theorem modulated (n : Fin 16) (i : Fin 2048) (j : Fin 1024) :
    val_main_v26 (F := Ideal) x g mod (ix3 n i j)
      = Rows.modulated (fun j => x (ix3 n i j)) (fun j => g (ix1 j)) (part mod n 0) (part mod n 1) j := by
  pointwise [val_main_v26, val_main_v25, val_main_v24, val_main_v23, val_main_v22, val_main_v21, val_main_v20, val_main_cst_2, val_main_v19, val_main_v18, val_main_v17, val_main_v16, val_main_v15, val_main_v14, val_main_v13, val_main_v12, val_main_v11, val_main_cst_1, val_main_v10, val_main_v9, val_main_cst_0, val_main_v8, val_main_v7, val_main_cst, val_main_v6, val_main_v0, val_main_v1, Rows.modulated, Rows.norm, Rows.inv, part]
  all_goals rfl

/-- An entry of the reference's projection. -/
def entry (n : Fin 16) (i : Fin 2048) (j : Fin 1280) : EReal :=
  proj (Rows.modulated (fun j => x (ix3 n i j)) (fun j => g (ix1 j)) (part mod n 0) (part mod n 1)) (fun k => w (ix3 1 k j)) (b (ix2 1 j))

/-- The projection. -/
theorem projected (n : Fin 16) (i : Fin 2048) (j : Fin 1280) :
    val_main_v34 (F := Ideal) x g mod w b (ix3 n i j) = entry x g mod w b n i j := by
  pointwise [val_main_v34, val_main_v33, val_main_v32, val_main_v31, val_main_v30, val_main_v29, val_main_v28, val_main_v27, modulated, entry, proj]

/-- An eighth, over the logarithm of two, is the scale to base two. -/
theorem scaled (p : EReal) : Ideal.div (p * Ideal.ofBits .f32 0x3E000000#32) (Ideal.log (Ideal.ofBits .f32 0x40000000#32)) = p * scale := by
  have h2 : Ideal.ofBits .f32 0x40000000#32 = ((2 : ℝ) : EReal) := by
    simp [Ideal.ofBits, Ideal.ieee, -EReal.coe_mul]; norm_num
  have h8 : Ideal.ofBits .f32 0x3E000000#32 = ((8⁻¹ : ℝ) : EReal) := by
    simp [Ideal.ofBits, Ideal.ieee, -EReal.coe_mul]; norm_num
  have hl : Real.log 2 ≠ 0 := (Real.log_pos (by norm_num)).ne'
  have e : Ideal.log ((2 : ℝ) : EReal) = ((Real.log 2 : ℝ) : EReal) := by
    show (if (2 : ℝ) ≤ 0 then ⊥ else ((Real.log 2 : ℝ) : EReal)) = _
    rw [if_neg (by norm_num)]
  rw [h2, h8, e]
  unfold Ideal.div scale
  rw [if_neg (by exact_mod_cast hl), EReal.coe_mul, EReal.coe_inv, EReal.coe_inv, mul_assoc]

/-- The queries. -/
theorem queries (n : Fin 16) (i : Fin 2048) (j : Fin 1024) :
    val_main_v44 (F := Ideal) x g mod w b (ix3 n i j) = entry x g mod w b n i (qcol j) * scale := by
  refine Eq.trans ?_ (scaled _)
  rw [← projected]
  pointwise [val_main_v44, val_main_v43, val_main_v42, val_main_v41, val_main_v40, val_main_cst_4, val_main_v39, val_main_v38, val_main_cst_3, val_main_v35, qcol]
  all_goals rfl

/-- The keys. -/
theorem keys (n : Fin 16) (i : Fin 2048) (j : Fin 128) :
    val_main_v45 (F := Ideal) x g mod w b (ix3 n i j) = entry x g mod w b n i (kcol j) := by
  rw [← projected]
  pointwise [val_main_v45, val_main_v36, kcol]

/-- The values. -/
theorem values (n : Fin 16) (i : Fin 2048) (j : Fin 128) :
    val_main_v46 (F := Ideal) x g mod w b (ix3 n i j) = entry x g mod w b n i (vcol j) := by
  rw [← projected]
  pointwise [val_main_v46, val_main_v37, vcol]

end Cert.Reference3Ideal.Row

end
-- ==== Proof.Final3.lean ====
/- The projection kernel, from its blocks to its results: the three arrays after the run are the reference's. -/
module

public import proofs.«01_k».proof.Proof.Tile3
public import proofs.«01_k».proof.Proof.Ref3
public import Idealize.ShloMosaic.Lib.Pipeline.ValueKit

@[expose] public section

set_option maxRecDepth 16384

noncomputable section

namespace Cert.Kernel3Ideal.Final

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Where each window stands at grid point `t`: batch entry `t / 4`, row block `t % 4`. -/
theorem idx : ∀ t : Fin cfg0.N,
    win0_0.index t = ![t.val / 4, t.val % 4, 0] ∧ win0_1.index t = ![0, 0] ∧ win0_2.index t = ![t.val / 4, 0, 0]
    ∧ win0_3.index t = ![t.val / 4, 0, 0] ∧ win0_4.index t = ![1, 0, 0] ∧ win0_5.index t = ![0, 0]
    ∧ win0_6.index t = ![t.val / 4, t.val % 4, 0] ∧ win0_7.index t = ![t.val / 4, t.val % 4, 0]
    ∧ win0_8.index t = ![t.val / 4, t.val % 4, 0] ∧ t.val / 4 < 16 :=
  (by decide +kernel : ∀ t : Fin grid0.N, _)

/-- The batch entry of point `t`. -/
def entry (t : Fin cfg0.N) : Fin 16 := ⟨t.val / 4, (idx t).2.2.2.2.2.2.2.2.2⟩

/-- Row `r` of point `t`'s block among the rows of its batch entry. -/
def row (t : Fin cfg0.N) (r : Fin 512) : Fin 2048 := ⟨t.val % 4 * 512 + r.val, by have := r.isLt; omega⟩

/-! ## The input blocks, entry by entry, as the arguments -/

theorem in0 (c : Dev nD) (t : Fin cfg0.N) (r : Fin 512) (k : Fin 1024) : iblk m c 0 t ((ix3 0 r k) : S1x512x1024.Idx) = m ((c : Thread nD τ).loc main_arg0) (ix3 (entry t) (row t r) k) := by
  blk_ext [iblk, V, idx t, entry, row]

theorem in1 (c : Dev nD) (t : Fin cfg0.N) (j : Fin 1024) : iblk m c 1 t ((ix2 0 j) : S1x1024.Idx) = m ((c : Thread nD τ).loc main_arg1) (ix1 j) := by
  blk_simp [iblk]
  entry_read
  pointwise
  all_goals blk_ext [idx t]

theorem in2 (c : Dev nD) (t : Fin cfg0.N) (j : Fin 1024) : iblk m c 2 t ((ix3 0 0 j) : S1x1x1024.Idx) = Cert.Reference2Ideal.Row.part (m ((c : Thread nD τ).loc main_arg2)) (entry t) 0 j := by
  blk_simp [iblk]
  entry_read
  pointwise [Cert.Reference2Ideal.Row.part, entry]
  all_goals blk_ext [idx t]

theorem in3 (c : Dev nD) (t : Fin cfg0.N) (j : Fin 1024) : iblk m c 3 t ((ix3 0 0 j) : S1x1x1024.Idx) = Cert.Reference2Ideal.Row.part (m ((c : Thread nD τ).loc main_arg2)) (entry t) 1 j := by
  blk_simp [iblk]
  entry_read
  pointwise [Cert.Reference2Ideal.Row.part, entry]
  all_goals blk_ext [idx t]

theorem in4 (c : Dev nD) (t : Fin cfg0.N) (k : Fin 1024) (j : Fin 1280) : iblk m c 4 t ((ix3 0 k j) : S1x1024x1280.Idx) = m ((c : Thread nD τ).loc main_arg3) (ix3 1 k j) := by
  blk_simp [iblk]
  entry_read
  pointwise
  all_goals blk_ext [idx t]

theorem in5 (c : Dev nD) (t : Fin cfg0.N) (j : Fin 1280) : iblk m c 5 t ((ix2 0 j) : S1x1280.Idx) = m ((c : Thread nD τ).loc main_arg4) (ix2 1 j) := by
  blk_simp [iblk]
  entry_read
  pointwise
  all_goals blk_ext [idx t]

/-- An entry of point `t`'s projected block is the reference's. -/
theorem point (c : Dev nD) (t : Fin cfg0.N) (r : Fin 512) (j : Fin 1280) :
    Tile.entry (iblk m c 0 t) (iblk m c 1 t) (iblk m c 2 t) (iblk m c 3 t) (iblk m c 4 t) (iblk m c 5 t) r j
      = Cert.Reference3Ideal.Row.entry (m ((c : Thread nD τ).loc main_arg0)) (m ((c : Thread nD τ).loc main_arg1)) (m ((c : Thread nD τ).loc main_arg2)) (m ((c : Thread nD τ).loc main_arg3)) (m ((c : Thread nD τ).loc main_arg4)) (entry t) (row t r) j := by
  unfold Tile.entry Cert.Reference3Ideal.Row.entry
  simp only [in0, in1, in2, in3, in4, in5]

/-- The queries after the run. -/
theorem queries (c : Dev nD) :
    (dats m 0 c).arrAt 6 (cfgs 0).N = Cert.Reference3Ideal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  obtain ⟨z, r, j, rfl⟩ : ∃ z r j, y = ix3 z r j := ⟨y 0, y 1, y 2, by funext a; match a with | ⟨0, _⟩ => rfl | ⟨1, _⟩ => rfl | ⟨2, _⟩ => rfl⟩
  have hz : z = 0 := Subsingleton.elim _ _
  subst hz
  have e : ((cfg0.win 6).blk t).view.emb (ix3 0 r j : S1x512x1024.Idx) = ix3 (entry t) (row t r) j := by
    blk_ext [idx t, entry, row]
  rw [e, Tile.out_queries, point]
  exact (Cert.Reference3Ideal.Row.queries _ _ _ _ _ _ _ _).symm

/-- The keys after the run. -/
theorem keys (c : Dev nD) :
    (dats m 0 c).arrAt 7 (cfgs 0).N = Cert.Reference3Ideal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  obtain ⟨z, r, j, rfl⟩ : ∃ z r j, y = ix3 z r j := ⟨y 0, y 1, y 2, by funext a; match a with | ⟨0, _⟩ => rfl | ⟨1, _⟩ => rfl | ⟨2, _⟩ => rfl⟩
  have hz : z = 0 := Subsingleton.elim _ _
  subst hz
  have e : ((cfg0.win 7).blk t).view.emb (ix3 0 r j : S1x512x128.Idx) = ix3 (entry t) (row t r) j := by
    blk_ext [idx t, entry, row]
  rw [e, Tile.out_keys, point]
  exact (Cert.Reference3Ideal.Row.keys _ _ _ _ _ _ _ _).symm

/-- The values after the run. -/
theorem values (c : Dev nD) :
    (dats m 0 c).arrAt 8 (cfgs 0).N = Cert.Reference3Ideal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  obtain ⟨z, r, j, rfl⟩ : ∃ z r j, y = ix3 z r j := ⟨y 0, y 1, y 2, by funext a; match a with | ⟨0, _⟩ => rfl | ⟨1, _⟩ => rfl | ⟨2, _⟩ => rfl⟩
  have hz : z = 0 := Subsingleton.elim _ _
  subst hz
  have e : ((cfg0.win 8).blk t).view.emb (ix3 0 r j : S1x512x128.Idx) = ix3 (entry t) (row t r) j := by
    blk_ext [idx t, entry, row]
  rw [e, Tile.out_values, point]
  exact (Cert.Reference3Ideal.Row.values _ _ _ _ _ _ _ _).symm

end Cert.Kernel3Ideal.Final

end
-- ==== Proof.Value3.lean ====
/- The projection kernel and its reference end with the same three arrays. -/
module

public import proofs.«01_k».proof.Defs
public import proofs.«01_k».proof.Proof.Final3
public import proofs.«01_k».proof.Proof.Gen.Kernel3Ideal
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read

@[expose] public section

noncomputable section

namespace Cert.Proof

open Idealize.ShloMosaic Idealize.SL.Sem

/-- From memories that agree on the arguments, both programs run and their results agree. -/
theorem value3 : Cert.algebraic_Kernel3Ideal_Reference3Ideal := fun m g m' g' _ heq =>
  ⟨fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 8 Cert.Kernel3Ideal.cfg0.N,
    Cert.Kernel3Ideal.Value.run_blocks m g,
    (θ_run Cert.Reference3Ideal.defs _ _).mono (fun r h c => by
      obtain ⟨h0, h1, h2, h3, h4⟩ := heq c
      refine ⟨(h c).1.trans ?_, (h c).2.1.trans ?_, (h c).2.2.1.trans ?_, (h c).2.2.2⟩
      · rw [Cert.Reference3Ideal.Read.val_main_v44_eq]
        refine Eq.trans ?_ (Cert.Kernel3Ideal.Final.queries m c).symm
        rw [h0, h1, h2, h3, h4]
      · rw [Cert.Reference3Ideal.Read.val_main_v45_eq]
        refine Eq.trans ?_ (Cert.Kernel3Ideal.Final.keys m c).symm
        rw [h0, h1, h2, h3, h4]
      · rw [Cert.Reference3Ideal.Read.val_main_v46_eq]
        refine Eq.trans ?_ (Cert.Kernel3Ideal.Final.values m c).symm
        rw [h0, h1, h2, h3, h4]) (Cert.Reference3Ideal.Value.run m' g')⟩

end Cert.Proof

end
-- ==== Proof.Rows4.lean ====
/- One row of the sparse mixer's projection over the extended reals: which columns hold what, and what is made of them. -/
module

public import proofs.«01_k».proof.Proof.Rows

@[expose] public section

noncomputable section

namespace Cert.Rows

open Idealize.ShloMosaic

/-- A row times a column. -/
def dot (h w : Fin 1024 → EReal) : EReal := ∑ k : Fin 1024, h k * w k

/-- Column `j` of the queries among the columns of the projection. -/
def queryCol (j : Fin 1024) : Fin 1864 := ⟨j.val, by have := j.isLt; omega⟩

/-- Column `j` of the latents. -/
def latentCol (j : Fin 256) : Fin 1864 := ⟨1024 + j.val, by have := j.isLt; omega⟩

/-- Column `j` of the indexer's queries. -/
def indexCol (j : Fin 512) : Fin 1864 := ⟨1280 + j.val, by have := j.isLt; omega⟩

/-- Column `j` of the indexer's keys. -/
def keyCol (j : Fin 64) : Fin 1864 := ⟨1792 + j.val, by have := j.isLt; omega⟩

/-- Column `j` of the indexer's head weights. -/
def headCol (j : Fin 8) : Fin 1864 := ⟨1856 + j.val, by have := j.isLt; omega⟩

/-- The RMS norm of a latent row with its gain. -/
def latent (c g : Fin 256 → EReal) (j : Fin 256) : EReal :=
  c j * Ideal.rsqrt (Ideal.div (∑ k : Fin 256, c k * c k) (Ideal.ofBits .f32 0x43800000#32) + Ideal.ofBits .f32 0x358637BD#32) * g j

/-- The mean of an indexer key. -/
def mean (c : Fin 64 → EReal) : EReal := Ideal.div (∑ k : Fin 64, c k) (Ideal.ofBits .f32 0x42800000#32)

/-- The layer norm of an indexer key with its gain and bias. -/
def indexKey (c g b : Fin 64 → EReal) (j : Fin 64) : EReal :=
  (c j - mean c) * Ideal.rsqrt (mean (fun k => (c k - mean c) * (c k - mean c)) + Ideal.ofBits .f32 0x358637BD#32) * g j + b j

/-- A query entry with the scale of the logits. -/
def query (p : EReal) : EReal := p * Ideal.ofBits .f32 0x3E000000#32

/-- A head weight with its scale. -/
def headWeight (p : EReal) : EReal := p * Ideal.ofBits .f32 0x3D3504F3#32

end Cert.Rows

end
-- ==== Proof.Tile4.lean ====
/- What the sparse mixer's projection kernel stores of a row block, read entry by entry. -/
module

public import proofs.«01_k».proof.Proof.Tile2
public import proofs.«01_k».proof.Proof.Rows4
public import proofs.«01_k».proof.Proof.Gen.Kernel4Ideal.Frame
public import Idealize.ShloMosaic.Lib.Pipeline.ValueKit

@[expose] public section

set_option maxRecDepth 16384

noncomputable section

namespace Cert.Kernel4Ideal.Tile

open Cert.Kernel4Ideal Cert.Kernel4Ideal.Gen Idealize.ShloMosaic Idealize.ShloMosaic.TcCoe Idealize.SL.Sem
open Cert.Kernel2Ideal.Tile (modV modV_apply)
open Cert.Rows (dot queryCol latentCol indexCol keyCol headCol latent mean indexKey query headWeight)

/-- A column among those of the padded matrix. -/
def wide (j : Fin 1864) : Fin 1920 := ⟨j.val, by have := j.isLt; omega⟩

section
variable (x : Vec Ideal S1x512x1024 .f32) (g : Vec Ideal S1x1024 .f32) (sh sc : Vec Ideal S1x1x1024 .f32)

/-- A row of the modulated block. -/
def hrow (r : Fin 512) : Fin 1024 → EReal :=
  Rows.modulated (fun k => x (ix3 0 r k)) (fun j => g (ix2 0 j)) (fun j => sh (ix3 0 0 j)) (fun j => sc (ix3 0 0 j))

theorem pay2_apply (r : Fin 512) (k : Fin 1024) : k0_pay2 x g sh sc (ix2 r k : S512x1024.Idx) = hrow x g sh sc r k := by
  have e : k0_pay2 x g sh sc = modV (shapeCast S512x1024 x shapeCasts_S1x512x1024_S512x1024 : FVec Ideal S512x1024 .f32) g sh sc := rfl
  rw [e, modV_apply]
  unfold hrow
  pointwise

/-- An entry of the projected block. -/
def entry (w : Vec Ideal S1x1024x1920 .bf16) (r : Fin 512) (j : Fin 1864) : EReal :=
  dot (hrow x g sh sc r) (fun k => w (ix3 0 k (wide j)))

theorem pay3_apply (w : Vec Ideal S1x1024x1920 .bf16) (r : Fin 512) (j : Fin 1864) :
    k0_pay3 x g sh sc w (ix2 r (wide j) : S512x1920.Idx) = entry x g sh sc w r j := by
  pointwise [k0_pay3, pay2_apply, entry, dot]

/-- A head weight of the block. -/
def headEntry (w : Vec Ideal S1x16x1024 .bf16) (h : Fin 8) (r : Fin 512) : EReal :=
  headWeight (dot (hrow x g sh sc r) (fun k => w (ix3 0 ⟨h.val, by have := h.isLt; omega⟩ k)))

theorem heads (w : Vec Ideal S1x16x1024 .bf16) (h : Fin 8) (r : Fin 512) :
    k0_pay1 (k0_pay13 (k0_pay2 x g sh sc) w) (ix3 0 h r : S1x8x512.Idx) = headEntry x g sh sc w h r := by
  pointwise [k0_pay1, k0_pay13, pay2_apply, headEntry, headWeight, dot]
  all_goals simp only [mul_comm]

/-- The queries' block. -/
theorem queries (w : Vec Ideal S1x1024x1920 .bf16) (r : Fin 512) (j : Fin 1024) :
    k0_pay5 (k0_pay4 x g sh sc w) (ix3 0 r j : S1x512x1024.Idx) = query (entry x g sh sc w r (queryCol j)) := by
  rw [← pay3_apply]
  pointwise [k0_pay5, k0_pay4, query, wide, queryCol]
end

section
variable (P : FVec Ideal S512x1920 .f32)

/-- The latents' block before its cast. -/
theorem normed (g : Vec Ideal S1x256 .f32) (r : Fin 512) (j : Fin 256) :
    k0_pay6 P g (ix2 r j : S512x256.Idx)
      = latent (fun j => P (ix2 r (wide (latentCol j)) : S512x1920.Idx)) (fun j => g (ix2 0 j)) j := by
  pointwise [k0_pay6, latent, wide, latentCol]

/-- The latents' block. -/
theorem latents (g : Vec Ideal S1x256 .f32) (r : Fin 512) (j : Fin 256) :
    k0_pay7 P g (ix3 0 r j : S1x512x256.Idx) = k0_pay6 P g (ix2 r j : S512x256.Idx) := by
  pointwise [k0_pay7]

/-- The first chunk of latents, transposed. -/
theorem chunk0 (g : Vec Ideal S1x256 .f32) (j r : Fin 256) :
    k0_pay8 P g (ix4 0 0 j r : S1x1x256x256.Idx) = k0_pay6 P g (ix2 ⟨r.val, by have := r.isLt; omega⟩ j : S512x256.Idx) := by
  pointwise [k0_pay8]

/-- The second chunk of latents, transposed. -/
theorem chunk1 (g : Vec Ideal S1x256 .f32) (j r : Fin 256) :
    k0_pay9 P g (ix4 0 0 j r : S1x1x256x256.Idx) = k0_pay6 P g (ix2 ⟨256 + r.val, by have := r.isLt; omega⟩ j : S512x256.Idx) := by
  pointwise [k0_pay9]

/-- The indexer's queries' block. -/
theorem indexQueries (r : Fin 512) (j : Fin 512) :
    k0_pay11 (k0_pay10 P) (ix3 0 r j : S1x512x512.Idx) = P (ix2 r (wide (indexCol j)) : S512x1920.Idx) := by
  pointwise [k0_pay11, k0_pay10, wide, indexCol]

/-- The indexer's keys' block. -/
theorem indexKeys (g b : Vec Ideal S1x64 .f32) (r : Fin 512) (j : Fin 64) :
    k0_pay12 P g b (ix3 0 r j : S1x512x64.Idx)
      = indexKey (fun j => P (ix2 r (wide (keyCol j)) : S512x1920.Idx)) (fun j => g (ix2 0 j)) (fun j => b (ix2 0 j)) j := by
  pointwise [k0_pay12, indexKey, mean, wide, keyCol]
end

end Cert.Kernel4Ideal.Tile

end
-- ==== Proof.Ref4.lean ====
/- The sparse mixer's projection in the reference, read row by row. -/
module

public import proofs.«01_k».proof.Proof.Ref2
public import proofs.«01_k».proof.Proof.Rows4
public import proofs.«01_k».proof.Proof.Gen.Reference4Ideal.Read

@[expose] public section

set_option maxRecDepth 16384

noncomputable section

namespace Cert.Reference4Ideal.Row

open Cert.Reference4Ideal Cert.Reference4Ideal.Gen Cert.Reference4Ideal.Read Idealize.ShloMosaic
open Cert.Reference2Ideal.Row (part)
open Cert.Rows (dot queryCol latentCol indexCol keyCol headCol latent mean indexKey query headWeight)

variable (x : FVec Ideal S16x2048x1024 .f32) (g : FVec Ideal S1024 .f32) (mod : FVec Ideal S16x6144 .f32)
  (w : FVec Ideal S2x1024x1864 .f32) (gl : FVec Ideal S2x256 .f32) (gk bk : FVec Ideal S2x64 .f32)

/-- The modulated norm of the row. -/
theorem modulated (n : Fin 16) (i : Fin 2048) (j : Fin 1024) :
    val_main_v26 (F := Ideal) x g mod (ix3 n i j)
      = Rows.modulated (fun j => x (ix3 n i j)) (fun j => g (ix1 j)) (part mod n 0) (part mod n 1) j := by
  pointwise [val_main_v26, val_main_v25, val_main_v24, val_main_v23, val_main_v22, val_main_v21, val_main_v20, val_main_cst_2, val_main_v19, val_main_v18, val_main_v17, val_main_v16, val_main_v15, val_main_v14, val_main_v13, val_main_v12, val_main_v11, val_main_cst_1, val_main_v10, val_main_v9, val_main_cst_0, val_main_v8, val_main_v7, val_main_cst, val_main_v6, val_main_v0, val_main_v1, Rows.modulated, Rows.norm, Rows.inv, part]
  all_goals rfl

/-- An entry of the reference's projection. -/
def entry (n : Fin 16) (i : Fin 2048) (j : Fin 1864) : EReal :=
  dot (Rows.modulated (fun j => x (ix3 n i j)) (fun j => g (ix1 j)) (part mod n 0) (part mod n 1)) (fun k => w (ix3 0 k j))

/-- The projection. -/
theorem projected (n : Fin 16) (i : Fin 2048) (j : Fin 1864) :
    val_main_v29 (F := Ideal) x g mod w (ix3 n i j) = entry x g mod w n i j := by
  pointwise [val_main_v29, val_main_v28, val_main_v27, modulated, entry, dot]

/-- The queries. -/
theorem queries (n : Fin 16) (i : Fin 2048) (j : Fin 1024) :
    val_main_v84 (F := Ideal) x g mod w (ix3 n i j) = query (entry x g mod w n i (queryCol j)) := by
  rw [← projected]
  pointwise [val_main_v84, val_main_v81, val_main_v80, val_main_cst_12, val_main_v30, query, queryCol]

/-- The latents before their cast. -/
theorem normed (n : Fin 16) (i : Fin 2048) (j : Fin 256) :
    val_main_v49 (F := Ideal) x g mod w gl (ix3 n i j)
      = latent (fun j => entry x g mod w n i (latentCol j)) (fun j => gl (ix2 0 j)) j := by
  simp only [← projected]
  pointwise [val_main_v49, val_main_v48, val_main_v47, val_main_v46, val_main_v45, val_main_v44, val_main_v43, val_main_v42, val_main_cst_5, val_main_v41, val_main_v40, val_main_cst_4, val_main_v39, val_main_v38, val_main_cst_3, val_main_v37, val_main_v36, val_main_v35, val_main_v31, latent, latentCol]

/-- The latents. -/
theorem latents (n : Fin 16) (i : Fin 2048) (j : Fin 256) :
    val_main_v85 (F := Ideal) x g mod w gl (ix3 n i j)
      = latent (fun j => entry x g mod w n i (latentCol j)) (fun j => gl (ix2 0 j)) j := by
  rw [← normed]
  pointwise [val_main_v85]

/-- The latents, transposed chunk by chunk. -/
theorem transposed (n : Fin 16) (c : Fin 8) (j r : Fin 256) :
    val_main_v86 (F := Ideal) x g mod w gl (ix4 n c j r)
      = latent (fun j => entry x g mod w n ⟨c.val * 256 + r.val, by have := c.isLt; have := r.isLt; omega⟩ (latentCol j)) (fun j => gl (ix2 0 j)) j := by
  rw [← normed]
  pointwise [val_main_v86, val_main_v83, val_main_v82]

/-- The indexer's queries. -/
theorem indexQueries (n : Fin 16) (i : Fin 2048) (j : Fin 512) :
    val_main_v87 (F := Ideal) x g mod w (ix3 n i j) = entry x g mod w n i (indexCol j) := by
  rw [← projected]
  pointwise [val_main_v87, val_main_v32, indexCol]

/-- The indexer's keys. -/
theorem indexKeys (n : Fin 16) (i : Fin 2048) (j : Fin 64) :
    val_main_v88 (F := Ideal) x g mod w gk bk (ix3 n i j)
      = indexKey (fun j => entry x g mod w n i (keyCol j)) (fun j => gk (ix2 0 j)) (fun j => bk (ix2 0 j)) j := by
  simp only [← projected]
  pointwise [val_main_v88, val_main_v77, val_main_v76, val_main_v75, val_main_v74, val_main_v73, val_main_v72, val_main_v71, val_main_v70, val_main_v69, val_main_v68, val_main_v67, val_main_cst_10, val_main_v66, val_main_v65, val_main_v64, val_main_v63, val_main_cst_9, val_main_v62, val_main_v61, val_main_cst_8, val_main_v60, val_main_v59, val_main_v58, val_main_v57, val_main_v56, val_main_cst_7, val_main_v55, val_main_v54, val_main_cst_6, val_main_v53, val_main_v52, val_main_v51, val_main_v50, val_main_v33, indexKey, mean, keyCol]

/-- The indexer's head weights. -/
theorem headWeights (n : Fin 16) (h : Fin 8) (i : Fin 2048) :
    val_main_v89 (F := Ideal) x g mod w (ix3 n h i) = headWeight (entry x g mod w n i (headCol h)) := by
  rw [← projected]
  pointwise [val_main_v89, val_main_v79, val_main_v78, val_main_cst_11, val_main_v34, headWeight, headCol]

end Cert.Reference4Ideal.Row

end
-- ==== Proof.In4.lean ====
/- The input blocks of the sparse mixer's projection kernel, entry by entry, as the arguments. -/
module

public import proofs.«01_k».proof.Proof.Tile4
public import proofs.«01_k».proof.Proof.Ref4
public import Idealize.ShloMosaic.Lib.Pipeline.ValueKit

@[expose] public section

set_option maxRecDepth 16384

noncomputable section

namespace Cert.Kernel4Ideal.Final

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Where each window stands at grid point `t`: batch entry `t / 4`, row block `t % 4`. -/
theorem idx : ∀ t : Fin cfg0.N,
    win0_0.index t = ![t.val / 4, t.val % 4, 0] ∧ win0_1.index t = ![0, 0] ∧ win0_2.index t = ![t.val / 4, 0, 0]
    ∧ win0_3.index t = ![t.val / 4, 0, 0] ∧ win0_4.index t = ![0, 0, 0] ∧ win0_5.index t = ![0, 0, 0]
    ∧ win0_6.index t = ![0, 0] ∧ win0_7.index t = ![0, 0] ∧ win0_8.index t = ![0, 0]
    ∧ win0_9.index t = ![t.val / 4, t.val % 4, 0] ∧ win0_10.index t = ![t.val / 4, t.val % 4, 0]
    ∧ win0_11.index t = ![t.val / 4, t.val % 4, 0, 0] ∧ win0_12.index t = ![t.val / 4, t.val % 4, 0]
    ∧ win0_13.index t = ![t.val / 4, t.val % 4, 0] ∧ win0_14.index t = ![t.val / 4, 0, t.val % 4] ∧ t.val / 4 < 16 :=
  (by decide +kernel : ∀ t : Fin grid0.N, _)

/-- The batch entry of point `t`. -/
def entry (t : Fin cfg0.N) : Fin 16 := ⟨t.val / 4, (idx t).2.2.2.2.2.2.2.2.2.2.2.2.2.2.2⟩

/-- Row `r` of point `t`'s block among the rows of its batch entry. -/
def row (t : Fin cfg0.N) (r : Fin 512) : Fin 2048 := ⟨t.val % 4 * 512 + r.val, by have := r.isLt; omega⟩

/-! ## What the region's inputs hold at its entry -/

/-- The norm's weights. -/
theorem host19 (c : Dev nD) : V m c main_v19 = broadcastInDim S1x1024 ![1] bcast_S1024_S1x1024_1 (m ((c : Thread nD τ).loc main_arg1)) := by
  unfold V
  simp only [hostOps0, hostOps0_1, hostOps0_2, hostOps0_3, hostOps0_4, List.flatten_cons, List.flatten_nil, List.append_nil, List.cons_append, List.nil_append]
  entry_read
  rfl

/-- The shift. -/
theorem host6 (c : Dev nD) : V m c main_v6 = shapeCast S16x1x1024 (extractStridedSlice S16x1024 ![0, 0] (m ((c : Thread nD τ).loc main_arg2)) slices_S16x6144_S16x1024_0_0) shapeCasts_S16x1024_S16x1x1024 := by
  unfold V
  simp only [hostOps0, hostOps0_1, hostOps0_2, hostOps0_3, hostOps0_4, List.flatten_cons, List.flatten_nil, List.append_nil, List.cons_append, List.nil_append]
  entry_read
  rfl

/-- The scale. -/
theorem host7 (c : Dev nD) : V m c main_v7 = shapeCast S16x1x1024 (extractStridedSlice S16x1024 ![0, 1024] (m ((c : Thread nD τ).loc main_arg2)) slices_S16x6144_S16x1024_0_1024) shapeCasts_S16x1024_S16x1x1024 := by
  unfold V
  simp only [hostOps0, hostOps0_1, hostOps0_2, hostOps0_3, hostOps0_4, List.flatten_cons, List.flatten_nil, List.append_nil, List.cons_append, List.nil_append]
  entry_read
  rfl

/-- The matrix without the head weights' columns, padded. -/
theorem host14 (c : Dev nD) : V m c main_v14 = truncf .bf16 (pad S2x1024x1920 ![0, 0, 0] ![0, 0, 64] ![0, 0, 0] (extractStridedSlice S2x1024x1856 ![0, 0, 0] (m ((c : Thread nD τ).loc main_arg3)) slices_S2x1024x1864_S2x1024x1856_0_0_0) (sitofp (F := Ideal) .f32 (constantI S_ 32 0#32)) pads_S2x1024x1856_S2x1024x1920_000_000_0640 h_S_) bitsLt_bf16_f32 := by
  unfold V
  simp only [hostOps0, hostOps0_1, hostOps0_2, hostOps0_3, hostOps0_4, List.flatten_cons, List.flatten_nil, List.append_nil, List.cons_append, List.nil_append]
  entry_read
  rfl

/-- The head weights' columns, transposed and padded. -/
theorem host18 (c : Dev nD) : V m c main_v18 = truncf .bf16 (pad S2x16x1024 ![0, 0, 0] ![0, 8, 0] ![0, 0, 0] (transpose S2x8x1024 [0, 2, 1] (extractStridedSlice S2x1024x8 ![0, 0, 1856] (m ((c : Thread nD τ).loc main_arg3)) slices_S2x1024x1864_S2x1024x8_0_0_1856) transposes_S2x1024x8_S2x8x1024_0_2_1) (sitofp (F := Ideal) .f32 (constantI S_ 32 0#32)) pads_S2x8x1024_S2x16x1024_000_080_000 h_S_) bitsLt_bf16_f32 := by
  unfold V
  simp only [hostOps0, hostOps0_1, hostOps0_2, hostOps0_3, hostOps0_4, List.flatten_cons, List.flatten_nil, List.append_nil, List.cons_append, List.nil_append]
  entry_read
  rfl

/-- The latent norm's weights. -/
theorem host22 (c : Dev nD) : V m c main_v22 = broadcastInDim S1x256 ![1] bcast_S256_S1x256_1 (shapeCast S256 (extractStridedSlice S1x256 ![0, 0] (m ((c : Thread nD τ).loc main_arg4)) slices_S2x256_S1x256_0_0) shapeCasts_S1x256_S256) := by
  unfold V
  simp only [hostOps0, hostOps0_1, hostOps0_2, hostOps0_3, hostOps0_4, List.flatten_cons, List.flatten_nil, List.append_nil, List.cons_append, List.nil_append]
  entry_read
  rfl

/-- The key norm's weights. -/
theorem host25 (c : Dev nD) : V m c main_v25 = broadcastInDim S1x64 ![1] bcast_S64_S1x64_1 (shapeCast S64 (extractStridedSlice S1x64 ![0, 0] (m ((c : Thread nD τ).loc main_arg5)) slices_S2x64_S1x64_0_0) shapeCasts_S1x64_S64) := by
  unfold V
  simp only [hostOps0, hostOps0_1, hostOps0_2, hostOps0_3, hostOps0_4, List.flatten_cons, List.flatten_nil, List.append_nil, List.cons_append, List.nil_append]
  entry_read
  rfl

/-- The key norm's shift. -/
theorem host28 (c : Dev nD) : V m c main_v28 = broadcastInDim S1x64 ![1] bcast_S64_S1x64_1 (shapeCast S64 (extractStridedSlice S1x64 ![0, 0] (m ((c : Thread nD τ).loc main_arg6)) slices_S2x64_S1x64_0_0) shapeCasts_S1x64_S64) := by
  unfold V
  simp only [hostOps0, hostOps0_1, hostOps0_2, hostOps0_3, hostOps0_4, List.flatten_cons, List.flatten_nil, List.append_nil, List.cons_append, List.nil_append]
  entry_read
  rfl

/-! ## The input blocks -/

theorem in0 (c : Dev nD) (t : Fin cfg0.N) (r : Fin 512) (k : Fin 1024) : iblk m c 0 t ((ix3 0 r k) : S1x512x1024.Idx) = m ((c : Thread nD τ).loc main_arg0) (ix3 (entry t) (row t r) k) := by
  blk_ext [iblk, V, idx t, entry, row]

theorem in1 (c : Dev nD) (t : Fin cfg0.N) (j : Fin 1024) : iblk m c 1 t ((ix2 0 j) : S1x1024.Idx) = m ((c : Thread nD τ).loc main_arg1) (ix1 j) := by
  blk_simp [iblk]
  rw [host19]
  pointwise
  all_goals blk_ext [idx t]

theorem in2 (c : Dev nD) (t : Fin cfg0.N) (j : Fin 1024) : iblk m c 2 t ((ix3 0 0 j) : S1x1x1024.Idx) = Cert.Reference2Ideal.Row.part (m ((c : Thread nD τ).loc main_arg2)) (entry t) 0 j := by
  blk_simp [iblk]
  rw [host6]
  pointwise [Cert.Reference2Ideal.Row.part, entry]
  all_goals blk_ext [idx t]

theorem in3 (c : Dev nD) (t : Fin cfg0.N) (j : Fin 1024) : iblk m c 3 t ((ix3 0 0 j) : S1x1x1024.Idx) = Cert.Reference2Ideal.Row.part (m ((c : Thread nD τ).loc main_arg2)) (entry t) 1 j := by
  blk_simp [iblk]
  rw [host7]
  pointwise [Cert.Reference2Ideal.Row.part, entry]
  all_goals blk_ext [idx t]

/-- The padded matrix, within the columns that are not padding. -/
theorem in4 (c : Dev nD) (t : Fin cfg0.N) (k : Fin 1024) (j : Fin 1864) (hj : j.val < 1856) : iblk m c 4 t ((ix3 0 k (Tile.wide j)) : S1x1024x1920.Idx) = m ((c : Thread nD τ).loc main_arg3) (ix3 0 k j) := by
  blk_simp [iblk]
  have e : (win0_4.blk t).view.emb (ix3 0 k (Tile.wide j) : S1x1024x1920.Idx) = (ix3 0 k (Tile.wide j) : S2x1024x1920.Idx) := by
    blk_ext [idx t, Tile.wide]
  rw [host14, e]
  pointwise
  exact dif_pos hj

/-- The head weights' columns, transposed and padded, within the rows that are not padding. -/
theorem in5 (c : Dev nD) (t : Fin cfg0.N) (h : Fin 8) (k : Fin 1024) : iblk m c 5 t ((ix3 0 ⟨h.val, by have := h.isLt; omega⟩ k) : S1x16x1024.Idx) = m ((c : Thread nD τ).loc main_arg3) (ix3 0 k (Rows.headCol h)) := by
  blk_simp [iblk]
  have e : (win0_5.blk t).view.emb (ix3 0 ⟨h.val, by have := h.isLt; omega⟩ k : S1x16x1024.Idx) = (ix3 0 ⟨h.val, by have := h.isLt; omega⟩ k : S2x16x1024.Idx) := by
    blk_ext [idx t]
  rw [host18, e]
  pointwise [Rows.headCol]

theorem in6 (c : Dev nD) (t : Fin cfg0.N) (j : Fin 256) : iblk m c 6 t ((ix2 0 j) : S1x256.Idx) = m ((c : Thread nD τ).loc main_arg4) (ix2 0 j) := by
  blk_simp [iblk]
  rw [host22]
  pointwise
  all_goals blk_ext [idx t]

theorem in7 (c : Dev nD) (t : Fin cfg0.N) (j : Fin 64) : iblk m c 7 t ((ix2 0 j) : S1x64.Idx) = m ((c : Thread nD τ).loc main_arg5) (ix2 0 j) := by
  blk_simp [iblk]
  rw [host25]
  pointwise
  all_goals blk_ext [idx t]

theorem in8 (c : Dev nD) (t : Fin cfg0.N) (j : Fin 64) : iblk m c 8 t ((ix2 0 j) : S1x64.Idx) = m ((c : Thread nD τ).loc main_arg6) (ix2 0 j) := by
  blk_simp [iblk]
  rw [host28]
  pointwise
  all_goals blk_ext [idx t]

end Cert.Kernel4Ideal.Final

end
-- ==== Proof.Out4.lean ====
/- The blocks that a point of the sparse mixer's projection kernel leaves, read entry by entry. -/
module

public import proofs.«01_k».proof.Proof.Tile4

@[expose] public section

set_option maxRecDepth 16384

noncomputable section

namespace Cert.Kernel4Ideal.Tile

open Cert.Kernel4Ideal Cert.Kernel4Ideal.Gen Idealize.ShloMosaic Idealize.ShloMosaic.TcCoe Idealize.SL.Sem
open Cert.Rows (queryCol latentCol indexCol keyCol latent indexKey query)

theorem zero4 : (![0, 0, 0] : Fin 3 → ℕ) = fun _ => 0 := by funext a; fin_cases a <;> rfl

theorem zero2 : (![0, 0] : Fin 2 → ℕ) = fun _ => 0 := by funext a; fin_cases a <;> rfl

variable (x : Vec Ideal S1x512x1024 .f32) (g : Vec Ideal S1x1024 .f32) (sh sc : Vec Ideal S1x1x1024 .f32)
  (w : Vec Ideal S1x1024x1920 .bf16) (wh : Vec Ideal S1x16x1024 .bf16) (gl : Vec Ideal S1x256 .f32) (gk bk : Vec Ideal S1x64 .f32)

/-- The blocks loaded whole are the blocks. -/
theorem ld_x : View.ld x r0_0 = x := View.ld_unit_zero (S := S1x512x1024) zero4 _ x
theorem ld_g : View.ld g r0_1 = g := View.ld_unit_zero (S := S1x1024) zero2 _ g
theorem ld_s : View.ld sh r0_2 = sh := View.ld_unit_zero (S := S1x1x1024) zero4 _ sh
theorem ld_w : View.ld w r0_3 = w := View.ld_unit_zero (S := S1x1024x1920) zero4 _ w
theorem ld_l : View.ld gl r0_4 = gl := View.ld_unit_zero (S := S1x256) zero2 _ gl
theorem ld_k : View.ld gk r0_9 = gk := View.ld_unit_zero (S := S1x64) zero2 _ gk
theorem ld_h : View.ld wh r0_11 = wh := View.ld_unit_zero (S := S1x16x1024) zero4 _ wh

/-- The queries a point stores. -/
theorem out_queries (r : Fin 512) (j : Fin 1024) :
    out0_9 x g sh sc w wh gl gk bk (ix3 0 r j : S1x512x1024.Idx) = query (entry x g sh sc w r (queryCol j)) := by
  unfold_out out0_9
  rw [ld_x, ld_g, ld_s, ld_s, ld_w, View.canon_unit_zero (S := S1x512x1024) zero4]
  exact queries x g sh sc w r j

/-- The latents a point stores. -/
theorem out_latents (r : Fin 512) (j : Fin 256) :
    out0_10 x g sh sc w wh gl gk bk (ix3 0 r j : S1x512x256.Idx)
      = latent (fun j => entry x g sh sc w r (latentCol j)) (fun j => gl (ix2 0 j)) j := by
  unfold_out out0_10
  rw [ld_x, ld_g, ld_s, ld_s, ld_w, ld_l, View.canon_unit_zero (S := S1x512x256) zero4]
  refine (latents _ _ r j).trans ?_
  rw [normed]
  simp only [pay3_apply]

/-- The two transposed chunks of a block of latents, as one block. -/
def chunks (P : FVec Ideal S512x1920 .f32) (gl : Vec Ideal S1x256 .f32) : Vec Ideal S1x2x256x256 .bf16 := fun y =>
  (k0_pay6 P gl (ix2 ⟨(y 1).val * 256 + (y 3).val, by have h1 : (y 1).val < 2 := (y 1).isLt; have h3 : (y 3).val < 256 := (y 3).isLt; omega⟩ (y 2) : S512x256.Idx) : EReal)

/-- The transposed chunks a point stores. -/
theorem out_transposed (c : Fin 2) (j r : Fin 256) :
    out0_11 x g sh sc w wh gl gk bk (ix4 0 c j r : S1x2x256x256.Idx)
      = latent (fun j => entry x g sh sc w ⟨c.val * 256 + r.val, by have := c.isLt; have := r.isLt; omega⟩ (latentCol j)) (fun j => gl (ix2 0 j)) j := by
  unfold_out out0_11
  rw [ld_x, ld_g, ld_s, ld_s, ld_w, ld_l]
  simp only [← pay3_apply]
  rw [← normed]
  generalize k0_pay3 x g sh sc w = P
  refine View.canon_apply_of_pieces (chunks P gl) _ ?_ (ix4 0 c j r : S1x2x256x256.Idx) (cover0_11 _ _ _)
  intro pc hpc
  rcases List.mem_cons.mp hpc with rfl | hpc
  · intro y
    obtain ⟨z, z', a, b, rfl⟩ : ∃ z z' a b, y = (ix4 z z' a b : S1x1x256x256.Idx) := ⟨y 0, y 1, y 2, y 3, by funext a; match a with | ⟨0, _⟩ => rfl | ⟨1, _⟩ => rfl | ⟨2, _⟩ => rfl | ⟨3, _⟩ => rfl⟩
    have hz : z = 0 := Subsingleton.elim _ _
    have hz' : z' = 0 := Subsingleton.elim _ _
    subst hz; subst hz'
    refine (chunk1 P gl a b).trans (congrArg (k0_pay6 P gl) ?_)
    blk_ext
  rcases List.mem_cons.mp hpc with rfl | hpc
  · intro y
    obtain ⟨z, z', a, b, rfl⟩ : ∃ z z' a b, y = (ix4 z z' a b : S1x1x256x256.Idx) := ⟨y 0, y 1, y 2, y 3, by funext a; match a with | ⟨0, _⟩ => rfl | ⟨1, _⟩ => rfl | ⟨2, _⟩ => rfl | ⟨3, _⟩ => rfl⟩
    have hz : z = 0 := Subsingleton.elim _ _
    have hz' : z' = 0 := Subsingleton.elim _ _
    subst hz; subst hz'
    refine (chunk0 P gl a b).trans (congrArg (k0_pay6 P gl) ?_)
    blk_ext
  nomatch hpc

/-- The indexer's queries a point stores. -/
theorem out_indexQueries (r : Fin 512) (j : Fin 512) :
    out0_12 x g sh sc w wh gl gk bk (ix3 0 r j : S1x512x512.Idx) = entry x g sh sc w r (indexCol j) := by
  unfold_out out0_12
  rw [ld_x, ld_g, ld_s, ld_s, ld_w, View.canon_unit_zero (S := S1x512x512) zero4]
  refine (indexQueries _ r j).trans ?_
  rw [pay3_apply]

/-- The indexer's keys a point stores. -/
theorem out_indexKeys (r : Fin 512) (j : Fin 64) :
    out0_13 x g sh sc w wh gl gk bk (ix3 0 r j : S1x512x64.Idx)
      = indexKey (fun j => entry x g sh sc w r (keyCol j)) (fun j => gk (ix2 0 j)) (fun j => bk (ix2 0 j)) j := by
  unfold_out out0_13
  rw [ld_x, ld_g, ld_s, ld_s, ld_w, ld_k, ld_k, View.canon_unit_zero (S := S1x512x64) zero4]
  refine (indexKeys _ _ _ r j).trans ?_
  simp only [pay3_apply]

/-- The indexer's head weights a point stores. -/
theorem out_heads (h : Fin 8) (r : Fin 512) :
    out0_14 x g sh sc w wh gl gk bk (ix3 0 h r : S1x8x512.Idx) = headEntry x g sh sc wh h r := by
  unfold_out out0_14
  rw [ld_x, ld_g, ld_s, ld_s, ld_h, View.canon_unit_zero (S := S1x8x512) zero4]
  exact heads x g sh sc wh h r

end Cert.Kernel4Ideal.Tile

end
-- ==== Proof.Final4.lean ====
/- The sparse mixer's projection kernel, from its blocks to its results: the six arrays after the run are the reference's. -/
module

public import proofs.«01_k».proof.Proof.In4
public import proofs.«01_k».proof.Proof.Out4
public import Idealize.ShloMosaic.Lib.Pipeline.ValueKit

@[expose] public section

set_option maxRecDepth 16384

noncomputable section

namespace Cert.Kernel4Ideal.Final

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

open Cert.Rows (dot queryCol latentCol indexCol keyCol headCol headWeight)

/-- An entry of point `t`'s projected block is the reference's, for every column but the head weights'. -/
theorem point (c : Dev nD) (t : Fin cfg0.N) (r : Fin 512) (j : Fin 1864) (hj : j.val < 1856) :
    Tile.entry (iblk m c 0 t) (iblk m c 1 t) (iblk m c 2 t) (iblk m c 3 t) (iblk m c 4 t) r j = Cert.Reference4Ideal.Row.entry (m ((c : Thread nD τ).loc main_arg0)) (m ((c : Thread nD τ).loc main_arg1)) (m ((c : Thread nD τ).loc main_arg2)) (m ((c : Thread nD τ).loc main_arg3)) (entry t) (row t r) j := by
  unfold Tile.entry Tile.hrow Cert.Reference4Ideal.Row.entry
  simp only [in0, in1, in2, in3, in4 m c t _ j hj]

/-- A head weight of point `t` is the reference's. -/
theorem head (c : Dev nD) (t : Fin cfg0.N) (h : Fin 8) (r : Fin 512) :
    Tile.headEntry (iblk m c 0 t) (iblk m c 1 t) (iblk m c 2 t) (iblk m c 3 t) (iblk m c 5 t) h r = headWeight (Cert.Reference4Ideal.Row.entry (m ((c : Thread nD τ).loc main_arg0)) (m ((c : Thread nD τ).loc main_arg1)) (m ((c : Thread nD τ).loc main_arg2)) (m ((c : Thread nD τ).loc main_arg3)) (entry t) (row t r) (headCol h)) := by
  unfold Tile.headEntry Tile.hrow Cert.Reference4Ideal.Row.entry
  simp only [in0, in1, in2, in3, in5]

/-- The queries after the run. -/
theorem queries (c : Dev nD) :
    (dats m 0 c).arrAt 9 (cfgs 0).N = Cert.Reference4Ideal.Read.val_main_v84 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  obtain ⟨z, r, j, rfl⟩ : ∃ z r j, y = ix3 z r j := ⟨y 0, y 1, y 2, by funext a; match a with | ⟨0, _⟩ => rfl | ⟨1, _⟩ => rfl | ⟨2, _⟩ => rfl⟩
  have hz : z = 0 := Subsingleton.elim _ _
  subst hz
  have e : ((cfg0.win 9).blk t).view.emb (ix3 0 r j : S1x512x1024.Idx) = ix3 (entry t) (row t r) j := by
    blk_ext [idx t, entry, row]
  rw [e, Tile.out_queries, point m c t r (queryCol j) (by have := j.isLt; simp only [queryCol]; omega)]
  exact (Cert.Reference4Ideal.Row.queries _ _ _ _ _ _ _).symm

/-- The latents after the run. -/
theorem latents (c : Dev nD) :
    (dats m 0 c).arrAt 10 (cfgs 0).N = Cert.Reference4Ideal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [after0_10]
  obtain ⟨z, r, j, rfl⟩ : ∃ z r j, y = ix3 z r j := ⟨y 0, y 1, y 2, by funext a; match a with | ⟨0, _⟩ => rfl | ⟨1, _⟩ => rfl | ⟨2, _⟩ => rfl⟩
  have hz : z = 0 := Subsingleton.elim _ _
  subst hz
  have e : ((cfg0.win 10).blk t).view.emb (ix3 0 r j : S1x512x256.Idx) = ix3 (entry t) (row t r) j := by
    blk_ext [idx t, entry, row]
  rw [e, Tile.out_latents]
  simp only [fun j => point m c t r (latentCol j) (by have := j.isLt; simp only [latentCol]; omega), in6]
  exact (Cert.Reference4Ideal.Row.latents _ _ _ _ _ _ _ _).symm

/-- Chunk `d` of point `t`'s block among the chunks of its batch entry. -/
def chunk (t : Fin cfg0.N) (d : Fin 2) : Fin 8 := ⟨t.val % 4 * 2 + d.val, by have := d.isLt; omega⟩

/-- The transposed latents after the run. -/
theorem transposed (c : Dev nD) :
    (dats m 0 c).arrAt 11 (cfgs 0).N = Cert.Reference4Ideal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t _ y => ?_
  blk_simp
  rw [after0_11]
  obtain ⟨z, d, j, r, rfl⟩ : ∃ z d j r, y = ix4 z d j r := ⟨y 0, y 1, y 2, y 3, by funext a; match a with | ⟨0, _⟩ => rfl | ⟨1, _⟩ => rfl | ⟨2, _⟩ => rfl | ⟨3, _⟩ => rfl⟩
  have hz : z = 0 := Subsingleton.elim _ _
  subst hz
  have e : ((cfg0.win 11).blk t).view.emb (ix4 0 d j r : S1x2x256x256.Idx) = ix4 (entry t) (chunk t d) j r := by
    blk_ext [idx t, entry, chunk]
  have hr : row t ⟨d.val * 256 + r.val, by have := d.isLt; have := r.isLt; omega⟩ = ⟨(chunk t d).val * 256 + r.val, by have := (chunk t d).isLt; have := r.isLt; omega⟩ :=
    Fin.ext (by simp only [row, chunk]; omega)
  rw [e, Tile.out_transposed]
  simp only [fun i => point m c t ⟨d.val * 256 + r.val, by have := d.isLt; have := r.isLt; omega⟩ (latentCol i) (by have := i.isLt; simp only [latentCol]; omega), in6, hr]
  exact (Cert.Reference4Ideal.Row.transposed _ _ _ _ _ _ _ _ _).symm

/-- The indexer's queries after the run. -/
theorem indexQueries (c : Dev nD) :
    (dats m 0 c).arrAt 12 (cfgs 0).N = Cert.Reference4Ideal.Read.val_main_v87 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t _ y => ?_
  blk_simp
  rw [after0_12]
  obtain ⟨z, r, j, rfl⟩ : ∃ z r j, y = ix3 z r j := ⟨y 0, y 1, y 2, by funext a; match a with | ⟨0, _⟩ => rfl | ⟨1, _⟩ => rfl | ⟨2, _⟩ => rfl⟩
  have hz : z = 0 := Subsingleton.elim _ _
  subst hz
  have e : ((cfg0.win 12).blk t).view.emb (ix3 0 r j : S1x512x512.Idx) = ix3 (entry t) (row t r) j := by
    blk_ext [idx t, entry, row]
  rw [e, Tile.out_indexQueries, point m c t r (indexCol j) (by have := j.isLt; simp only [indexCol]; omega)]
  exact (Cert.Reference4Ideal.Row.indexQueries _ _ _ _ _ _ _).symm

/-- The indexer's keys after the run. -/
theorem indexKeys (c : Dev nD) :
    (dats m 0 c).arrAt 13 (cfgs 0).N = Cert.Reference4Ideal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (dats m 0 c).arrAt_eq_of_covers 13 _ (by decide +kernel) fun t _ y => ?_
  blk_simp
  rw [after0_13]
  obtain ⟨z, r, j, rfl⟩ : ∃ z r j, y = ix3 z r j := ⟨y 0, y 1, y 2, by funext a; match a with | ⟨0, _⟩ => rfl | ⟨1, _⟩ => rfl | ⟨2, _⟩ => rfl⟩
  have hz : z = 0 := Subsingleton.elim _ _
  subst hz
  have e : ((cfg0.win 13).blk t).view.emb (ix3 0 r j : S1x512x64.Idx) = ix3 (entry t) (row t r) j := by
    blk_ext [idx t, entry, row]
  rw [e, Tile.out_indexKeys]
  simp only [fun j => point m c t r (keyCol j) (by have := j.isLt; simp only [keyCol]; omega), in7, in8]
  exact (Cert.Reference4Ideal.Row.indexKeys _ _ _ _ _ _ _ _ _).symm

/-- The indexer's head weights after the run. -/
theorem heads (c : Dev nD) :
    (dats m 0 c).arrAt 14 (cfgs 0).N = Cert.Reference4Ideal.Read.val_main_v89 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t _ y => ?_
  blk_simp
  rw [after0_14]
  obtain ⟨z, r, j, rfl⟩ : ∃ z r j, y = ix3 z r j := ⟨y 0, y 1, y 2, by funext a; match a with | ⟨0, _⟩ => rfl | ⟨1, _⟩ => rfl | ⟨2, _⟩ => rfl⟩
  have hz : z = 0 := Subsingleton.elim _ _
  subst hz
  have e : ((cfg0.win 14).blk t).view.emb (ix3 0 r j : S1x8x512.Idx) = ix3 (entry t) r (row t j) := by
    blk_ext [idx t, entry, row]
  rw [e, Tile.out_heads, head]
  exact (Cert.Reference4Ideal.Row.headWeights _ _ _ _ _ _ _).symm

end Cert.Kernel4Ideal.Final

end
-- ==== Proof.Run4.lean ====
/- The sparse mixer's projection kernel run: the six results are the arrays that the grid's points leave, the arguments are kept. -/
module

public import proofs.«01_k».proof.Proof.Gen.Kernel4Ideal.Frame
public import Idealize.ShloMosaic.Lib.Pointwise

@[expose] public section

noncomputable section

namespace Cert.Kernel4Ideal.Final

open Cert.Kernel4Ideal Cert.Kernel4Ideal.Gen Idealize.ShloMosaic Idealize.ShloMosaic.TcCoe Idealize.SL.Sem

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v29_0) = (dats m 0 c).arrAt 9 cfg0.N
      ∧ r.2.mem ((c : Thread nD τ).loc main_v29_1) = (dats m 0 c).arrAt 10 cfg0.N
      ∧ r.2.mem ((c : Thread nD τ).loc main_v29_2) = (dats m 0 c).arrAt 11 cfg0.N
      ∧ r.2.mem ((c : Thread nD τ).loc main_v29_3) = (dats m 0 c).arrAt 12 cfg0.N
      ∧ r.2.mem ((c : Thread nD τ).loc main_v29_4) = (dats m 0 c).arrAt 13 cfg0.N
      ∧ r.2.mem ((c : Thread nD τ).loc main_v29_5) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 9, (h c).1 10, (h c).1 11, (h c).1 12, (h c).1 13, (h c).1 14,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.Kernel4Ideal.Final

end
-- ==== Proof.Value4.lean ====
/- The sparse mixer's projection kernel and its reference end with the same six arrays. -/
module

public import proofs.«01_k».proof.Defs
public import proofs.«01_k».proof.Proof.Final4
public import proofs.«01_k».proof.Proof.Gen.Kernel4Ideal
public import proofs.«01_k».proof.Proof.Gen.Reference4Ideal
public import proofs.«01_k».proof.Proof.Run4
public import proofs.«01_k».proof.Proof.Gen.Reference4Ideal.Run
public import proofs.«01_k».proof.Proof.Gen.Reference4Ideal.Read

@[expose] public section

set_option maxHeartbeats 1000000

noncomputable section

namespace Cert.Proof

open Idealize.ShloMosaic Idealize.SL.Sem

/-- From memories that agree on the arguments, both programs run and their results agree. -/
theorem value4 : Cert.algebraic_Kernel4Ideal_Reference4Ideal := fun m g m' g' _ heq =>
  ⟨fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    Cert.Kernel4Ideal.Final.run m g,
    (θ_run Cert.Reference4Ideal.defs _ _).mono (fun r h c => by
      obtain ⟨h0, h1, h2, h3, h4, h5, h6⟩ := heq c
      refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
      · rw [Cert.Reference4Ideal.Read.val_main_v84_eq]
        refine Eq.trans ?_ (Cert.Kernel4Ideal.Final.queries m c).symm
        rw [h0, h1, h2, h3]
      · rw [Cert.Reference4Ideal.Read.val_main_v85_eq]
        refine Eq.trans ?_ (Cert.Kernel4Ideal.Final.latents m c).symm
        rw [h0, h1, h2, h3, h4]
      · rw [Cert.Reference4Ideal.Read.val_main_v86_eq]
        refine Eq.trans ?_ (Cert.Kernel4Ideal.Final.transposed m c).symm
        rw [h0, h1, h2, h3, h4]
      · rw [Cert.Reference4Ideal.Read.val_main_v87_eq]
        refine Eq.trans ?_ (Cert.Kernel4Ideal.Final.indexQueries m c).symm
        rw [h0, h1, h2, h3]
      · rw [Cert.Reference4Ideal.Read.val_main_v88_eq]
        refine Eq.trans ?_ (Cert.Kernel4Ideal.Final.indexKeys m c).symm
        rw [h0, h1, h2, h3, h5, h6]
      · rw [Cert.Reference4Ideal.Read.val_main_v89_eq]
        refine Eq.trans ?_ (Cert.Kernel4Ideal.Final.heads m c).symm
        rw [h0, h1, h2, h3]) (Cert.Reference4Ideal.Value.run m' g')⟩

end Cert.Proof

end
-- ==== Proof.lean ====
/- The certificate's claims, put together: each is proved in a module of its own and cited here. -/
module

public import proofs.«01_k».proof.Defs
public import proofs.«01_k».proof.Proof.FrameKernel
public import proofs.«01_k».proof.Proof.FrameKernelIdeal
public import proofs.«01_k».proof.Proof.Value1
public import proofs.«01_k».proof.Proof.Value2
public import proofs.«01_k».proof.Proof.Value3
public import proofs.«01_k».proof.Proof.Value4
public import proofs.«01_k».proof.Proof.Gen.Kernel2.Frame
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read

@[expose] public section

noncomputable section

namespace Cert.Proof

open Idealize.ShloMosaic Idealize.SL.Sem

/-- The attention and feed-forward kernel runs, keeps its arguments and leaves every counter at zero. -/
theorem frame1 : Cert.quiescent_Kernel := fun m g _ =>
  (θ_run Cert.Kernel.defs _ _).mono (fun r h => ⟨fun c => Cert.Kernel.Hand.kept m r h.1 c, h.2⟩) (Cert.Kernel.Hand.run m g)

/-- So does its reading over the extended reals. -/
theorem frame1Ideal : Cert.quiescent_KernelIdeal := fun m g _ =>
  (θ_run Cert.KernelIdeal.defs _ _).mono (fun r h => ⟨fun c => Cert.KernelIdeal.Hand.kept m r h.1 c, h.2⟩) (Cert.KernelIdeal.Hand.run m g)

/-- The named constant stands for the number it names. -/
theorem named1 : Cert.preserves_Kernel_KernelIdeal :=
  IdealRules.named_const.statement Cert.KernelIdeal.κ "log2e" .f32 0x3FB8AA3B#32 _ rfl

/-- So does the projection's. -/
theorem named3 : Cert.preserves_Kernel3_Kernel3Ideal :=
  IdealRules.named_const.statement Cert.Kernel3Ideal.κ "scale" .f32 0x3E38AA3B#32 _ rfl

/-- The projection's reference runs and keeps its arguments. -/
theorem frameReference3 : Cert.quiescent_Reference3Ideal := fun m g _ =>
  (θ_run Cert.Reference3Ideal.defs _ _).mono (fun r h => ⟨fun c => (h c).2.2.2, sem_eq_zero_of_no_sems (by decide) r.2⟩) (Cert.Reference3Ideal.Value.run m g)

/-- The sparse mixer's projection's reference runs and keeps its arguments. -/
theorem frameReference4 : Cert.quiescent_Reference4Ideal := fun m g _ =>
  (θ_run Cert.Reference4Ideal.defs _ _).mono (fun r h => ⟨fun c => (h c).2.2.2.2.2.2, sem_eq_zero_of_no_sems (by decide) r.2⟩) (Cert.Reference4Ideal.Value.run m g)

/-- The feed-forward reference runs and keeps its arguments. -/
theorem frameReference2 : Cert.quiescent_Reference2Ideal := fun m g _ =>
  (θ_run Cert.Reference2Ideal.defs _ _).mono (fun r h => ⟨fun c => (h c).2, sem_eq_zero_of_no_sems (by decide) r.2⟩) (Cert.Reference2Ideal.Value.run m g)

/-- The last layer's reference runs and keeps its arguments. -/
theorem frameReference1 : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- The memories the precondition admits are among those the two claims above speak of. -/
theorem frame1Finite [hPre_finite : Cert.Pre_finite.Facts] : Cert.quiescent_KernelIdeal_pre_finite := fun m g _ => frame1Ideal m g trivial

theorem frameReference1Finite [hPre_finite : Cert.Pre_finite.Facts] : Cert.quiescent_ReferenceIdeal_pre_finite := fun m g _ => frameReference1 m g trivial

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.KernelIdeal.Hand.preFacts,
    frame1, frame1Ideal, frame1Finite (hPre_finite := Cert.KernelIdeal.Hand.preFacts), frameReference1,
    frameReference1Finite (hPre_finite := Cert.KernelIdeal.Hand.preFacts),
    fun m g _ => Cert.Kernel2.Gen.frame m g, fun m g _ => Cert.Kernel2Ideal.Gen.frame m g, frameReference2,
    fun m g _ => Cert.Kernel3.Gen.frame m g, fun m g _ => Cert.Kernel3Ideal.Gen.frame m g, frameReference3,
    fun m g _ => Cert.Kernel4.Gen.frame m g, fun m g _ => Cert.Kernel4Ideal.Gen.frame m g, frameReference4,
    named1, value1 (hPre_finite := Cert.KernelIdeal.Hand.preFacts), trivial, value2, named3, value3, trivial, value4⟩

end Cert.Proof

end
